-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_all_finite [hPre_all_finite : Cert.Pre_all_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_all_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_all_finite [hPre_all_finite : Cert.Pre_all_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_all_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_all_finite [hKernel3Ideal : Cert.Kernel3Ideal.Facts] [hPre_all_finite : Cert.Pre_all_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_all_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_all_finite [hReference3Ideal : Cert.Reference3Ideal.Facts] [hPre_all_finite : Cert.Pre_all_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_all_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "mask" .f32 0xF149F2CA#32 ⊥

def algebraic_Kernel3Ideal_Reference3Ideal_pre_all_finite [hKernel3Ideal : Cert.Kernel3Ideal.Facts] [hReference3Ideal : Cert.Reference3Ideal.Facts] [hPre_all_finite : Cert.Pre_all_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_all_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v98) = v0 c
          ∧ r.2.mem ((c.tc : Thread Cert.Reference3Ideal.nD Cert.Reference3Ideal.τ).loc Cert.Reference3Ideal.main_v99) = v1 c
          ∧ r.2.mem ((c.tc : Thread Cert.Reference3Ideal.nD Cert.Reference3Ideal.τ).loc Cert.Reference3Ideal.main_v100) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_v77) = v1 c
          ∧ r.2.mem ((c.tc : Thread Cert.Reference5Ideal.nD Cert.Reference5Ideal.τ).loc Cert.Reference5Ideal.main_v79) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_all_finite : Cert.Pre_all_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_all_finite (hKernel3Ideal := hKernel3Ideal) (hPre_all_finite := hPre_all_finite)
    ∧ quiescent_Reference3Ideal (hReference3Ideal := hReference3Ideal)
    ∧ quiescent_Reference3Ideal_pre_all_finite (hReference3Ideal := hReference3Ideal) (hPre_all_finite := hPre_all_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_all_finite (hKernel3Ideal := hKernel3Ideal) (hReference3Ideal := hReference3Ideal) (hPre_all_finite := hPre_all_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_all_finite.lean ====
abbrev S8448x768 : Shape := ⟨2, ![8448, 768]⟩
abbrev S8448x512 : Shape := ⟨2, ![8448, 512]⟩
abbrev S8448x2048 : Shape := ⟨2, ![8448, 2048]⟩
abbrev S8x12288 : Shape := ⟨2, ![8, 12288]⟩
abbrev S1x2048 : Shape := ⟨2, ![1, 2048]⟩
abbrev S2048x2048 : Shape := ⟨2, ![2048, 2048]⟩
abbrev S2048x128 : Shape := ⟨2, ![2048, 128]⟩
abbrev S_ : Shape := ⟨0, ![]⟩

class Facts : Prop where
  bcast_S_S8448x768 : S_.BroadcastsInDim S8448x768 (![] : Fin 0 → Fin S8448x768.rank)
  reducesTo_S8448x768_S_d0_1 : S8448x768.ReducesTo [0, 1] S_
  h_S_ : 0 < S_.numel
  bcast_S_S8448x512 : S_.BroadcastsInDim S8448x512 (![] : Fin 0 → Fin S8448x512.rank)
  reducesTo_S8448x512_S_d0_1 : S8448x512.ReducesTo [0, 1] S_
  bcast_S_S8448x2048 : S_.BroadcastsInDim S8448x2048 (![] : Fin 0 → Fin S8448x2048.rank)
  reducesTo_S8448x2048_S_d0_1 : S8448x2048.ReducesTo [0, 1] S_
  bcast_S_S8x12288 : S_.BroadcastsInDim S8x12288 (![] : Fin 0 → Fin S8x12288.rank)
  reducesTo_S8x12288_S_d0_1 : S8x12288.ReducesTo [0, 1] S_
  bcast_S_S1x2048 : S_.BroadcastsInDim S1x2048 (![] : Fin 0 → Fin S1x2048.rank)
  reducesTo_S1x2048_S_d0_1 : S1x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x128 : S_.BroadcastsInDim S2048x128 (![] : Fin 0 → Fin S2048x128.rank)
  reducesTo_S2048x128_S_d0_1 : S2048x128.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S8x12288 .f32) (main_arg5 : FVec F S1x2048 .f32) (main_arg6 : FVec F S2048x2048 .bf16) (main_arg7 : FVec F S2048x128 .f32) (main_v3 : IVec S_ 1) (main_v7 : IVec S_ 1) (main_v11 : IVec S_ 1) (main_v15 : IVec S_ 1) : IVec S_ 1 :=
  let main_v16 : FVec F S8x12288 .f32 := Host.absf main_arg4
  let main_cst_6 : FVec F S_ .f32 := constant S_ .f32 0x7F800000#32
  let main_v17 : FVec F S8x12288 .f32 := broadcastInDim S8x12288 ![] bcast_S_S8x12288 main_cst_6
  let main_v18 : IVec S8x12288 1 := cmpf .olt main_v16 main_v17
  let main_c_7 : IVec S_ 1 := constantI S_ 1 1#1
  let main_v19 : IVec S_ 1 := (fun x v => Host.reduce IntOp.andi x v reducesTo_S8x12288_S_d0_1 h_S_) main_v18 main_c_7
  let main_v20 : FVec F S1x2048 .f32 := Host.absf main_arg5
  let main_cst_8 : FVec F S_ .f32 := constant S_ .f32 0x7F800000#32
  let main_v21 : FVec F S1x2048 .f32 := broadcastInDim S1x2048 ![] bcast_S_S1x2048 main_cst_8
  let main_v22 : IVec S1x2048 1 := cmpf .olt main_v20 main_v21
  let main_c_9 : IVec S_ 1 := constantI S_ 1 1#1
  let main_v23 : IVec S_ 1 := (fun x v => Host.reduce IntOp.andi x v reducesTo_S1x2048_S_d0_1 h_S_) main_v22 main_c_9
  let main_v24 : FVec F S2048x2048 .bf16 := Host.absf main_arg6
  let main_cst_10 : FVec F S_ .bf16 := constant S_ .bf16 0x7F80#16
  let main_v25 : FVec F S2048x2048 .bf16 := broadcastInDim S2048x2048 ![] bcast_S_S2048x2048 main_cst_10
  let main_v26 : IVec S2048x2048 1 := cmpf .olt main_v24 main_v25
  let main_c_11 : IVec S_ 1 := constantI S_ 1 1#1
  let main_v27 : IVec S_ 1 := (fun x v => Host.reduce IntOp.andi x v reducesTo_S2048x2048_S_d0_1 h_S_) main_v26 main_c_11
  let main_v28 : FVec F S2048x128 .f32 := Host.absf main_arg7
  let main_cst_12 : FVec F S_ .f32 := constant S_ .f32 0x7F800000#32
  let main_v29 : FVec F S2048x128 .f32 := broadcastInDim S2048x128 ![] bcast_S_S2048x128 main_cst_12
  let main_v30 : IVec S2048x128 1 := cmpf .olt main_v28 main_v29
  let main_c_13 : IVec S_ 1 := constantI S_ 1 1#1
  let main_v31 : IVec S_ 1 := (fun x v => Host.reduce IntOp.andi x v reducesTo_S2048x128_S_d0_1 h_S_) main_v30 main_c_13
  fn_part2 (F := F) main_v3 main_v7 main_v11 main_v15 main_v19 main_v23 main_v27 main_v31

def fn {F : FTy → Type} [FloatOps F] (main_arg0 : FVec F S8448x768 .f32) (main_arg1 : FVec F S8448x768 .f32) (main_arg2 : FVec F S8448x512 .f32) (main_arg3 : FVec F S8448x2048 .f32) (main_arg4 : FVec F S8x12288 .f32) (main_arg5 : FVec F S1x2048 .f32) (main_arg6 : FVec F S2048x2048 .bf16) (main_arg7 : FVec F S2048x128 .f32) : IVec S_ 1 :=
  let main_v0 : FVec F S8448x768 .f32 := Host.absf main_arg0
  let main_cst : FVec F S_ .f32 := constant S_ .f32 0x7F800000#32
  let main_v1 : FVec F S8448x768 .f32 := broadcastInDim S8448x768 ![] bcast_S_S8448x768 main_cst
  let main_v2 : IVec S8448x768 1 := cmpf .olt main_v0 main_v1
  let main_c : IVec S_ 1 := constantI S_ 1 1#1
  let main_v3 : IVec S_ 1 := (fun x v => Host.reduce IntOp.andi x v reducesTo_S8448x768_S_d0_1 h_S_) main_v2 main_c
  let main_v4 : FVec F S8448x768 .f32 := Host.absf main_arg1
  let main_cst_0 : FVec F S_ .f32 := constant S_ .f32 0x7F800000#32
  let main_v5 : FVec F S8448x768 .f32 := broadcastInDim S8448x768 ![] bcast_S_S8448x768 main_cst_0
  let main_v6 : IVec S8448x768 1 := cmpf .olt main_v4 main_v5
  let main_c_1 : IVec S_ 1 := constantI S_ 1 1#1
  let main_v7 : IVec S_ 1 := (fun x v => Host.reduce IntOp.andi x v reducesTo_S8448x768_S_d0_1 h_S_) main_v6 main_c_1
  let main_v8 : FVec F S8448x512 .f32 := Host.absf main_arg2
  let main_cst_2 : FVec F S_ .f32 := constant S_ .f32 0x7F800000#32
  let main_v9 : FVec F S8448x512 .f32 := broadcastInDim S8448x512 ![] bcast_S_S8448x512 main_cst_2
  let main_v10 : IVec S8448x512 1 := cmpf .olt main_v8 main_v9
  let main_c_3 : IVec S_ 1 := constantI S_ 1 1#1
  let main_v11 : IVec S_ 1 := (fun x v => Host.reduce IntOp.andi x v reducesTo_S8448x512_S_d0_1 h_S_) main_v10 main_c_3
  let main_v12 : FVec F S8448x2048 .f32 := Host.absf main_arg3
  let main_cst_4 : FVec F S_ .f32 := constant S_ .f32 0x7F800000#32
  let main_v13 : FVec F S8448x2048 .f32 := broadcastInDim S8448x2048 ![] bcast_S_S8448x2048 main_cst_4
  let main_v14 : IVec S8448x2048 1 := cmpf .olt main_v12 main_v13
  let main_c_5 : IVec S_ 1 := constantI S_ 1 1#1
  let main_v15 : IVec S_ 1 := (fun x v => Host.reduce IntOp.andi x v reducesTo_S8448x2048_S_d0_1 h_S_) main_v14 main_c_5
  fn_part1 (F := F) main_arg4 main_arg5 main_arg6 main_arg7 main_v3 main_v7 main_v11 main_v15
-- ==== Pre_finite.lean ====
abbrev S6x8448x256 : Shape := ⟨3, ![6, 8448, 256]⟩
abbrev S6x8448x128 : Shape := ⟨3, ![6, 8448, 128]⟩
abbrev S_ : Shape := ⟨0, ![]⟩

class Facts : Prop where
  bcast_S_S6x8448x256 : S_.BroadcastsInDim S6x8448x256 (![] : Fin 0 → Fin S6x8448x256.rank)
  reducesTo_S6x8448x256_S_d0_1_2 : S6x8448x256.ReducesTo [0, 1, 2] S_
  h_S_ : 0 < S_.numel

variable [Facts]

def fn {F : FTy → Type} [FloatOps F] (main_arg0 : FVec F S6x8448x256 .bf16) (main_arg1 : FVec F S6x8448x256 .bf16) (main_arg2 : FVec F S6x8448x128 .bf16) : IVec S_ 1 :=
  let main_v0 : FVec F S6x8448x256 .bf16 := Host.absf main_arg0
  let main_cst : FVec F S_ .bf16 := constant S_ .bf16 0x7F80#16
  let main_v1 : FVec F S6x8448x256 .bf16 := broadcastInDim S6x8448x256 ![] bcast_S_S6x8448x256 main_cst
  let main_v2 : IVec S6x8448x256 1 := cmpf .olt main_v0 main_v1
  let main_c : IVec S_ 1 := constantI S_ 1 1#1
  let main_v3 : IVec S_ 1 := (fun x v => Host.reduce IntOp.andi x v reducesTo_S6x8448x256_S_d0_1_2 h_S_) main_v2 main_c
  let main_v4 : FVec F S6x8448x256 .bf16 := Host.absf main_arg1
  let main_cst_0 : FVec F S_ .bf16 := constant S_ .bf16 0x7F80#16
  let main_v5 : FVec F S6x8448x256 .bf16 := broadcastInDim S6x8448x256 ![] bcast_S_S6x8448x256 main_cst_0
  let main_v6 : IVec S6x8448x256 1 := cmpf .olt main_v4 main_v5
  let main_c_1 : IVec S_ 1 := constantI S_ 1 1#1
  let main_v7 : IVec S_ 1 := (fun x v => Host.reduce IntOp.andi x v reducesTo_S6x8448x256_S_d0_1_2 h_S_) main_v6 main_c_1
  let main_v8 : IVec S_ 1 := andi main_v3 main_v7
  main_v8
-- ==== Kernel.lean ====
abbrev S6x8448x256 : Shape := ⟨3, ![6, 8448, 256]⟩
abbrev S6x8448x128 : Shape := ⟨3, ![6, 8448, 128]⟩
abbrev S_ : Shape := ⟨0, ![]⟩
abbrev S8192x768 : Shape := ⟨2, ![8192, 768]⟩
abbrev S1x1024x256 : Shape := ⟨3, ![1, 1024, 256]⟩
abbrev S1x8448x256 : Shape := ⟨3, ![1, 8448, 256]⟩
abbrev S1024x128 : Shape := ⟨2, ![1024, 128]⟩
abbrev S2x1024x512 : Shape := ⟨3, ![2, 1024, 512]⟩
abbrev S1024x256 : Shape := ⟨2, ![1024, 256]⟩
abbrev S1x512x256 : Shape := ⟨3, ![1, 512, 256]⟩
abbrev S512x256 : Shape := ⟨2, ![512, 256]⟩
abbrev S1024x512 : Shape := ⟨2, ![1024, 512]⟩
abbrev S1x1024x512 : Shape := ⟨3, ![1, 1024, 512]⟩
abbrev S1024x1 : Shape := ⟨2, ![1024, 1]⟩
abbrev S1024 : Shape := ⟨1, ![1024]⟩
abbrev S1x256x256 : Shape := ⟨3, ![1, 256, 256]⟩
abbrev S256x256 : Shape := ⟨2, ![256, 256]⟩

abbrev nBuf : Space → Nat
  | .hbm => 7
  | .vmem => 9
  | .smem => 0
  | _ => 0

abbrev bufTy : (tb : Table) → Fin (tcTables nBuf tb) → BufTy
  | .hbm, ⟨0, _⟩ => ⟨S6x8448x256, .bf16⟩
  | .hbm, ⟨1, _⟩ => ⟨S6x8448x256, .bf16⟩
  | .hbm, ⟨2, _⟩ => ⟨S6x8448x128, .bf16⟩
  | .hbm, ⟨3, _⟩ => ⟨S_, .bf16⟩
  | .hbm, ⟨4, _⟩ => ⟨S6x8448x128, .bf16⟩
  | .hbm, ⟨5, _⟩ => ⟨S6x8448x256, .bf16⟩
  | .hbm, ⟨6, _⟩ => ⟨S8192x768, .f32⟩
  | .local _ .vmem, ⟨0, _⟩ => ⟨S1x1024x256, .bf16⟩
  | .local _ .vmem, ⟨1, _⟩ => ⟨S1x1024x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x8448x256, .bf16⟩
  | .local _ .vmem, ⟨5, _⟩ => ⟨S1x8448x256, .bf16⟩
  | .local _ .vmem, ⟨6, _⟩ => ⟨S1024x128, .f32⟩
  | .local _ .vmem, ⟨7, _⟩ => ⟨S1024x128, .f32⟩
  | .local _ .vmem, ⟨8, _⟩ => ⟨S2x1024x512, .f32⟩
  | _, _ => ⟨S6x8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

@[reducible] def k0_t1_loop : Scf.Loop 32 :=
  let c0_i32 : BitVec 32 := 0#32
  let c7_i32 : BitVec 32 := 7#32
  let v10 : BitVec 32 := Scalar.addi c0_i32 c7_i32
  let c1_i32 : BitVec 32 := 1#32
  ⟨c0_i32, v10, c1_i32⟩
def k0_mult1 (k0_t1 : Fin k0_t1_loop.trips) : BitVec 32 :=
  let c2_i32 : BitVec 32 := 2#32
  let c0_i32 : BitVec 32 := 0#32
  let c1_i32 : BitVec 32 := 1#32
  let arg7 : BitVec 32 := Scf.iv c0_i32 c1_i32 k0_t1
  let v75 : BitVec 32 := Scalar.muli c2_i32 arg7
  let c1_i32_41 : BitVec 32 := 1#32
  let v76 : BitVec 32 := Scalar.addi v75 c1_i32_41
  let c512_i32 : BitVec 32 := 512#32
  let v77 : BitVec 32 := Scalar.muli v76 c512_i32
  v77
def k0_off1 (k0_t1 : Fin k0_t1_loop.trips) (c1_i32_41 : BitVec 32) : Fin 3 → Nat :=
  let c0_42 : Index := 0#32
  let c2_i32 : BitVec 32 := 2#32
  let c0_i32 : BitVec 32 := 0#32
  let c1_i32 : BitVec 32 := 1#32
  let arg7 : BitVec 32 := Scf.iv c0_i32 c1_i32 k0_t1
  let v75 : BitVec 32 := Scalar.muli c2_i32 arg7
  let v76 : BitVec 32 := Scalar.addi v75 c1_i32_41
  let c512_i32 : BitVec 32 := 512#32
  let v77 : BitVec 32 := Scalar.muli v76 c512_i32
  let v78 : BitVec 32 := v77
  let v79 : Index := Scalar.indexCast v78
  let c0_43 : Index := 0#32
  ![0, v79.toNat, 0]
def k0_mult2 (k0_t1 : Fin k0_t1_loop.trips) : BitVec 32 :=
  let c2_i32 : BitVec 32 := 2#32
  let c0_i32 : BitVec 32 := 0#32
  let c1_i32 : BitVec 32 := 1#32
  let arg7 : BitVec 32 := Scf.iv c0_i32 c1_i32 k0_t1
  let v75 : BitVec 32 := Scalar.muli c2_i32 arg7
  let c512_i32_51 : BitVec 32 := 512#32
  let v88 : BitVec 32 := Scalar.muli v75 c512_i32_51
  v88
def k0_off2 (k0_t1 : Fin k0_t1_loop.trips) : Fin 3 → Nat :=
  let c0_52 : Index := 0#32
  let c2_i32 : BitVec 32 := 2#32
  let c0_i32 : BitVec 32 := 0#32
  let c1_i32 : BitVec 32 := 1#32
  let arg7 : BitVec 32 := Scf.iv c0_i32 c1_i32 k0_t1
  let v75 : BitVec 32 := Scalar.muli c2_i32 arg7
  let c512_i32_51 : BitVec 32 := 512#32
  let v88 : BitVec 32 := Scalar.muli v75 c512_i32_51
  let v89 : BitVec 32 := v88
  let v90 : Index := Scalar.indexCast v89
  let c0_53 : Index := 0#32
  ![0, v90.toNat, 0]
def k0_mult3 (k0_t1 : Fin k0_t1_loop.trips) : BitVec 32 :=
  let c2_i32 : BitVec 32 := 2#32
  let c0_i32 : BitVec 32 := 0#32
  let c1_i32 : BitVec 32 := 1#32
  let arg7 : BitVec 32 := Scf.iv c0_i32 c1_i32 k0_t1
  let v75 : BitVec 32 := Scalar.muli c2_i32 arg7
  let c2_i32_56 : BitVec 32 := 2#32
  let v106 : BitVec 32 := Scalar.addi v75 c2_i32_56
  let c512_i32_57 : BitVec 32 := 512#32
  let v107 : BitVec 32 := Scalar.muli v106 c512_i32_57
  v107
def k0_mult4 (k0_t1 : Fin k0_t1_loop.trips) : BitVec 32 :=
  let c2_i32 : BitVec 32 := 2#32
  let c0_i32 : BitVec 32 := 0#32
  let c1_i32 : BitVec 32 := 1#32
  let arg7 : BitVec 32 := Scf.iv c0_i32 c1_i32 k0_t1
  let v75 : BitVec 32 := Scalar.muli c2_i32 arg7
  let c1_i32_67 : BitVec 32 := 1#32
  let v118 : BitVec 32 := Scalar.addi v75 c1_i32_67
  let c512_i32_68 : BitVec 32 := 512#32
  let v119 : BitVec 32 := Scalar.muli v118 c512_i32_68
  v119
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S6x8448x256 : Shape := ⟨3, ![6, 8448, 256]⟩
abbrev S6x8448x128 : Shape := ⟨3, ![6, 8448, 128]⟩
abbrev S6x8192x256 : Shape := ⟨3, ![6, 8192, 256]⟩
abbrev S6x8192x8448 : Shape := ⟨3, ![6, 8192, 8448]⟩
abbrev S_ : Shape := ⟨0, ![]⟩
abbrev S6x8192 : Shape := ⟨2, ![6, 8192]⟩
abbrev S6x8192x1 : Shape := ⟨3, ![6, 8192, 1]⟩
abbrev S6x128x8192 : Shape := ⟨3, ![6, 128, 8192]⟩
abbrev S8192x6x128 : Shape := ⟨3, ![8192, 6, 128]⟩
abbrev S8192x768 : Shape := ⟨2, ![8192, 768]⟩

abbrev nBuf : Space → Nat
  | .hbm => 25
  | .vmem => 0
  | .smem => 0
  | _ => 0

abbrev bufTy : (tb : Table) → Fin (tcTables nBuf tb) → BufTy
  | .hbm, ⟨0, _⟩ => ⟨S6x8448x256, .bf16⟩
  | .hbm, ⟨1, _⟩ => ⟨S6x8448x256, .bf16⟩
  | .hbm, ⟨2, _⟩ => ⟨S6x8448x128, .bf16⟩
  | .hbm, ⟨3, _⟩ => ⟨S6x8192x256, .bf16⟩
  | .hbm, ⟨4, _⟩ => ⟨S6x8192x256, .f32⟩
  | .hbm, ⟨5, _⟩ => ⟨S6x8448x256, .f32⟩
  | .hbm, ⟨6, _⟩ => ⟨S6x8448x128, .f32⟩
  | .hbm, ⟨7, _⟩ => ⟨S6x8192x8448, .f32⟩
  | .hbm, ⟨8, _⟩ => ⟨S_, .f32⟩
  | .hbm, ⟨9, _⟩ => ⟨S6x8192, .f32⟩
  | .hbm, ⟨10, _⟩ => ⟨S_, .f32⟩
  | .hbm, ⟨11, _⟩ => ⟨S6x8192, .f32⟩
  | .hbm, ⟨12, _⟩ => ⟨S6x8192, .f32⟩
  | .hbm, ⟨13, _⟩ => ⟨S6x8192x1, .f32⟩
  | .hbm, ⟨14, _⟩ => ⟨S6x8192x8448, .f32⟩
  | .hbm, ⟨15, _⟩ => ⟨S6x8192x8448, .f32⟩
  | .hbm, ⟨16, _⟩ => ⟨S6x8192x8448, .f32⟩
  | .hbm, ⟨17, _⟩ => ⟨S_, .f32⟩
  | .hbm, ⟨18, _⟩ => ⟨S6x8192, .f32⟩
  | .hbm, ⟨19, _⟩ => ⟨S6x8192x1, .f32⟩
  | .hbm, ⟨20, _⟩ => ⟨S6x8192x8448, .f32⟩
  | .hbm, ⟨21, _⟩ => ⟨S6x8192x8448, .f32⟩
  | .hbm, ⟨22, _⟩ => ⟨S6x128x8192, .f32⟩
  | .hbm, ⟨23, _⟩ => ⟨S8192x6x128, .f32⟩
  | .hbm, ⟨24, _⟩ => ⟨S8192x768, .f32⟩
  | _, _ => ⟨S6x8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel2.lean ====
abbrev S8448x2048 : Shape := ⟨2, ![8448, 2048]⟩
abbrev S8x12288 : Shape := ⟨2, ![8, 12288]⟩
abbrev S1x2048 : Shape := ⟨2, ![1, 2048]⟩
abbrev S2048x4608 : Shape := ⟨2, ![2048, 4608]⟩
abbrev S8448x4608 : Shape := ⟨2, ![8448, 4608]⟩
abbrev S768x2048 : Shape := ⟨2, ![768, 2048]⟩
abbrev S2048x768 : Shape := ⟨2, ![2048, 768]⟩
abbrev S768x768 : Shape := ⟨2, ![768, 768]⟩
abbrev S768 : Shape := ⟨1, ![768]⟩
abbrev S768x1 : Shape := ⟨2, ![768, 1]⟩

abbrev nBuf : Space → Nat
  | .hbm => 5
  | .vmem => 9
  | .smem => 0
  | _ => 0

abbrev bufTy : (tb : Table) → Fin (tcTables nBuf tb) → BufTy
  | .hbm, ⟨0, _⟩ => ⟨S8448x2048, .f32⟩
  | .hbm, ⟨1, _⟩ => ⟨S8x12288, .f32⟩
  | .hbm, ⟨2, _⟩ => ⟨S1x2048, .f32⟩
  | .hbm, ⟨3, _⟩ => ⟨S2048x4608, .bf16⟩
  | .hbm, ⟨4, _⟩ => ⟨S8448x4608, .f32⟩
  | .local _ .vmem, ⟨0, _⟩ => ⟨S768x2048, .f32⟩
  | .local _ .vmem, ⟨1, _⟩ => ⟨S768x2048, .f32⟩
  | .local _ .vmem, ⟨2, _⟩ => ⟨S8x12288, .f32⟩
  | .local _ .vmem, ⟨3, _⟩ => ⟨S1x2048, .f32⟩
  | .local _ .vmem, ⟨4, _⟩ => ⟨S2048x768, .bf16⟩
  | .local _ .vmem, ⟨5, _⟩ => ⟨S2048x768, .bf16⟩
  | .local _ .vmem, ⟨6, _⟩ => ⟨S768x768, .f32⟩
  | .local _ .vmem, ⟨7, _⟩ => ⟨S768x768, .f32⟩
  | .local _ .vmem, ⟨8, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![11, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8448x2048 : Shape := ⟨2, ![8448, 2048]⟩
abbrev S8x12288 : Shape := ⟨2, ![8, 12288]⟩
abbrev S1x2048 : Shape := ⟨2, ![1, 2048]⟩
abbrev S2048x4608 : Shape := ⟨2, ![2048, 4608]⟩
abbrev S8192x2048 : Shape := ⟨2, ![8192, 2048]⟩
abbrev S1x12288 : Shape := ⟨2, ![1, 12288]⟩
abbrev S12288 : Shape := ⟨1, ![12288]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8192x4608 : Shape := ⟨2, ![8192, 4608]⟩
abbrev S256x2048 : Shape := ⟨2, ![256, 2048]⟩
abbrev S256 : Shape := ⟨1, ![256]⟩
abbrev S256x1 : Shape := ⟨2, ![256, 1]⟩
abbrev S256x4608 : Shape := ⟨2, ![256, 4608]⟩
abbrev S8448x4608 : Shape := ⟨2, ![8448, 4608]⟩

abbrev nBuf : Space → Nat
  | .hbm => 70
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8x12288, .f32⟩
  | .hbm, ⟨2, _⟩ => ⟨S1x2048, .f32⟩
  | .hbm, ⟨3, _⟩ => ⟨S2048x4608, .bf16⟩
  | .hbm, ⟨4, _⟩ => ⟨S2048x4608, .f32⟩
  | .hbm, ⟨5, _⟩ => ⟨S8192x2048, .f32⟩
  | .hbm, ⟨6, _⟩ => ⟨S1x12288, .f32⟩
  | .hbm, ⟨7, _⟩ => ⟨S12288, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x4608, .f32⟩
  | .hbm, ⟨37, _⟩ => ⟨S256x2048, .f32⟩
  | .hbm, ⟨38, _⟩ => ⟨S1x12288, .f32⟩
  | .hbm, ⟨39, _⟩ => ⟨S12288, .f32⟩
  | .hbm, ⟨40, _⟩ => ⟨S256x2048, .f32⟩
  | .hbm, ⟨41, _⟩ => ⟨S_, .f32⟩
  | .hbm, ⟨42, _⟩ => ⟨S256, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S_, .f32⟩
  | .hbm, ⟨48, _⟩ => ⟨S256x1, .f32⟩
  | .hbm, ⟨49, _⟩ => ⟨S256x1, .f32⟩
  | .hbm, ⟨50, _⟩ => ⟨S256x1, .f32⟩
  | .hbm, ⟨51, _⟩ => ⟨S256x2048, .f32⟩
  | .hbm, ⟨52, _⟩ => ⟨S256x2048, .f32⟩
  | .hbm, ⟨53, _⟩ => ⟨S2048, .f32⟩
  | .hbm, ⟨54, _⟩ => ⟨S1x2048, .f32⟩
  | .hbm, ⟨55, _⟩ => ⟨S256x2048, .f32⟩
  | .hbm, ⟨56, _⟩ => ⟨S256x2048, .f32⟩
  | .hbm, ⟨57, _⟩ => ⟨S2048, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S1x2048, .f32⟩
  | .hbm, ⟨62, _⟩ => ⟨S256x2048, .f32⟩
  | .hbm, ⟨63, _⟩ => ⟨S256x2048, .f32⟩
  | .hbm, ⟨64, _⟩ => ⟨S2048, .f32⟩
  | .hbm, ⟨65, _⟩ => ⟨S1x2048, .f32⟩
  | .hbm, ⟨66, _⟩ => ⟨S256x2048, .f32⟩
  | .hbm, ⟨67, _⟩ => ⟨S256x2048, .f32⟩
  | .hbm, ⟨68, _⟩ => ⟨S256x4608, .f32⟩
  | .hbm, ⟨69, _⟩ => ⟨S8448x4608, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== Kernel3.lean ====
abbrev S8448x768 : Shape := ⟨2, ![8448, 768]⟩
abbrev S8448x512 : Shape := ⟨2, ![8448, 512]⟩
abbrev S8448x2048 : Shape := ⟨2, ![8448, 2048]⟩
abbrev S8x12288 : Shape := ⟨2, ![8, 12288]⟩
abbrev S1x2048 : Shape := ⟨2, ![1, 2048]⟩
abbrev S2048x2048 : Shape := ⟨2, ![2048, 2048]⟩
abbrev S2048x128 : Shape := ⟨2, ![2048, 128]⟩
abbrev S8448x128 : Shape := ⟨2, ![8448, 128]⟩
abbrev S384x768 : Shape := ⟨2, ![384, 768]⟩
abbrev S384x512 : Shape := ⟨2, ![384, 512]⟩
abbrev S384x2048 : Shape := ⟨2, ![384, 2048]⟩
abbrev S384x128 : Shape := ⟨2, ![384, 128]⟩
abbrev S768x2048 : Shape := ⟨2, ![768, 2048]⟩
abbrev S512x2048 : Shape := ⟨2, ![512, 2048]⟩
abbrev S384x1 : Shape := ⟨2, ![384, 1]⟩
abbrev S384 : Shape := ⟨1, ![384]⟩

abbrev nBuf : Space → Nat
  | .hbm => 11
  | .vmem => 18
  | .smem => 0
  | _ => 0

abbrev bufTy : (tb : Table) → Fin (tcTables nBuf tb) → BufTy
  | .hbm, ⟨0, _⟩ => ⟨S8448x768, .f32⟩
  | .hbm, ⟨1, _⟩ => ⟨S8448x768, .f32⟩
  | .hbm, ⟨2, _⟩ => ⟨S8448x512, .f32⟩
  | .hbm, ⟨3, _⟩ => ⟨S8448x2048, .f32⟩
  | .hbm, ⟨4, _⟩ => ⟨S8x12288, .f32⟩
  | .hbm, ⟨5, _⟩ => ⟨S1x2048, .f32⟩
  | .hbm, ⟨6, _⟩ => ⟨S2048x2048, .bf16⟩
  | .hbm, ⟨7, _⟩ => ⟨S2048x128, .f32⟩
  | .hbm, ⟨8, _⟩ => ⟨S8448x2048, .f32⟩
  | .hbm, ⟨9, _⟩ => ⟨S8448x2048, .f32⟩
  | .hbm, ⟨10, _⟩ => ⟨S8448x128, .f32⟩
  | .local _ .vmem, ⟨0, _⟩ => ⟨S384x768, .f32⟩
  | .local _ .vmem, ⟨1, _⟩ => ⟨S384x768, .f32⟩
  | .local _ .vmem, ⟨2, _⟩ => ⟨S384x768, .f32⟩
  | .local _ .vmem, ⟨3, _⟩ => ⟨S384x768, .f32⟩
  | .local _ .vmem, ⟨4, _⟩ => ⟨S384x512, .f32⟩
  | .local _ .vmem, ⟨5, _⟩ => ⟨S384x512, .f32⟩
  | .local _ .vmem, ⟨6, _⟩ => ⟨S384x2048, .f32⟩
  | .local _ .vmem, ⟨7, _⟩ => ⟨S384x2048, .f32⟩
  | .local _ .vmem, ⟨8, _⟩ => ⟨S8x12288, .f32⟩
  | .local _ .vmem, ⟨9, _⟩ => ⟨S1x2048, .f32⟩
  | .local _ .vmem, ⟨10, _⟩ => ⟨S2048x2048, .bf16⟩
  | .local _ .vmem, ⟨11, _⟩ => ⟨S2048x128, .f32⟩
  | .local _ .vmem, ⟨12, _⟩ => ⟨S384x2048, .f32⟩
  | .local _ .vmem, ⟨13, _⟩ => ⟨S384x2048, .f32⟩
  | .local _ .vmem, ⟨14, _⟩ => ⟨S384x2048, .f32⟩
  | .local _ .vmem, ⟨15, _⟩ => ⟨S384x2048, .f32⟩
  | .local _ .vmem, ⟨16, _⟩ => ⟨S384x128, .f32⟩
  | .local _ .vmem, ⟨17, _⟩ => ⟨S384x128, .f32⟩
  | _, _ => ⟨S8448x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel3Ideal.lean ====
variable {F : FTy → Type} [FloatOps F] [Named F]
def κ : String → Option EReal := fun
  | "mask" => some ⊥
  | _ => none
-- ==== Reference3Ideal.lean ====
abbrev S8448x768 : Shape := ⟨2, ![8448, 768]⟩
abbrev S8448x512 : Shape := ⟨2, ![8448, 512]⟩
abbrev S8448x2048 : Shape := ⟨2, ![8448, 2048]⟩
abbrev S8x12288 : Shape := ⟨2, ![8, 12288]⟩
abbrev S1x2048 : Shape := ⟨2, ![1, 2048]⟩
abbrev S2048x2048 : Shape := ⟨2, ![2048, 2048]⟩
abbrev S2048x128 : Shape := ⟨2, ![2048, 128]⟩
abbrev S8192x2048 : Shape := ⟨2, ![8192, 2048]⟩
abbrev S1x12288 : Shape := ⟨2, ![1, 12288]⟩
abbrev S12288 : Shape := ⟨1, ![12288]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x16 : Shape := ⟨2, ![2048, 16]⟩
abbrev S8192x16 : Shape := ⟨2, ![8192, 16]⟩
abbrev S8192x128 : Shape := ⟨2, ![8192, 128]⟩
abbrev S256x2048 : Shape := ⟨2, ![256, 2048]⟩
abbrev S256 : Shape := ⟨1, ![256]⟩
abbrev S256x1 : Shape := ⟨2, ![256, 1]⟩
abbrev S256x16 : Shape := ⟨2, ![256, 16]⟩
abbrev S256x128 : Shape := ⟨2, ![256, 128]⟩
abbrev S8448x128 : Shape := ⟨2, ![8448, 128]⟩

abbrev nBuf : Space → Nat
  | .hbm => 127
  | .vmem => 0
  | .smem => 0
  | _ => 0

abbrev bufTy : (tb : Table) → Fin (tcTables nBuf tb) → BufTy
  | .hbm, ⟨0, _⟩ => ⟨S8448x768, .f32⟩
  | .hbm, ⟨1, _⟩ => ⟨S8448x768, .f32⟩
  | .hbm, ⟨2, _⟩ => ⟨S8448x512, .f32⟩
  | .hbm, ⟨3, _⟩ => ⟨S8448x2048, .f32⟩
  | .hbm, ⟨4, _⟩ => ⟨S8x12288, .f32⟩
  | .hbm, ⟨5, _⟩ => ⟨S1x2048, .f32⟩
  | .hbm, ⟨6, _⟩ => ⟨S2048x2048, .bf16⟩
  | .hbm, ⟨7, _⟩ => ⟨S2048x128, .f32⟩
  | .hbm, ⟨8, _⟩ => ⟨S2048x2048, .f32⟩
  | .hbm, ⟨9, _⟩ => ⟨S8448x2048, .f32⟩
  | .hbm, ⟨10, _⟩ => ⟨S8192x2048, .f32⟩
  | .hbm, ⟨11, _⟩ => ⟨S8192x2048, .f32⟩
  | .hbm, ⟨12, _⟩ => ⟨S1x12288, .f32⟩
  | .hbm, ⟨13, _⟩ => ⟨S12288, .f32⟩
  | .hbm, ⟨14, _⟩ => ⟨S2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S2048x16, .f32⟩
  | .hbm, ⟨49, _⟩ => ⟨S8192x16, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192x1, .f32⟩
  | .hbm, ⟨56, _⟩ => ⟨S8192x16, .f32⟩
  | .hbm, ⟨57, _⟩ => ⟨S8192x16, .f32⟩
  | .hbm, ⟨58, _⟩ => ⟨S8192x16, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x16, .f32⟩
  | .hbm, ⟨63, _⟩ => ⟨S8192x16, .f32⟩
  | .hbm, ⟨64, _⟩ => ⟨S_, .i32⟩
  | .hbm, ⟨65, _⟩ => ⟨S_, .f32⟩
  | .hbm, ⟨66, _⟩ => ⟨S8192x128, .f32⟩
  | .hbm, ⟨67, _⟩ => ⟨S256x2048, .f32⟩
  | .hbm, ⟨68, _⟩ => ⟨S256x2048, .f32⟩
  | .hbm, ⟨69, _⟩ => ⟨S1x12288, .f32⟩
  | .hbm, ⟨70, _⟩ => ⟨S12288, .f32⟩
  | .hbm, ⟨71, _⟩ => ⟨S2048, .f32⟩
  | .hbm, ⟨72, _⟩ => ⟨S256x2048, .f32⟩
  | .hbm, ⟨73, _⟩ => ⟨S1x2048, .f32⟩
  | .hbm, ⟨74, _⟩ => ⟨S256x2048, .f32⟩
  | .hbm, ⟨75, _⟩ => ⟨S256x2048, .f32⟩
  | .hbm, ⟨76, _⟩ => ⟨S256x2048, .f32⟩
  | .hbm, ⟨77, _⟩ => ⟨S256x2048, .f32⟩
  | .hbm, ⟨78, _⟩ => ⟨S_, .f32⟩
  | .hbm, ⟨79, _⟩ => ⟨S256, .f32⟩
  | .hbm, ⟨80, _⟩ => ⟨S256x1, .f32⟩
  | .hbm, ⟨81, _⟩ => ⟨S_, .f32⟩
  | .hbm, ⟨82, _⟩ => ⟨S256x1, .f32⟩
  | .hbm, ⟨83, _⟩ => ⟨S256x1, .f32⟩
  | .hbm, ⟨84, _⟩ => ⟨S_, .f32⟩
  | .hbm, ⟨85, _⟩ => ⟨S256x1, .f32⟩
  | .hbm, ⟨86, _⟩ => ⟨S256x1, .f32⟩
  | .hbm, ⟨87, _⟩ => ⟨S256x1, .f32⟩
  | .hbm, ⟨88, _⟩ => ⟨S256x2048, .f32⟩
  | .hbm, ⟨89, _⟩ => ⟨S256x2048, .f32⟩
  | .hbm, ⟨90, _⟩ => ⟨S2048, .f32⟩
  | .hbm, ⟨91, _⟩ => ⟨S1x2048, .f32⟩
  | .hbm, ⟨92, _⟩ => ⟨S256x2048, .f32⟩
  | .hbm, ⟨93, _⟩ => ⟨S256x2048, .f32⟩
  | .hbm, ⟨94, _⟩ => ⟨S2048, .f32⟩
  | .hbm, ⟨95, _⟩ => ⟨S_, .f32⟩
  | .hbm, ⟨96, _⟩ => ⟨S2048, .f32⟩
  | .hbm, ⟨97, _⟩ => ⟨S2048, .f32⟩
  | .hbm, ⟨98, _⟩ => ⟨S1x2048, .f32⟩
  | .hbm, ⟨99, _⟩ => ⟨S256x2048, .f32⟩
  | .hbm, ⟨100, _⟩ => ⟨S256x2048, .f32⟩
  | .hbm, ⟨101, _⟩ => ⟨S2048, .f32⟩
  | .hbm, ⟨102, _⟩ => ⟨S1x2048, .f32⟩
  | .hbm, ⟨103, _⟩ => ⟨S256x2048, .f32⟩
  | .hbm, ⟨104, _⟩ => ⟨S256x2048, .f32⟩
  | .hbm, ⟨105, _⟩ => ⟨S2048x16, .f32⟩
  | .hbm, ⟨106, _⟩ => ⟨S256x16, .f32⟩
  | .hbm, ⟨107, _⟩ => ⟨S_, .f32⟩
  | .hbm, ⟨108, _⟩ => ⟨S256, .f32⟩
  | .hbm, ⟨109, _⟩ => ⟨S_, .f32⟩
  | .hbm, ⟨110, _⟩ => ⟨S256, .f32⟩
  | .hbm, ⟨111, _⟩ => ⟨S256, .f32⟩
  | .hbm, ⟨112, _⟩ => ⟨S256x1, .f32⟩
  | .hbm, ⟨113, _⟩ => ⟨S256x16, .f32⟩
  | .hbm, ⟨114, _⟩ => ⟨S256x16, .f32⟩
  | .hbm, ⟨115, _⟩ => ⟨S256x16, .f32⟩
  | .hbm, ⟨116, _⟩ => ⟨S_, .f32⟩
  | .hbm, ⟨117, _⟩ => ⟨S256, .f32⟩
  | .hbm, ⟨118, _⟩ => ⟨S256x1, .f32⟩
  | .hbm, ⟨119, _⟩ => ⟨S256x16, .f32⟩
  | .hbm, ⟨120, _⟩ => ⟨S256x16, .f32⟩
  | .hbm, ⟨121, _⟩ => ⟨S_, .i32⟩
  | .hbm, ⟨122, _⟩ => ⟨S_, .f32⟩
  | .hbm, ⟨123, _⟩ => ⟨S256x128, .f32⟩
  | .hbm, ⟨124, _⟩ => ⟨S8448x2048, .f32⟩
  | .hbm, ⟨125, _⟩ => ⟨S8448x2048, .f32⟩
  | .hbm, ⟨126, _⟩ => ⟨S8448x128, .f32⟩
  | _, _ => ⟨S8448x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c : Ref sig .tc := ⟨.hbm, 64, rfl⟩
abbrev main_call0_v0 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩
abbrev main_cst_7 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_9 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_10 : Ref sig .tc := ⟨.hbm, 107, rfl⟩
abbrev main_v86 : Ref sig .tc := ⟨.hbm, 108, rfl⟩
abbrev main_cst_11 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_12 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_c_13 : Ref sig .tc := ⟨.hbm, 121, rfl⟩
abbrev main_call1_v0 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩

abbrev nD : Nat := 1
abbrev τ : Topo := Topo.v7x

variable {F : FTy → Type} [FloatOps F]
-- ==== Kernel4.lean ====
abbrev S8448x2048 : Shape := ⟨2, ![8448, 2048]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8448x2048 : Shape := ⟨2, ![8448, 2048]⟩
abbrev S1x2048 : Shape := ⟨2, ![1, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 20
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S2048, .f32⟩
  | .hbm, ⟨17, _⟩ => ⟨S1x2048, .f32⟩
  | .hbm, ⟨18, _⟩ => ⟨S8192x2048, .f32⟩
  | .hbm, ⟨19, _⟩ => ⟨S8192x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel5.lean ====
abbrev S8448x4608 : Shape := ⟨2, ![8448, 4608]⟩
abbrev S8448x32 : Shape := ⟨2, ![8448, 32]⟩
abbrev S1x512 : Shape := ⟨2, ![1, 512]⟩
abbrev S1x256 : Shape := ⟨2, ![1, 256]⟩
abbrev S512x1536 : Shape := ⟨2, ![512, 1536]⟩
abbrev S256x1536 : Shape := ⟨2, ![256, 1536]⟩
abbrev S_ : Shape := ⟨0, ![]⟩
abbrev S8448x128 : Shape := ⟨2, ![8448, 128]⟩
abbrev S6x8448x256 : Shape := ⟨3, ![6, 8448, 256]⟩
abbrev S768x512 : Shape := ⟨2, ![768, 512]⟩
abbrev S768x256 : Shape := ⟨2, ![768, 256]⟩
abbrev S768x128 : Shape := ⟨2, ![768, 128]⟩
abbrev S6x768x256 : Shape := ⟨3, ![6, 768, 256]⟩
abbrev S768 : Shape := ⟨1, ![768]⟩
abbrev S768x1 : Shape := ⟨2, ![768, 1]⟩
abbrev S768x1536 : Shape := ⟨2, ![768, 1536]⟩
abbrev S1x768x128 : Shape := ⟨3, ![1, 768, 128]⟩

abbrev nBuf : Space → Nat
  | .hbm => 15
  | .vmem => 20
  | .smem => 0
  | _ => 0

abbrev bufTy : (tb : Table) → Fin (tcTables nBuf tb) → BufTy
  | .hbm, ⟨0, _⟩ => ⟨S8448x4608, .f32⟩
  | .hbm, ⟨1, _⟩ => ⟨S8448x32, .f32⟩
  | .hbm, ⟨2, _⟩ => ⟨S8448x32, .f32⟩
  | .hbm, ⟨3, _⟩ => ⟨S1x512, .f32⟩
  | .hbm, ⟨4, _⟩ => ⟨S1x256, .f32⟩
  | .hbm, ⟨5, _⟩ => ⟨S512x1536, .bf16⟩
  | .hbm, ⟨6, _⟩ => ⟨S256x1536, .bf16⟩
  | .hbm, ⟨7, _⟩ => ⟨S_, .f32⟩
  | .hbm, ⟨8, _⟩ => ⟨S8448x32, .f32⟩
  | .hbm, ⟨9, _⟩ => ⟨S8448x128, .f32⟩
  | .hbm, ⟨10, _⟩ => ⟨S8448x32, .f32⟩
  | .hbm, ⟨11, _⟩ => ⟨S8448x128, .f32⟩
  | .hbm, ⟨12, _⟩ => ⟨S6x8448x256, .bf16⟩
  | .hbm, ⟨13, _⟩ => ⟨S6x8448x256, .bf16⟩
  | .hbm, ⟨14, _⟩ => ⟨S6x8448x256, .bf16⟩
  | .local _ .vmem, ⟨0, _⟩ => ⟨S768x512, .f32⟩
  | .local _ .vmem, ⟨1, _⟩ => ⟨S768x512, .f32⟩
  | .local _ .vmem, ⟨2, _⟩ => ⟨S768x256, .f32⟩
  | .local _ .vmem, ⟨3, _⟩ => ⟨S768x256, .f32⟩
  | .local _ .vmem, ⟨4, _⟩ => ⟨S768x128, .f32⟩
  | .local _ .vmem, ⟨5, _⟩ => ⟨S768x128, .f32⟩
  | .local _ .vmem, ⟨6, _⟩ => ⟨S768x128, .f32⟩
  | .local _ .vmem, ⟨7, _⟩ => ⟨S768x128, .f32⟩
  | .local _ .vmem, ⟨8, _⟩ => ⟨S768x128, .f32⟩
  | .local _ .vmem, ⟨9, _⟩ => ⟨S768x128, .f32⟩
  | .local _ .vmem, ⟨10, _⟩ => ⟨S1x512, .f32⟩
  | .local _ .vmem, ⟨11, _⟩ => ⟨S1x256, .f32⟩
  | .local _ .vmem, ⟨12, _⟩ => ⟨S512x1536, .bf16⟩
  | .local _ .vmem, ⟨13, _⟩ => ⟨S256x1536, .bf16⟩
  | .local _ .vmem, ⟨14, _⟩ => ⟨S6x768x256, .bf16⟩
  | .local _ .vmem, ⟨15, _⟩ => ⟨S6x768x256, .bf16⟩
  | .local _ .vmem, ⟨16, _⟩ => ⟨S6x768x256, .bf16⟩
  | .local _ .vmem, ⟨17, _⟩ => ⟨S6x768x256, .bf16⟩
  | .local _ .vmem, ⟨18, _⟩ => ⟨S6x768x256, .bf16⟩
  | .local _ .vmem, ⟨19, _⟩ => ⟨S6x768x256, .bf16⟩
  | _, _ => ⟨S8448x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6x768x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S6x768x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S6x768x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S8448x4608 : Shape := ⟨2, ![8448, 4608]⟩
abbrev S8448x32 : Shape := ⟨2, ![8448, 32]⟩
abbrev S1x512 : Shape := ⟨2, ![1, 512]⟩
abbrev S1x256 : Shape := ⟨2, ![1, 256]⟩
abbrev S512x1536 : Shape := ⟨2, ![512, 1536]⟩
abbrev S256x1536 : Shape := ⟨2, ![256, 1536]⟩
abbrev S8448x512 : Shape := ⟨2, ![8448, 512]⟩
abbrev S_ : Shape := ⟨0, ![]⟩
abbrev S8448 : Shape := ⟨1, ![8448]⟩
abbrev S8448x1 : Shape := ⟨2, ![8448, 1]⟩
abbrev S512 : Shape := ⟨1, ![512]⟩
abbrev S8448x1536 : Shape := ⟨2, ![8448, 1536]⟩
abbrev S8448x256 : Shape := ⟨2, ![8448, 256]⟩
abbrev S256 : Shape := ⟨1, ![256]⟩
abbrev S8448x6x256 : Shape := ⟨3, ![8448, 6, 256]⟩
abbrev S8448x128 : Shape := ⟨2, ![8448, 128]⟩
abbrev S8448x1x128 : Shape := ⟨3, ![8448, 1, 128]⟩
abbrev S8448x6x32 : Shape := ⟨3, ![8448, 6, 32]⟩
abbrev S8448x1x32 : Shape := ⟨3, ![8448, 1, 32]⟩
abbrev S8448x6x128 : Shape := ⟨3, ![8448, 6, 128]⟩
abbrev S6x8448x256 : Shape := ⟨3, ![6, 8448, 256]⟩

abbrev nBuf : Space → Nat
  | .hbm => 96
  | .vmem => 0
  | .smem => 0
  | _ => 0

abbrev bufTy : (tb : Table) → Fin (tcTables nBuf tb) → BufTy
  | .hbm, ⟨0, _⟩ => ⟨S8448x4608, .f32⟩
  | .hbm, ⟨1, _⟩ => ⟨S8448x32, .f32⟩
  | .hbm, ⟨2, _⟩ => ⟨S8448x32, .f32⟩
  | .hbm, ⟨3, _⟩ => ⟨S1x512, .f32⟩
  | .hbm, ⟨4, _⟩ => ⟨S1x256, .f32⟩
  | .hbm, ⟨5, _⟩ => ⟨S512x1536, .bf16⟩
  | .hbm, ⟨6, _⟩ => ⟨S256x1536, .bf16⟩
  | .hbm, ⟨7, _⟩ => ⟨S8448x512, .f32⟩
  | .hbm, ⟨8, _⟩ => ⟨S8448x512, .f32⟩
  | .hbm, ⟨9, _⟩ => ⟨S_, .f32⟩
  | .hbm, ⟨10, _⟩ => ⟨S8448, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S8448x1, .f32⟩
  | .hbm, ⟨19, _⟩ => ⟨S8448x512, .f32⟩
  | .hbm, ⟨20, _⟩ => ⟨S8448x512, .f32⟩
  | .hbm, ⟨21, _⟩ => ⟨S512, .f32⟩
  | .hbm, ⟨22, _⟩ => ⟨S1x512, .f32⟩
  | .hbm, ⟨23, _⟩ => ⟨S8448x512, .f32⟩
  | .hbm, ⟨24, _⟩ => ⟨S8448x512, .f32⟩
  | .hbm, ⟨25, _⟩ => ⟨S512x1536, .f32⟩
  | .hbm, ⟨26, _⟩ => ⟨S8448x1536, .f32⟩
  | .hbm, ⟨27, _⟩ => ⟨S_, .f32⟩
  | .hbm, ⟨28, _⟩ => ⟨S8448x1536, .f32⟩
  | .hbm, ⟨29, _⟩ => ⟨S8448x1536, .f32⟩
  | .hbm, ⟨30, _⟩ => ⟨S8448x256, .f32⟩
  | .hbm, ⟨31, _⟩ => ⟨S8448x256, .f32⟩
  | .hbm, ⟨32, _⟩ => ⟨S_, .f32⟩
  | .hbm, ⟨33, _⟩ => ⟨S8448, .f32⟩
  | .hbm, ⟨34, _⟩ => ⟨S8448x1, .f32⟩
  | .hbm, ⟨35, _⟩ => ⟨S_, .f32⟩
  | .hbm, ⟨36, _⟩ => ⟨S8448x1, .f32⟩
  | .hbm, ⟨37, _⟩ => ⟨S8448x1, .f32⟩
  | .hbm, ⟨38, _⟩ => ⟨S_, .f32⟩
  | .hbm, ⟨39, _⟩ => ⟨S8448x1, .f32⟩
  | .hbm, ⟨40, _⟩ => ⟨S8448x1, .f32⟩
  | .hbm, ⟨41, _⟩ => ⟨S8448x1, .f32⟩
  | .hbm, ⟨42, _⟩ => ⟨S8448x256, .f32⟩
  | .hbm, ⟨43, _⟩ => ⟨S8448x256, .f32⟩
  | .hbm, ⟨44, _⟩ => ⟨S256, .f32⟩
  | .hbm, ⟨45, _⟩ => ⟨S1x256, .f32⟩
  | .hbm, ⟨46, _⟩ => ⟨S8448x256, .f32⟩
  | .hbm, ⟨47, _⟩ => ⟨S8448x256, .f32⟩
  | .hbm, ⟨48, _⟩ => ⟨S256x1536, .f32⟩
  | .hbm, ⟨49, _⟩ => ⟨S8448x1536, .f32⟩
  | .hbm, ⟨50, _⟩ => ⟨S8448x6x256, .f32⟩
  | .hbm, ⟨51, _⟩ => ⟨S8448x6x256, .f32⟩
  | .hbm, ⟨52, _⟩ => ⟨S8448x128, .f32⟩
  | .hbm, ⟨53, _⟩ => ⟨S8448x1x128, .f32⟩
  | .hbm, ⟨54, _⟩ => ⟨S8448x6x32, .f32⟩
  | .hbm, ⟨55, _⟩ => ⟨S8448x6x32, .f32⟩
  | .hbm, ⟨56, _⟩ => ⟨S8448x1x32, .f32⟩
  | .hbm, ⟨57, _⟩ => ⟨S8448x1x32, .f32⟩
  | .hbm, ⟨58, _⟩ => ⟨S8448x6x32, .f32⟩
  | .hbm, ⟨59, _⟩ => ⟨S8448x6x32, .f32⟩
  | .hbm, ⟨60, _⟩ => ⟨S8448x6x32, .f32⟩
  | .hbm, ⟨61, _⟩ => ⟨S8448x6x32, .f32⟩
  | .hbm, ⟨62, _⟩ => ⟨S8448x6x32, .f32⟩
  | .hbm, ⟨63, _⟩ => ⟨S8448x6x32, .f32⟩
  | .hbm, ⟨64, _⟩ => ⟨S8448x6x32, .f32⟩
  | .hbm, ⟨65, _⟩ => ⟨S8448x6x32, .f32⟩
  | .hbm, ⟨66, _⟩ => ⟨S8448x6x32, .f32⟩
  | .hbm, ⟨67, _⟩ => ⟨S8448x6x32, .f32⟩
  | .hbm, ⟨68, _⟩ => ⟨S8448x1x32, .f32⟩
  | .hbm, ⟨69, _⟩ => ⟨S8448x1x32, .f32⟩
  | .hbm, ⟨70, _⟩ => ⟨S8448x1x32, .f32⟩
  | .hbm, ⟨71, _⟩ => ⟨S8448x1x32, .f32⟩
  | .hbm, ⟨72, _⟩ => ⟨S8448x1x32, .f32⟩
  | .hbm, ⟨73, _⟩ => ⟨S8448x1x32, .f32⟩
  | .hbm, ⟨74, _⟩ => ⟨S8448x1x32, .f32⟩
  | .hbm, ⟨75, _⟩ => ⟨S8448x1x32, .f32⟩
  | .hbm, ⟨76, _⟩ => ⟨S8448x1x32, .f32⟩
  | .hbm, ⟨77, _⟩ => ⟨S8448x1x32, .f32⟩
  | .hbm, ⟨78, _⟩ => ⟨S8448x6x32, .f32⟩
  | .hbm, ⟨79, _⟩ => ⟨S8448x6x32, .f32⟩
  | .hbm, ⟨80, _⟩ => ⟨S_, .f32⟩
  | .hbm, ⟨81, _⟩ => ⟨S8448x6x32, .f32⟩
  | .hbm, ⟨82, _⟩ => ⟨S8448x6x128, .f32⟩
  | .hbm, ⟨83, _⟩ => ⟨S8448x6x256, .f32⟩
  | .hbm, ⟨84, _⟩ => ⟨S8448x6x128, .f32⟩
  | .hbm, ⟨85, _⟩ => ⟨S8448x6x256, .f32⟩
  | .hbm, ⟨86, _⟩ => ⟨S8448x6x128, .f32⟩
  | .hbm, ⟨87, _⟩ => ⟨S_, .f32⟩
  | .hbm, ⟨88, _⟩ => ⟨S8448x6x128, .f32⟩
  | .hbm, ⟨89, _⟩ => ⟨S8448x6x256, .f32⟩
  | .hbm, ⟨90, _⟩ => ⟨S6x8448x256, .f32⟩
  | .hbm, ⟨91, _⟩ => ⟨S6x8448x256, .bf16⟩
  | .hbm, ⟨92, _⟩ => ⟨S6x8448x256, .f32⟩
  | .hbm, ⟨93, _⟩ => ⟨S6x8448x256, .bf16⟩
  | .hbm, ⟨94, _⟩ => ⟨S6x8448x256, .f32⟩
  | .hbm, ⟨95, _⟩ => ⟨S6x8448x256, .bf16⟩
  | _, _ => ⟨S8448x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_6 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_7 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩

abbrev nD : Nat := 1
abbrev τ : Topo := Topo.v7x

variable {F : FTy → Type} [FloatOps F]
-- ==== Proof.KernelFrame.lean ====
module

public import proofs.«01_k».proof.Proof.Gen.Kernel.Loops
public import proofs.«01_k».proof.Proof.Gen.Kernel.Frame
public import Idealize.ShloMosaic.Lib.Exec
public import Idealize.ShloMosaic.Lib.Tactic
public import Idealize.ShloMosaic.Lib.Pipeline.Kit
public import Idealize.ShloMosaic.Lib.Pipeline.FrameBody

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Nothing reads what the kernel leaves in the result: of that window nothing is said. -/
def forgets : Fin cfg0.W → Bool := fun w => w == 3

/-- The body returns its three inputs as it found them, the result's block and the scratch at some contents. -/
theorem body_run (𝒱 : Variants) (c : Dev nD) (i : grid0.Coords) (arg2 : Memref sig .tc .vmem S1x1024x256 .bf16) (harg2 : arg2.IsWhole)
    (arg3 : Memref sig .tc .vmem S1x8448x256 .bf16) (harg3 : arg3.IsWhole) (arg4 : Memref sig .tc .vmem S1x8448x256 .bf16) (harg4 : arg4.IsWhole)
    (arg5 : Memref sig .tc .vmem S1024x128 .f32) (harg5 : arg5.IsWhole) (arg6 : Memref sig .tc .vmem S2x1024x512 .f32) (harg6 : arg6.IsWhole)
    (x2 : Vec F S1x1024x256 .bf16) (x3 x4 : Vec F S1x8448x256 .bf16) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d)) -∗ K ⟨⟩))
      ⊢ wp frame (wpE (defs₀ (F := F)) 𝒱 (c : Thread nD τ) none) Set.univ
          (cc0_attention_latent i arg2 harg2 arg3 harg3 arg4 harg4 arg5 harg5 arg6 harg6) K := by
  simp only [cc0_attention_latent_eq_skeleton]; unfold cc0_attention_latent_skel
  unfold owns
  iintro ⟨⟨%f2, %e2, H2⟩, ⟨%f3, %e3, H3⟩, ⟨%f4, %e4, H4⟩, ⟨%d5, %f5, -, H5⟩, ⟨%d6, %f6, -, H6⟩, Hk⟩
  subst e2 e3 e4
  sl_exec
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _, _; isplitr; swap; · iexact H5
    ipureintro; rfl
  iexists _, _; isplitr; swap; · iexact H6
  ipureintro; rfl

/-- The region's data: the arrays as the region finds them, each input's buffer left as fetched; the result's is forgotten. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => fun _ => Classical.ofNonempty
  Φ _ := Pipeline.ΦA spec0 c
  q _ := fullShare
  owed _ := 0

theorem A_eq (c : Dev nD) (w : Fin cfg0.W) : (dats m 0 c).A w = V m c (Pipeline.arrRef spec0 w) := by
  dsimp only [dats]
theorem before_0 (c : Dev nD) (t : Fin cfg0.N) (d) : (dats m 0 c).before 0 t d = X0_0 m c t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d

theorem defs₀_row (t : Fin cfg0.N) :
    defs₀ (F := F) .tc cfg0.body (cfg0.bodyArgs t (cfg0.slots t)) = bodyAt0 t := by
  unfold defs₀; rw [Defs.onTc_tc]

/-- The scratch buffer, whole, as the body takes it and as the region hands it over. -/
theorem scratch_eq (c : Dev nD) :
    (iprop(∃ d, owns (c : Thread nD τ) (Memref.whole cc0_scratch0) fullShare d) : sProp 𝕄)
      = iprop(∃ f : Buf (Elt F) ((c : Thread nD τ).loc cc0_scratch0), ((c : Thread nD τ).loc cc0_scratch0) ↦{fullShare} f) :=
  congrArg _ (funext fun d => owns_whole (c : Thread nD τ) cc0_scratch0 fullShare d)

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ X, owns (c : Thread nD τ) (win0_3.stage (cfg0.slots t 3)) fullShare X))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (∃ X, owns (c : Thread nD τ) (win0_3.stage (cfg0.slots t 3)) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).after 0 t = X0_0 m c t from rfl, show (dats m 0 c).after 1 t = iblk m c 1 t from rfl,
    show (dats m 0 c).after 2 t = iblk m c 2 t from rfl]
  simp only [before_0, before_1, before_2]
  rw [show (dats m 0 c).Φ t.succ = Pipeline.ΦA spec0 c from rfl, show (dats m 0 c).Φ t.castSucc = Pipeline.ΦA spec0 c from rfl]
  unfold Dat.owesAt Pipeline.owesWithin Pipeline.ΦA
  rw [show (dats m 0 c).owed t.castSucc = 0 from rfl, show (dats m 0 c).owed t.succ = 0 from rfl, scopedRest0_eq, ← scratch_eq]
  iintro ⟨⟨HS, Hg⟩, ⟨%W, -, HW⟩, ⟨%d0, H0⟩, ⟨%d1, H1⟩, ⟨%d2, H2⟩, ⟨%d3, H3⟩⟩
  iapply (body_run Variants.none c _ _ _ _ _ _ _ _ _ _ _ _ _ _ _)
  isplitl [H0]; · iexact H0
  isplitl [H1]; · iexact H1
  isplitl [H2]; · iexact H2
  isplitl [H3]; · iexists d3; iexact H3
  isplitl [HS]; · iexact HS
  iintro ⟨H0, H1, H2, H3, HS⟩
  isplitl [HS Hg]
  · isplitl [HS]; · iexact HS
    iexact Hg
  isplitl [HW]
  · iexists W; isplitr; · ipureintro; exact fun _ _ => Or.inl trivial
    iexact HW
  isplitl [H0]; · iexact H0
  isplitl [H1]; · iexact H1
  isplitl [H2]; · iexact H2
  iexact H3

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch's run: it terminates on every path, the input arrays end as launched and every counter at 0. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl) (howed := fun _ _ => rfl)
    (V := V m) (hmain := hmain m Variants.none) (hA := A_eq m) (hΦ := fun _ _ => rfl)

/-- The launch's run read at the arguments: as launched, and every counter at 0. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  have hin : ∀ c (w : Fin cfg0.W), (cfg0.win w).isOut = false → ∀ X, ((dats (F := F) m 0 c).toRForget forgets).ArrAt w (cfgs 0).N X →
      X = V m c (Pipeline.arrRef spec0 w) := fun c w h X hX => by
    rw [((dats m 0 c).toRForget forgets).ArrAt_in w h] at hX; exact hX.trans (A_eq m c w)
  (θ_run defs _ _).mono (fun _ (h : _ ∧ _) => ⟨fun c => ⟨
      (hin c 0 rfl _ ((h.1 c).1 0)).trans (V_main_arg0 m c),
      (hin c 1 rfl _ ((h.1 c).1 1)).trans (V_main_arg1 m c),
      ((h.1 c).2 main_arg2 (Pipeline.mem_restRefs_of main_arg2 (by decide) (by decide))).trans (V_main_arg2 m c)⟩, h.2⟩) (run_main m ρ)

end Cert.Kernel.Hand

end
-- ==== Proof.Steps.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WritesUnit
public import Idealize.ShloMosaic.Lib.VecWindow
public import Idealize.ShloMosaic.Lib.Pointwise.Index

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- Rows `o`, …, `o + 511` of a head's keys (or padded values), as one chunk. -/
def chunk (X : Vec F S1x8448x256 .bf16) (o : ℕ) : Vec F S1x512x256 .bf16 :=
  fun y => X (ix3 0 ⟨min (o + (y 1).val) 8447, by omega⟩ ⟨(y 2).val, (y 2).isLt⟩)

/-- Rows 8192, …, 8447: the context's keys (or padded values). -/
def tail (X : Vec F S1x8448x256 .bf16) : Vec F S1x256x256 .bf16 :=
  fun y => X (ix3 0 ⟨min (8192 + (y 1).val) 8447, by omega⟩ ⟨(y 2).val, (y 2).isLt⟩)

/-- A load of 512 rows from row `o` reads that chunk. -/
theorem load_chunk (v : View sig .tc .vmem S1x8448x256 .bf16) (f : v.ty.Contents (Elt F)) {off : Fin 3 → ℕ} {o : ℕ}
    (e : off = ![0, o, 0]) (ho : o + 512 ≤ 8448) (inb : ∀ a, off a + S1x512x256.size a ≤ S1x8448x256.size a) :
    v.readAt (Elt F) (Rect.unit (s := S1x8448x256) off S1x512x256.size inb).toLoadRect f = chunk (v.read (Elt F) f) o := by
  subst e
  funext y
  refine congrArg (v.read (Elt F) f) (funext fun a => Fin.ext ?_)
  fin_cases a
  · show 0 + 1 * (y 0).val = 0
    have : (y 0).val < 1 := (y 0).isLt
    omega
  · show o + 1 * (y 1).val = min (o + (y 1).val) 8447
    have : (y 1).val < 512 := (y 1).isLt
    omega
  · show 0 + 1 * (y 2).val = (y 2).val
    omega

/-- The load of the last 256 rows reads the context's. -/
theorem load_tail (v : View sig .tc .vmem S1x8448x256 .bf16) (f : v.ty.Contents (Elt F))
    (inb : ∀ a, (![0, 8192, 0] : Fin 3 → ℕ) a + S1x256x256.size a ≤ S1x8448x256.size a) :
    v.readAt (Elt F) (Rect.unit (s := S1x8448x256) ![0, 8192, 0] S1x256x256.size inb).toLoadRect f = tail (v.read (Elt F) f) := by
  funext y
  refine congrArg (v.read (Elt F) f) (funext fun a => Fin.ext ?_)
  fin_cases a
  · show 0 + 1 * (y 0).val = 0
    have : (y 0).val < 1 := (y 0).isLt
    omega
  · show 8192 + 1 * (y 1).val = min (8192 + (y 1).val) 8447
    have : (y 1).val < 256 := (y 1).isLt
    omega
  · show 0 + 1 * (y 2).val = (y 2).val
    omega

/-- A slot's place in the score buffer. -/
abbrev slot0 : LoadRect S2x1024x512 := (Rect.unit (s := S2x1024x512) ![0, 0, 0] S1x1024x512.size inb_S2x1024x512_S1x1024x512_0_0_0).toLoadRect

/-- A slot stored last reads what was stored. -/
theorem load_stored (v : View sig .tc .vmem S2x1024x512 .f32) (f : v.ty.Contents (Elt F)) {off : Fin 3 → ℕ}
    (inb : ∀ a, off a + S1x1024x512.size a ≤ S2x1024x512.size a) (w : (Rect.unit (s := S2x1024x512) off S1x1024x512.size inb).shape.Idx → Elt F .f32)
    (L : List (View.Piece (Elt F) S2x1024x512 .f32)) :
    v.readAt (Elt F) (Rect.unit (s := S2x1024x512) off S1x1024x512.size inb).toLoadRect
      (v.writes (Elt F) f ((⟨Rect.unit (s := S2x1024x512) off S1x1024x512.size inb, w⟩ : View.Piece (Elt F) S2x1024x512 .f32) :: L)) = w := by
  funext y
  exact View.read_writes_cons_unit_of_mem v f inb w L _ y rfl fun a => by
    show off a + 1 * (y a).val = off a + (y a).val
    omega

/-- Slot 1, stored before slot 0, still reads what was stored in it. -/
theorem load_slot1 (v : View sig .tc .vmem S2x1024x512 .f32) (w0 w1 : S1x1024x512.Idx → Elt F .f32) :
    v.readCov [(⟨Rect.unit (s := S2x1024x512) ![0, 0, 0] S1x1024x512.size inb_S2x1024x512_S1x1024x512_0_0_0, w0⟩ : View.Piece (Elt F) S2x1024x512 .f32),
        ⟨Rect.unit (s := S2x1024x512) ![1, 0, 0] S1x1024x512.size inb_S2x1024x512_S1x1024x512_1_0_0, w1⟩]
      (Rect.unit (s := S2x1024x512) ![1, 0, 0] S1x1024x512.size inb_S2x1024x512_S1x1024x512_1_0_0).toLoadRect = w1 := by
  funext y
  refine (View.read_writes_cons_unit_of_not_mem v v.junk inb_S2x1024x512_S1x1024x512_0_0_0 w0 _ _ rfl 0 (Or.inr ?_)).trans ?_
  · show 0 + 1 ≤ 1 + 1 * (y 0).val
    omega
  · exact View.read_writes_cons_unit_of_mem v v.junk inb_S2x1024x512_S1x1024x512_1_0_0 w1 _ _ y rfl fun a => by
      show (![1, 0, 0] : Fin 3 → ℕ) a + 1 * (y a).val = (![1, 0, 0] : Fin 3 → ℕ) a + (y a).val
      omega

/-- The scores of a chunk of keys. -/
abbrev score (v0 : Vec F S1x1024x256 .bf16) (X3 : Vec F S1x8448x256 .bf16) (o : ℕ) : FVec F S1x1024x512 .f32 := k0_pay8 v0 (chunk X3 o)

/-- What one chunk of keys and values does to the running maximum and the running sums. -/
def upd (p : FVec F S1024x1 .f32 × FVec F S1024x256 .f32) (s : FVec F S1x1024x512 .f32) (w : Vec F S1x512x256 .bf16) :
    FVec F S1024x1 .f32 × FVec F S1024x256 .f32 := (k0_pay4 p.1 s, k0_pay5 p.1 p.2 s w)

/-- The running maximum and sums after the first `n` chunks. -/
def acc (v0 : Vec F S1x1024x256 .bf16) (X3 X4 : Vec F S1x8448x256 .bf16) : ℕ → FVec F S1024x1 .f32 × FVec F S1024x256 .f32
  | 0 => (k0_pay9, k0_pay10)
  | n + 1 => upd (acc v0 X3 X4 n) (score v0 X3 (512 * n)) (chunk X4 (512 * n))

/-! ## One trip -/

theorem off1_1 : ∀ k : Fin k0_t1_loop.trips, k0_off1 k 1#32 = ![0, 512 * (2 * k.val + 1), 0] := by decide +kernel
theorem off1_2 : ∀ k : Fin k0_t1_loop.trips, k0_off1 k 2#32 = ![0, 512 * (2 * k.val + 2), 0] := by decide +kernel
theorem off2_0 : ∀ k : Fin k0_t1_loop.trips, k0_off2 k = ![0, 512 * (2 * k.val), 0] := by decide +kernel

section Trip
variable (𝒱 : Variants) (c : Dev nD) (bd : Option 𝒱.V) (i : grid0.Coords) (arg2 : Memref sig .tc .vmem S1x1024x256 .bf16) (harg2 : arg2.IsWhole)
    (arg3 : Memref sig .tc .vmem S1x8448x256 .bf16) (harg3 : arg3.IsWhole) (arg4 : Memref sig .tc .vmem S1x8448x256 .bf16) (harg4 : arg4.IsWhole)
    (arg5 : Memref sig .tc .vmem S1024x128 .f32) (harg5 : arg5.IsWhole) (arg6 : Memref sig .tc .vmem S2x1024x512 .f32) (harg6 : arg6.IsWhole)
    (v0 : Vec F S1x1024x256 .bf16) (X3 : BufTy.Contents (Elt F) arg3.view.ty) (X4 : BufTy.Contents (Elt F) arg4.view.ty)

/-- Before trip `k`: the keys and values as they are, the scores of chunk `2k` in slot 0, and the sums after `2k` chunks carried. -/
abbrev inv (k : ℕ) (p : FVec F S1024x1 .f32 × FVec F S1024x256 .f32) : sProp 𝕄 :=
  iprop(⌜p = acc v0 (arg3.view.read (Elt F) X3) (arg4.view.read (Elt F) X4) (2 * k)⌝
    ∗ (arg3.view.loc (c : Thread nD τ) ↦[arg3.view.set]{fullShare} X3) ∗ (arg4.view.loc (c : Thread nD τ) ↦[arg4.view.set]{fullShare} X4)
    ∗ ∃ f, (arg6.view.loc (c : Thread nD τ) ↦[arg6.view.set]{fullShare} f)
      ∗ ⌜arg6.view.readAt (Elt F) slot0 f = score v0 (arg3.view.read (Elt F) X3) (512 * (2 * k))⌝)

theorem trip (E : Set ℕ) (k : Fin k0_t1_loop.trips) (p : FVec F S1024x1 .f32 × FVec F S1024x256 .f32) :
    inv c arg3 arg4 arg6 v0 X3 X4 k.val p
      ⊢ wp frame (wpE (defs₀ (F := F)) 𝒱 (c : Thread nD τ) bd) E (k0_t1_body (F := F) i arg2 harg2 arg3 harg3 arg4 harg4 arg5 harg5 arg6 harg6 v0 k p)
          (fun y => inv c arg3 arg4 arg6 v0 X3 X4 (k.val + 1) y) := by
  have hk : k.val < 7 := Nat.lt_of_lt_of_le k.isLt k0_t1_abs.2.1
  unfold k0_t1_body
  iintro ⟨%hp, H3, H4, ⟨%f6, H6, %hf⟩⟩
  sl_exec
  sl_step
  isplitr
  · ipureintro
    unfold Cert.KernelIdeal.Hand.trip.sl.r Cert.KernelIdeal.Hand.trip.sl.r_1 Cert.KernelIdeal.Hand.trip.sl.v116 Cert.KernelIdeal.Hand.trip.sl.H6_2
    rw [load_slot1, load_chunk arg3.view X3 (off1_1 k) (by omega) (k0_off1_inb k 0),
      load_chunk arg4.view X4 (off2_0 k) (by omega) (k0_off2_inb k),
      load_chunk arg4.view X4 (off1_1 k) (by omega) (k0_off1_inb k 0), hp]
    rfl
  isplitl [H3]; · iexact H3
  isplitl [H4]; · iexact H4
  iexists _
  isplitl [H6]; · iexact H6
  ipureintro
  unfold Cert.KernelIdeal.Hand.trip.sl.H6_2
  refine (load_stored arg6.view f6 _ _ _).trans ?_
  unfold Cert.KernelIdeal.Hand.trip.sl.r_2
  rw [load_chunk arg3.view X3 (off1_2 k) (by omega) (k0_off1_inb k 1)]
  rfl

set_option warn.classDefReducibility false in
/-- The loop goes by that invariant. -/
@[sl_loop] def loop (E : Set ℕ) :
    LoopInvTy_k0_t1 (F := F) Unit ℕ (UR sig nD τ) ℕ 𝒱 c bd E i arg2 harg2 arg3 harg3 arg4 harg4 arg5 harg5 arg6 harg6 v0 (k0_pay9, k0_pay10) where
  inv := inv c arg3 arg4 arg6 v0 X3 X4
  step k p := trip 𝒱 c bd i arg2 harg2 arg3 harg3 arg4 harg4 arg5 harg5 arg6 harg6 v0 X3 X4 E k p

end Trip

/-! ## The body -/

/-- What the body stores, from its three blocks: the last two chunks and the context's keys after the loop's fourteen chunks,
then the quotient. -/
def out (v0 : Vec F S1x1024x256 .bf16) (X3 X4 : Vec F S1x8448x256 .bf16) : FVec F S1024x128 .f32 :=
  k0_pay1 (k0_pay21 (tail X4))
    (k0_pay23 (acc v0 X3 X4 14).1 (k0_pay16 v0 (tail X3)) (k0_pay17 (score v0 X3 7168)) (score v0 X3 7680))
    (k0_pay24 (acc v0 X3 X4 14).1 (acc v0 X3 X4 14).2 (k0_pay16 v0 (tail X3)) (k0_pay17 (score v0 X3 7168)) (chunk X4 7168)
      (score v0 X3 7680) (chunk X4 7680))
    (constant S1024x256 .f32 0x00000000#32)

/-- The body, run on its staging buffers: the blocks stay, the result's buffer holds `out`. -/
theorem body_run (𝒱 : Variants) (c : Dev nD) (i : grid0.Coords) (arg2 : Memref sig .tc .vmem S1x1024x256 .bf16) (harg2 : arg2.IsWhole)
    (arg3 : Memref sig .tc .vmem S1x8448x256 .bf16) (harg3 : arg3.IsWhole) (arg4 : Memref sig .tc .vmem S1x8448x256 .bf16) (harg4 : arg4.IsWhole)
    (arg5 : Memref sig .tc .vmem S1024x128 .f32) (harg5 : arg5.IsWhole) (arg6 : Memref sig .tc .vmem S2x1024x512 .f32) (harg6 : arg6.IsWhole)
    (x2 : Vec F S1x1024x256 .bf16) (x3 x4 : Vec F S1x8448x256 .bf16) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg2 fullShare x2 ∗ owns (c : Thread nD τ) arg3 fullShare x3 ∗ owns (c : Thread nD τ) arg4 fullShare x4
            ∗ owns (c : Thread nD τ) arg5 fullShare (out x2 x3 x4) ∗ (∃ d, owns (c : Thread nD τ) arg6 fullShare d)) -∗ K ⟨⟩))
      ⊢ wp frame (wpE (defs₀ (F := F)) 𝒱 (c : Thread nD τ) none) Set.univ
          (cc0_attention_latent i arg2 harg2 arg3 harg3 arg4 harg4 arg5 harg5 arg6 harg6) K := by
  simp only [cc0_attention_latent_eq_skeleton]; unfold cc0_attention_latent_skel
  unfold owns
  iintro ⟨⟨%f2, %e2, H2⟩, ⟨%f3, %e3, H3⟩, ⟨%f4, %e4, H4⟩, ⟨%d5, %f5, -, H5⟩, ⟨%d6, %f6, -, H6⟩, Hk⟩
  subst e2 e3 e4
  have h0 := (load_stored arg6.view f6 inb_S2x1024x512_S1x1024x512_0_0_0
      (k0_pay8 (arg2.view.readAt (Elt F) (Rect.unit (s := S1x1024x256) ![0, 0, 0] S1x1024x256.size inb_S1x1024x256_S1x1024x256_0_0_0).toLoadRect f2)
        (arg3.view.readAt (Elt F) (Rect.unit (s := S1x8448x256) ![0, 0, 0] S1x512x256.size inb_S1x8448x256_S1x512x256_0_0_0).toLoadRect f3)) []).trans
    (congrArg (k0_pay8 _) (load_chunk arg3.view f3 (o := 0) rfl (by omega) inb_S1x8448x256_S1x512x256_0_0_0))
  sl_exec
  sl_step
  iapply Hk
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro
    have e2 := View.readAt_full arg2.view f2 inb_S1x1024x256_S1x1024x256_0_0_0
    have hl : Scf.trips k0_t1_loop.lb k0_t1_loop.ub k0_t1_loop.st = 7 := by decide +kernel
    refine (View.read_writes_full arg5.view f5 inb_S1024x128_S1024x128_0_0 _ _).trans ?_
    unfold body_run.sl.r_4 body_run.sl.r_5 body_run.sl.r_6 body_run.sl.cst_38
    unfold body_run.sl.r body_run.sl.r_1 body_run.sl.r_2 body_run.sl.r_3 body_run.sl.v38 body_run.sl.H6_1
    rw [hl, View.readCov_cons_toLoadRect, e2, load_chunk arg3.view f3 rfl (by omega) inb_S1x8448x256_S1x512x256_0_7680_0,
      load_chunk arg4.view f4 rfl (by omega) inb_S1x8448x256_S1x512x256_0_7168_0,
      load_chunk arg4.view f4 rfl (by omega) inb_S1x8448x256_S1x512x256_0_7680_0, load_tail, load_tail]
    rfl
  iexists _, _; isplitr; swap; · iexact H6
  ipureintro; rfl

end Cert.KernelIdeal.Hand

end
-- ==== Proof.Run.lean ====
module

public import proofs.«01_k».proof.Proof.Steps
public import proofs.«01_k».proof.Proof.Gen.KernelIdeal.Frame
public import Idealize.ShloMosaic.Lib.Pipeline.Kit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of the result that the body computes at a point, from the point's queries and the head's keys and values. -/
def outAt (c : Dev nD) (t : Fin cfg0.N) : Vec F S1024x128 .f32 :=
  out (F := F) (X0_0 m c t) (iblk m c 1 t) (iblk m c 2 t)

/-- The region's data: the arrays as the region finds them, each input's buffer left as fetched, the result's at `outAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_3 (c : Dev nD) (t : Fin cfg0.N) : (dats m 0 c).after 3 t = outAt m c t := by dsimp only [dats]
theorem before_0 (c : Dev nD) (t : Fin cfg0.N) (d) : (dats m 0 c).before 0 t d = X0_0 m c t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d

theorem defs₀_row (t : Fin cfg0.N) :
    defs₀ (F := F) .tc cfg0.body (cfg0.bodyArgs t (cfg0.slots t)) = bodyAt0 t := by
  unfold defs₀; rw [Defs.onTc_tc]

/-- The scratch buffer, whole, as the body takes it and as the region hands it over. -/
theorem scratch_eq (c : Dev nD) :
    (iprop(∃ d, owns (c : Thread nD τ) (Memref.whole cc0_scratch0) fullShare d) : sProp 𝕄)
      = iprop(∃ f : Buf (Elt F) ((c : Thread nD τ).loc cc0_scratch0), ((c : Thread nD τ).loc cc0_scratch0) ↦{fullShare} f) :=
  congrArg _ (funext fun d => owns_whole (c : Thread nD τ) cc0_scratch0 fullShare d)

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).after 0 t = X0_0 m c t from rfl, show (dats m 0 c).after 1 t = iblk m c 1 t from rfl,
    show (dats m 0 c).after 2 t = iblk m c 2 t from rfl, after_3]
  simp only [before_0, before_1, before_2]
  rw [show (dats m 0 c).Φ t.succ = Pipeline.ΦA spec0 c from rfl, show (dats m 0 c).Φ t.castSucc = Pipeline.ΦA spec0 c from rfl]
  unfold Dat.owesAt Pipeline.owesWithin Pipeline.ΦA
  rw [show (dats m 0 c).owed t.castSucc = 0 from rfl, show (dats m 0 c).owed t.succ = 0 from rfl, scopedRest0_eq, ← scratch_eq]
  iintro ⟨⟨HS, Hg⟩, ⟨%W, -, HW⟩, ⟨%d0, H0⟩, ⟨%d1, H1⟩, ⟨%d2, H2⟩, ⟨%d3, H3⟩⟩
  iapply (body_run Variants.none c _ _ _ _ _ _ _ _ _ _ _ _ _ _ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hg]
  · isplitl [HS]; · iexact HS
    iexact Hg
  isplitl [HW]
  · iexists W; isplitr; · ipureintro; exact fun _ _ => Or.inl trivial
    iexact HW
  isplitl [H0]; · iexact H0
  isplitl [H1]; · iexact H1
  isplitl [H2]; · iexact H2
  unfold outAt; iexact H3

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch's run: it terminates on every path, the arrays end as `FramePost` says and every counter at 0. -/
theorem run_main :
    θ_run defs (onTc (τ := τ) (main (F := F))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl) (howed := fun _ _ => rfl)
    (V := V m) (hmain := hmain m Variants.none) (hA := A_eq m) (hΦ := fun _ _ => rfl)

/-- The launch's run read at the arrays: the result as the pipeline assembles it from the blocks `outAt`, the arguments as launched,
    every counter at 0. -/
theorem run : θ_run defs (onTc (τ := τ) (main (F := F))) ⟨m, fun _ => 0, ρ⟩ (fun r => (∀ c : Dev nD,
      r.2.mem ((c.tc : Thread nD τ).loc main_v2) = (dats m 0 c).arrAt 3 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ (h : _ ∧ _) => ⟨fun c => ⟨(h.1 c).1 3,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c)⟩, h.2⟩) (run_main m ρ)

end Cert.KernelIdeal.Hand

end
-- ==== Proof.Softmax.lean ====
module

public import Idealize.ShloMosaic.PureOps.Ideal
public import Idealize.ShloMosaic.PureOps.Ideal.Laws

/-! The mathematics of a softmax taken chunk by chunk, over the extended reals: the weights of a row are positive real numbers, so they
    distribute over sums of any values, infinite ones included; a running sum kept relative to one maximum is moved to another by one
    factor; and the quotient of two running sums does not depend on the maximum. -/

@[expose] public section

noncomputable section

namespace Cert.Softmax

open Idealize.ShloMosaic

/-- An extended real that is a real number. -/
def Real' (x : EReal) : Prop := ∃ r : ℝ, x = r

theorem Real'.coe (r : ℝ) : Real' (r : EReal) := ⟨r, rfl⟩

theorem Real'.max {x y : EReal} (hx : Real' x) (hy : Real' y) : Real' (max x y) := by
  rcases max_choice x y with h | h <;> rw [h] <;> assumption

/-- The maximum of finitely many real numbers and one more is a real number, whatever below them the fold starts from. -/
theorem Real'.fold {ι : Type*} (t : Finset ι) {b x : EReal} (hb : b = ⊥) (f : ι → EReal) (hf : ∀ i, Real' (f i)) (hx : Real' x) :
    Real' (Max.max x (t.fold Max.max b f)) := by
  classical
  induction t using Finset.induction_on with
  | empty => subst hb; simpa using hx
  | insert i t hi ih => rw [Finset.fold_insert hi, max_left_comm]; exact (hf i).max ih

/-- A positive real number, given by its logarithm, as an extended real. -/
def w (x : ℝ) : EReal := (Real.exp x : ℝ)

theorem w_nonneg (x : ℝ) : 0 ≤ w x := EReal.coe_nonneg.mpr (Real.exp_pos x).le

theorem w_add (x y : ℝ) : w (x + y) = w x * w y := by
  unfold w; rw [Real.exp_add, EReal.coe_mul]

theorem coe_mul_sum {ι : Type*} (c : ℝ) (hc : 0 ≤ c) (t : Finset ι) (f : ι → EReal) :
    (c : EReal) * ∑ i ∈ t, f i = ∑ i ∈ t, (c : EReal) * f i := by
  classical
  induction t using Finset.induction_on with
  | empty => simp
  | insert i t hi ih =>
    rw [Finset.sum_insert hi, Finset.sum_insert hi, ← ih]
    exact EReal.left_distrib_of_nonneg_of_ne_top (EReal.coe_nonneg.mpr hc) (EReal.coe_ne_top c) _ _

/-- The first `n` weights of a row with scores `s`, relative to `M`, times the values `v`, summed. -/
def partialSum (s : ℕ → ℝ) (v : ℕ → EReal) (M : ℝ) (n : ℕ) : EReal := ∑ j ∈ Finset.range n, w (s j - M) * v j

theorem partialSum_zero (s : ℕ → ℝ) (v : ℕ → EReal) (M : ℝ) : partialSum s v M 0 = 0 := rfl

/-- Moved to another maximum and extended by a chunk. -/
theorem partialSum_step (s : ℕ → ℝ) (v : ℕ → EReal) (M M' : ℝ) (n K : ℕ) :
    w (M - M') * partialSum s v M n + ∑ k : Fin K, w (s (n + k) - M') * v (n + k) = partialSum s v M' (n + K) := by
  unfold partialSum
  rw [Finset.sum_range_add, Finset.sum_range (fun k => w (s (n + k) - M') * v (n + k))]
  refine congrArg (· + _) ?_
  unfold w
  rw [coe_mul_sum _ (Real.exp_pos _).le]
  refine Finset.sum_congr rfl fun j _ => ?_
  rw [← mul_assoc, ← EReal.coe_mul, ← Real.exp_add, show M - M' + (s j - M) = s j - M' by ring]

/-- The sum of the first `n` weights is a positive real number. -/
def total (s : ℕ → ℝ) (M : ℝ) (n : ℕ) : ℝ := ∑ j ∈ Finset.range n, Real.exp (s j - M)

theorem total_pos (s : ℕ → ℝ) (M : ℝ) {n : ℕ} (hn : 0 < n) : 0 < total s M n :=
  Finset.sum_pos (fun _ _ => Real.exp_pos _) ⟨0, Finset.mem_range.mpr hn⟩

theorem coe_sum {ι : Type*} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

theorem sum_w (s : ℕ → ℝ) (M : ℝ) (n : ℕ) : ∑ j ∈ Finset.range n, w (s j - M) = total s M n := (coe_sum _ _).symm

theorem partialSum_one (s : ℕ → ℝ) {v : ℕ → EReal} (hv : ∀ j, v j = 1) (M : ℝ) (n : ℕ) : partialSum s v M n = total s M n := by
  rw [← sum_w]; exact Finset.sum_congr rfl fun j _ => by rw [hv, mul_one]

theorem div_real (x : EReal) {r : ℝ} (hr : 0 < r) : Ideal.div x r = x * (r⁻¹ : ℝ) := by
  unfold Ideal.div
  rw [if_neg (by exact_mod_cast hr.ne'), EReal.coe_inv]

/-- The quotient of the running sums is the sum of the values under normalized weights, whatever the two maxima. -/
theorem quotient (s : ℕ → ℝ) (v : ℕ → EReal) (M M' : ℝ) {n : ℕ} (hn : 0 < n) :
    Ideal.div (partialSum s v M n) (total s M n) = ∑ j ∈ Finset.range n, v j * Ideal.div (w (s j - M')) (total s M' n) := by
  have hL := total_pos s M hn
  have hL' := total_pos s M' hn
  rw [div_real _ hL, mul_comm]
  unfold partialSum
  rw [coe_mul_sum _ (inv_pos.mpr hL).le]
  refine Finset.sum_congr rfl fun j _ => ?_
  rw [div_real _ hL', mul_comm (v j), ← mul_assoc]
  refine congrArg (· * v j) ?_
  unfold w
  rw [← EReal.coe_mul, ← EReal.coe_mul]
  refine congrArg _ ?_
  have e : total s M n = Real.exp (M' - M) * total s M' n := by
    unfold total
    rw [Finset.mul_sum]
    refine Finset.sum_congr rfl fun i _ => ?_
    rw [← Real.exp_add]; congr 1; ring
  have e' : Real.exp (s j - M) = Real.exp (M' - M) * Real.exp (s j - M') := by rw [← Real.exp_add]; congr 1; ring
  rw [e, e']
  have := (Real.exp_pos (M' - M)).ne'
  field_simp

end Cert.Softmax

end
-- ==== Proof.Read.lean ====
module

public import proofs.«01_k».proof.Proof.Steps
public import proofs.«01_k».proof.Proof.Softmax
public import Idealize.ShloMosaic.Lib.Pointwise

/-! The body's values at the ideal instance, read at an index. -/

@[expose] public section

noncomputable section

namespace Cert.KernelIdeal.Hand

open Idealize.ShloMosaic Idealize.ShloMosaic.TcCoe
open Cert.KernelIdeal.Gen Cert.Softmax

theorem max_apply (m : FVec Ideal S1024x1 .f32) (s : Vec Ideal S1x1024x512 .f32) (r : Fin 1024) : k0_pay4 m s (ix2 r 0)
    = max (m (ix2 r 0)) (Finset.fold max (Ideal.ofBits .f32 0xFF800000#32) (fun x => s (ix3 0 r x)) Finset.univ) := by
  pointwise [k0_pay4, k0_pay3]

theorem sums_apply (m : FVec Ideal S1024x1 .f32) (a : FVec Ideal S1024x256 .f32) (s : Vec Ideal S1x1024x512 .f32) (x : Vec Ideal S1x512x256 .bf16)
    (r : Fin 1024) (d : Fin 256) : k0_pay5 m a s x (ix2 r d)
    = Ideal.exp (m (ix2 r 0) - k0_pay4 m s (ix2 r 0)) * a (ix2 r d)
      + ∑ k : Fin 512, Ideal.exp (s (ix3 0 r k) - k0_pay4 m s (ix2 r 0)) * x (ix3 0 k d) := by
  pointwise [k0_pay5, k0_pay3]

theorem score_apply (q : Vec Ideal S1x1024x256 .bf16) (x : Vec Ideal S1x512x256 .bf16) (r : Fin 1024) (k : Fin 512) :
    k0_pay8 q x (ix3 0 r k) = ∑ e : Fin 256, q (ix3 0 r e) * x (ix3 0 k e) := by
  pointwise [k0_pay8, k0_pay7]

theorem tailScore_apply (q : Vec Ideal S1x1024x256 .bf16) (x : Vec Ideal S1x256x256 .bf16) (r : Fin 1024) (k : Fin 256) :
    k0_pay16 q x (ix2 r k) = ∑ e : Fin 256, q (ix3 0 r e) * x (ix3 0 k e) := by
  pointwise [k0_pay16, k0_pay7]

/-- The maximum once the context's keys are seen too, from the maximum before and the context's scores. -/
def tailMax (m : FVec Ideal S1024x1 .f32) (p : FVec Ideal S1024x256 .f32) : FVec Ideal S1024x1 .f32 :=
  maximumf m (shapeCast S1024x1 (multiReduction .maximumf [1] S1024 p 0xFF800000#32 reduces_S1024x256_S1024 (.inl rfl) rfl) shapeCasts_S1024_S1024x1)

theorem tailMax_apply (m : FVec Ideal S1024x1 .f32) (p : FVec Ideal S1024x256 .f32) (r : Fin 1024) : tailMax m p (ix2 r 0)
    = max (m (ix2 r 0)) (Finset.fold max (Ideal.ofBits .f32 0xFF800000#32) (fun x => p (ix2 r x)) Finset.univ) := by
  pointwise [tailMax]

/-- The last step: the context's chunk taken in, and each sum divided by the weights' own. -/
def last (m : FVec Ideal S1024x1 .f32) (a p : FVec Ideal S1024x256 .f32) (x : Vec Ideal S1x256x256 .bf16) : FVec Ideal S1024x128 .f32 :=
  k0_pay1 (k0_pay21 x) (truncf .bf16 (exp (subf p (broadcastTo S1024x256 (tailMax m p) broadcasts_S1024x1_S1024x256))) bitsLt_bf16_f32)
    (mulf (broadcastTo S1024x256 (exp (subf m (tailMax m p))) broadcasts_S1024x1_S1024x256) a) (constant S1024x256 .f32 0x00000000#32)

/-- A sum after the last step, before the division. -/
def lastSum (m : FVec Ideal S1024x1 .f32) (a p : FVec Ideal S1024x256 .f32) (x : Vec Ideal S1x256x256 .bf16) (r : Fin 1024) (d : Fin 256) : EReal :=
  Ideal.exp (m (ix2 r 0) - tailMax m p (ix2 r 0)) * a (ix2 r d)
    + ∑ k : Fin 256, Ideal.exp (p (ix2 r k) - tailMax m p (ix2 r 0)) * x (ix3 0 k d)

theorem last_apply (m : FVec Ideal S1024x1 .f32) (a p : FVec Ideal S1024x256 .f32) (x : Vec Ideal S1x256x256 .bf16) (r : Fin 1024) (d : Fin 128) :
    last m a p x (ix2 r d) = Ideal.div (lastSum m a p x r (d.castLE (by omega))) (lastSum m a p x r 128) := by
  pointwise [last, k0_pay1, k0_pay21]
  rfl

/-- The two chunks taken after the loop are two more steps of it. -/
theorem out_eq (q : Vec Ideal S1x1024x256 .bf16) (X V : Vec Ideal S1x8448x256 .bf16) :
    out q X V = last (acc q X V 16).1 (acc q X V 16).2 (k0_pay16 q (tail X)) (tail V) := rfl

end Cert.KernelIdeal.Hand

end
-- ==== Proof.Row.lean ====
module

public import proofs.«01_k».proof.Proof.Read
public import Idealize.ShloMosaic.Lib.Pointwise

/-! One row of one block at the ideal instance: the running maximum and sums after any number of chunks, and the row of the result. -/

@[expose] public section

set_option maxRecDepth 16384

noncomputable section

namespace Cert.KernelIdeal.Hand

open Idealize.ShloMosaic Idealize.ShloMosaic.TcCoe
open Cert.KernelIdeal.Gen Cert.Softmax

theorem neg_inf : Ideal.ofBits .f32 0xFF800000#32 = ⊥ := by simp [Ideal.ofBits, Ideal.ieee]

/-- The loop starts its maximum from a real number. -/
theorem start_real : Real' (Ideal.ofBits .f32 0xF149F2CA#32) := by
  simp only [Ideal.ofBits, Ideal.ieee]
  rw [if_neg (by decide), if_neg (by decide)]
  exact .coe _

theorem exp_sub (x y : ℝ) : Ideal.exp ((x : EReal) - y) = w (x - y) := by
  rw [← EReal.coe_sub]; rfl

theorem chunk_apply (X : Vec Ideal S1x8448x256 .bf16) (o : ℕ) (k : Fin 512) (e : Fin 256) (h : o + k.val < 8448) :
    chunk X o (ix3 0 k e) = X (ix3 0 ⟨o + k.val, h⟩ e) := by
  show X (ix3 0 ⟨min (o + k.val) 8447, _⟩ e) = _
  congr 2
  exact Fin.ext (min_eq_left (by omega))

theorem tail_apply (X : Vec Ideal S1x8448x256 .bf16) (k : Fin 256) (e : Fin 256) (h : 8192 + k.val < 8448) :
    tail X (ix3 0 k e) = X (ix3 0 ⟨8192 + k.val, h⟩ e) := by
  show X (ix3 0 ⟨min (8192 + k.val) 8447, _⟩ e) = _
  congr 2
  exact Fin.ext (min_eq_left (by omega))

section
variable (q : Vec Ideal S1x1024x256 .bf16) (X V : Vec Ideal S1x8448x256 .bf16) (r : Fin 1024) (s : ℕ → ℝ)

/-- A column of the values, by key. -/
def col (d : Fin 256) (j : ℕ) : EReal := V (ix3 0 ⟨min j 8447, by omega⟩ d)

theorem col_apply (d : Fin 256) (j : ℕ) (h : j < 8448) : col V d j = V (ix3 0 ⟨j, h⟩ d) := by
  unfold col
  congr 2
  exact Fin.ext (min_eq_left (by omega))

variable (hs : ∀ j : Fin 8448, ∑ e : Fin 256, q (ix3 0 r e) * X (ix3 0 j e) = s j)

include hs in
theorem acc_row (n : ℕ) (hn : 512 * n ≤ 8192) : ∃ M : ℝ, (acc q X V n).1 (ix2 r 0) = M
    ∧ ∀ d, (acc q X V n).2 (ix2 r d) = partialSum s (col V d) M (512 * n) := by
  induction n with
  | zero =>
    obtain ⟨M, hM⟩ := start_real
    refine ⟨M, ?_, fun d => ?_⟩
    · pointwise [acc, k0_pay9]; exact hM
    · rw [Nat.mul_zero, partialSum_zero]; pointwise [acc, k0_pay10]
  | succ n ih =>
    obtain ⟨M, hM, ha⟩ := ih (by omega)
    have hsc : ∀ k : Fin 512, score q X (512 * n) (ix3 0 r k) = (s (512 * n + k) : EReal) := fun k => by
      unfold score
      rw [score_apply, ← hs ⟨512 * n + k, by omega⟩]
      exact Finset.sum_congr rfl fun e _ => by rw [chunk_apply]
    obtain ⟨M', hM'⟩ : Real' (k0_pay4 (acc q X V n).1 (score q X (512 * n)) (ix2 r 0)) := by
      rw [max_apply]
      exact Real'.fold _ neg_inf _ (fun k => by rw [hsc]; exact .coe _) ⟨M, hM⟩
    refine ⟨M', hM', fun d => ?_⟩
    show k0_pay5 (acc q X V n).1 (acc q X V n).2 (score q X (512 * n)) (chunk V (512 * n)) (ix2 r d) = _
    rw [sums_apply, hM', hM, ha, Nat.mul_succ, ← partialSum_step s _ M M' (512 * n) 512, exp_sub]
    refine congrArg₂ (· + ·) rfl (Finset.sum_congr rfl fun k _ => ?_)
    rw [hsc, exp_sub, chunk_apply _ _ _ _ (by omega), col_apply]

include hs in
/-- A row of the block: the values summed under the row's normalized weights, relative to any number. -/
theorem out_row (hV : ∀ j, V (ix3 0 j 128) = 1) (M' : ℝ) (d : Fin 128) :
    out q X V (ix2 r d) = ∑ j : Fin 8448, V (ix3 0 j (d.castLE (by omega))) * Ideal.div (w (s j - M')) (total s M' 8448) := by
  obtain ⟨M, hM, ha⟩ := acc_row q X V r s hs 16 (by omega)
  have hsc : ∀ k : Fin 256, k0_pay16 q (tail X) (ix2 r k) = (s (8192 + k) : EReal) := fun k => by
    rw [tailScore_apply, ← hs ⟨8192 + k, by omega⟩]
    exact Finset.sum_congr rfl fun e _ => by rw [tail_apply]
  obtain ⟨M₁, hM₁⟩ : Real' (tailMax (acc q X V 16).1 (k0_pay16 q (tail X)) (ix2 r 0)) := by
    rw [tailMax_apply]
    exact Real'.fold _ neg_inf _ (fun k => by rw [hsc]; exact .coe _) ⟨M, hM⟩
  have hl : ∀ d, lastSum (acc q X V 16).1 (acc q X V 16).2 (k0_pay16 q (tail X)) (tail V) r d = partialSum s (col V d) M₁ 8448 := fun d => by
    unfold lastSum
    rw [hM₁, hM, ha, ← partialSum_step s _ M M₁ 8192 256, exp_sub]
    refine congrArg₂ (· + ·) rfl (Finset.sum_congr rfl fun k _ => ?_)
    rw [hsc, exp_sub, tail_apply _ _ _ (by omega), col_apply]
  rw [out_eq, last_apply, hl, hl, partialSum_one s (v := col V 128) (fun j => hV _), quotient s _ M₁ M' (by omega), Finset.sum_range]
  exact Finset.sum_congr rfl fun j _ => by rw [col_apply V _ j.val j.isLt]

end

end Cert.KernelIdeal.Hand

end
-- ==== Proof.Attention.lean ====
module

public import proofs.«01_k».proof.Proof.Softmax
public import Idealize.ShloMosaic.Lib.Pointwise.Index

/-! What both programs compute, at an index: the head's values summed under the query's normalized weights. -/

@[expose] public section

noncomputable section

namespace Cert.Softmax

open Idealize.ShloMosaic

/-- Six heads of 8448 rows of `n` numbers. -/
abbrev Heads (n : ℕ) : Type := (⟨3, ![6, 8448, n]⟩ : Shape).Idx → EReal

/-- The score of a query against key `j`. -/
def dot (q k : Heads 256) (h : Fin 6) (i j : Fin 8448) : EReal := ∑ e : Fin 256, q (ix3 h i e) * k (ix3 h j e)

/-- The scores of a query as real numbers, by key. -/
def scores (q k : Heads 256) (h : Fin 6) (i : Fin 8448) (j : ℕ) : ℝ := (dot q k h i ⟨min j 8447, by omega⟩).toReal

theorem Real'.mul {x y : EReal} : Real' x → Real' y → Real' (x * y) := fun ⟨a, ha⟩ ⟨b, hb⟩ => ⟨a * b, by rw [ha, hb, EReal.coe_mul]⟩

theorem Real'.sum {ι : Type*} (t : Finset ι) (f : ι → EReal) (hf : ∀ i, Real' (f i)) : Real' (∑ i ∈ t, f i) := by
  choose g hg using hf
  exact ⟨∑ i ∈ t, g i, by rw [coe_sum]; exact Finset.sum_congr rfl fun i _ => hg i⟩

/-- Of finite queries and keys the scores are real numbers. -/
theorem dot_eq {q k : Heads 256} (hq : ∀ i, Real' (q i)) (hk : ∀ i, Real' (k i)) (h : Fin 6) (i j : Fin 8448) :
    dot q k h i j = scores q k h i j := by
  obtain ⟨r, hr⟩ : Real' (dot q k h i j) := .sum _ _ fun e => (hq _).mul (hk _)
  have e : (⟨min j.val 8447, by omega⟩ : Fin 8448) = j := Fin.ext (min_eq_left (by omega))
  unfold scores
  rw [e, hr, EReal.toReal_coe]

/-- The attention's result for head `h`, query `i`, column `d`. -/
def attended (q k : Heads 256) (v : Heads 128) (h : Fin 6) (i : Fin 8448) (d : Fin 128) : EReal :=
  ∑ j : Fin 8448, v (ix3 h j d) * Ideal.div (w (scores q k h i j - 0)) (total (scores q k h i) 0 8448)

/-- The same relative to any maximum. -/
theorem attended_eq (q k : Heads 256) (v : Heads 128) (h : Fin 6) (i : Fin 8448) (d : Fin 128) (M : ℝ) : attended q k v h i d
    = ∑ j : Fin 8448, v (ix3 h j d) * Ideal.div (w (scores q k h i j - M)) (total (scores q k h i) M 8448) := by
  have hn : 0 < 8448 := by omega
  let v' : ℕ → EReal := fun j => v (ix3 h ⟨min j 8447, by omega⟩ d)
  have e (M' : ℝ) : ∑ j : Fin 8448, v (ix3 h j d) * Ideal.div (w (scores q k h i j - M')) (total (scores q k h i) M' 8448)
      = Ideal.div (partialSum (scores q k h i) v' 0 8448) (total (scores q k h i) 0 8448) := by
    rw [quotient _ v' 0 M' hn, Finset.sum_range]
    refine Finset.sum_congr rfl fun j _ => ?_
    have e : (⟨min j.val 8447, by omega⟩ : Fin 8448) = j := Fin.ext (min_eq_left (by omega))
    show _ = v (ix3 h ⟨min j.val 8447, _⟩ d) * _
    rw [e]
  unfold attended
  rw [e 0, e M]

end Cert.Softmax

end
-- ==== Proof.Blocks.lean ====
module

public import proofs.«01_k».proof.Proof.Run
public import proofs.«01_k».proof.Proof.Row
public import proofs.«01_k».proof.Proof.Attention
public import Idealize.ShloMosaic.Lib.Pipeline.Value
public import Idealize.ShloMosaic.Lib.StableHlo.Run

/-! The blocks a point reads and writes, index by index, and the result array assembled from the written ones. -/

@[expose] public section

noncomputable section

namespace Cert.KernelIdeal.Hand

open Idealize.ShloMosaic Idealize.ShloMosaic.TcCoe
open Idealize.ShloMosaic.Pipeline (Dat)
open Cert.KernelIdeal.Gen Cert.Softmax

variable (m : (ℓ : Loc nD τ sig) → Buf (Elt Ideal) ℓ) (c : Dev nD)

/-- Point `t` is head `t / 8`, row block `t % 8`. -/
theorem index_0 : ∀ t : Fin cfg0.N, win0_0.index t 0 = t.val / 8 ∧ win0_0.index t 1 = t.val % 8 ∧ win0_0.index t 2 = 0 := by decide +kernel
theorem index_1 : ∀ t : Fin cfg0.N, win0_1.index t 0 = t.val / 8 ∧ win0_1.index t 1 = 0 ∧ win0_1.index t 2 = 0 := by decide +kernel
theorem index_2 : ∀ t : Fin cfg0.N, win0_2.index t 0 = t.val / 8 ∧ win0_2.index t 1 = 0 ∧ win0_2.index t 2 = 0 := by decide +kernel
theorem index_3 : ∀ t : Fin cfg0.N, win0_3.index t 0 = t.val % 8 ∧ win0_3.index t 1 = t.val / 8 := by decide +kernel

theorem lt_N (t : Fin cfg0.N) : t.val < 48 := lt_of_lt_of_eq t.isLt N_0

/-- The point's queries. -/
theorem q_block (t : Fin cfg0.N) (r : Fin 1024) (e : Fin 256) :
    X0_0 m c t (ix3 0 r e) = (m ((c : Thread nD τ).loc main_arg0) : Vec Ideal S6x8448x256 .bf16)
      (ix3 ⟨t.val / 8, by have := lt_N t; omega⟩ ⟨1024 * (t.val % 8) + r.val, by omega⟩ e) := by
  unfold X0_0 Pipeline.Window.fill
  rw [dif_pos (moved0_0 t _)]
  unfold iblk
  rw [View.read_apply, ← V_main_arg0 m c]
  refine congrArg (V m c main_arg0) (funext fun a => Fin.ext ?_)
  have hi := index_0 t
  fin_cases a
  · show win0_0.index t 0 * 1 + 1 * 0 = t.val / 8
    omega
  · show win0_0.index t 1 * 1024 + 1 * r.val = 1024 * (t.val % 8) + r.val
    omega
  · show win0_0.index t 2 * 256 + 1 * e.val = e.val
    omega

/-- The head's keys. -/
theorem k_block (t : Fin cfg0.N) (j : Fin 8448) (e : Fin 256) :
    (iblk m c 1 t : Vec Ideal S1x8448x256 .bf16) (ix3 0 j e) = (m ((c : Thread nD τ).loc main_arg1) : Vec Ideal S6x8448x256 .bf16)
      (ix3 ⟨t.val / 8, by have := lt_N t; omega⟩ j e) := by
  unfold iblk
  rw [View.read_apply, ← V_main_arg1 m c]
  refine congrArg (V m c main_arg1) (funext fun a => Fin.ext ?_)
  have hi := index_1 t
  fin_cases a
  · show win0_1.index t 0 * 1 + 1 * 0 = t.val / 8
    omega
  · show win0_1.index t 1 * 8448 + 1 * j.val = j.val
    omega
  · show win0_1.index t 2 * 256 + 1 * e.val = e.val
    omega

/-- The values padded with ones. -/
def padded (v : Vec Ideal S6x8448x128 .bf16) : Vec Ideal S6x8448x256 .bf16 :=
  concatenate S6x8448x256 2 [⟨S6x8448x128, v⟩, ⟨S6x8448x128, broadcastInDim S6x8448x128 ![] bcast_S_S6x8448x128 (constant (F := Ideal) S_ .bf16 0x3F80#16)⟩]
    concatenates_S6x8448x128_S6x8448x128_S6x8448x256_d2

/-- As the host prepares them. -/
theorem V_main_v1 : (V m c main_v1 : Vec Ideal S6x8448x256 .bf16) = padded (m ((c : Thread nD τ).loc main_arg2)) := by
  unfold V hostOps0
  after_results
  all_goals rfl

theorem v_block (t : Fin cfg0.N) (j : Fin 8448) (e : Fin 256) :
    (iblk m c 2 t : Vec Ideal S1x8448x256 .bf16) (ix3 0 j e) = (V m c main_v1 : Vec Ideal S6x8448x256 .bf16)
      (ix3 ⟨t.val / 8, by have := lt_N t; omega⟩ j e) := by
  unfold iblk
  rw [View.read_apply]
  refine congrArg (V m c main_v1) (funext fun a => Fin.ext ?_)
  have hi := index_2 t
  fin_cases a
  · show win0_2.index t 0 * 1 + 1 * 0 = t.val / 8
    omega
  · show win0_2.index t 1 * 8448 + 1 * j.val = j.val
    omega
  · show win0_2.index t 2 * 256 + 1 * e.val = e.val
    omega

theorem one : Ideal.ofBits .bf16 0x3F80#16 = 1 := by
  simp [Ideal.ofBits, Ideal.ieee]
  rw [← EReal.coe_mul]
  norm_num

theorem padded_value (v : Vec Ideal S6x8448x128 .bf16) (h : Fin 6) (j : Fin 8448) (d : Fin 128) :
    padded v (ix3 h j (d.castLE (by omega))) = v (ix3 h j d) := by
  pointwise [padded]
  exact dif_pos d.isLt

theorem padded_one (v : Vec Ideal S6x8448x128 .bf16) (h : Fin 6) (j : Fin 8448) : padded v (ix3 h j 128) = 1 := by
  pointwise [padded]

abbrev qs : Heads 256 := m ((c : Thread nD τ).loc main_arg0)
abbrev ks : Heads 256 := m ((c : Thread nD τ).loc main_arg1)
abbrev vs : Heads 128 := m ((c : Thread nD τ).loc main_arg2)

/-- The result array: query by query, head beside head. -/
def result (q k : Heads 256) (v : Heads 128) : Vec Ideal S8192x768 .f32 := fun i =>
  attended q k v ⟨(i 1).val / 128, by have : (i 1).val < 768 := (i 1).isLt; omega⟩ ⟨(i 0).val, by have : (i 0).val < 8192 := (i 0).isLt; omega⟩
    ⟨(i 1).val % 128, by omega⟩

theorem result_at (q k : Heads 256) (v : Heads 128) (i : S8192x768.Idx) (h : Fin 6) (x : Fin 8448) (d : Fin 128)
    (e0 : (i 0).val = x.val) (e1 : (i 1).val = 128 * h.val + d.val) : result q k v i = attended q k v h x d := by
  unfold result
  congr 1
  · exact Fin.ext (show (i 1).val / 128 = h.val by omega)
  · exact Fin.ext e0
  · exact Fin.ext (show (i 1).val % 128 = d.val by omega)

variable (hq : ∀ i, Real' (qs m c i)) (hk : ∀ i, Real' (ks m c i))

include hq hk in
theorem outAt_apply (t : Fin cfg0.N) (r : Fin 1024) (d : Fin 128) : outAt m c t (ix2 r d)
    = attended (qs m c) (ks m c) (vs m c) ⟨t.val / 8, by have := lt_N t; omega⟩ ⟨1024 * (t.val % 8) + r.val, by omega⟩ d := by
  unfold outAt
  rw [out_row _ _ _ r (scores (qs m c) (ks m c) ⟨t.val / 8, by have := lt_N t; omega⟩ ⟨1024 * (t.val % 8) + r.val, by omega⟩)
    (fun j => by rw [← dot_eq hq hk]; exact Finset.sum_congr rfl fun e _ => by rw [q_block, k_block])
    (fun j => by rw [v_block, V_main_v1, padded_one]) 0 d]
  exact Finset.sum_congr rfl fun j _ => by rw [v_block, V_main_v1, padded_value]

include hq hk in
set_option maxRecDepth 65536 in
theorem flushed_eq (t : Fin cfg0.N) :
    (dats m 0 c).flushed 3 t = ((cfg0.win 3).blk t).view.read (Elt Ideal) (result (qs m c) (ks m c) (vs m c)) := by
  show (cfg0.win 3).cut (grid0.coords t) ((dats m 0 c).after 3 t) = _
  rw [after_3]
  funext j
  have h0 : (j 0).val < 1024 := (j 0).isLt
  have h1 : (j 1).val < 128 := (j 1).isLt
  have ht := lt_N t
  have hi := index_3 t
  have e : (fun a => j a : S1024x128.Idx) = ix2 ⟨(j 0).val, h0⟩ ⟨(j 1).val, h1⟩ := by
    funext a
    match a with
    | ⟨0, _⟩ => rfl
    | ⟨1, _⟩ => rfl
  rw [View.read_apply]
  refine (congrArg (outAt m c t) e).trans ((outAt_apply m c hq hk t ⟨(j 0).val, h0⟩ ⟨(j 1).val, h1⟩).trans (Eq.symm ?_))
  refine result_at (qs m c) (ks m c) (vs m c) _ ⟨t.val / 8, _⟩ ⟨1024 * (t.val % 8) + (j 0).val, _⟩ ⟨(j 1).val, h1⟩ ?_ ?_
  · show win0_3.index t 0 * 1024 + 1 * (j 0).val = 1024 * (t.val % 8) + (j 0).val
    omega
  · show win0_3.index t 1 * 128 + 1 * (j 1).val = 128 * (t.val / 8) + (j 1).val
    omega

theorem cover (i : S8192x768.Idx) : ∃ t : Fin cfg0.N, (cfg0.win 3).flush t = true ∧ i ∈ ((cfg0.win 3).blk t).view.set := by
  have h0 : (i 0).val < 8192 := (i 0).isLt
  have h1 : (i 1).val < 768 := (i 1).isLt
  let t : Fin cfg0.N := ⟨8 * ((i 1).val / 128) + (i 0).val / 1024, lt_of_lt_of_eq (b := 48) (by omega) N_0.symm⟩
  have hi := index_3 t
  have e : t.val = 8 * ((i 1).val / 128) + (i 0).val / 1024 := rfl
  refine ⟨t, flush0_3 t, ?_⟩
  show i ∈ ((View.whole main_v2).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    omega
  | ⟨1, _⟩ =>
    show win0_3.index t 1 * 128 ≤ (i 1).val ∧ (i 1).val < win0_3.index t 1 * 128 + 128
    omega

include hq hk in
/-- The result array after the run. -/
theorem final : (dats m 0 c).arrAt 3 (cfgs 0).N = result (qs m c) (ks m c) (vs m c) :=
  (dats m 0 c).arrAt_eq_of_cover 3 (result (qs m c) (ks m c) (vs m c)) (fun t _ => flushed_eq m c hq hk t) cover

end Cert.KernelIdeal.Hand

end
-- ==== Proof.Reference.lean ====
module

public import proofs.«01_k».proof.Proof.Attention
public import proofs.«01_k».proof.Proof.Gen.ReferenceIdeal.Run
public import Idealize.ShloMosaic.Lib.Pointwise

/-! The reference's result at an index. -/

@[expose] public section

set_option maxRecDepth 16384

noncomputable section

namespace Cert.ReferenceIdeal.Hand

open Idealize.ShloMosaic Idealize.ShloMosaic.TcCoe
open Cert.ReferenceIdeal Cert.ReferenceIdeal.Gen Cert.Softmax

/-- All scores. -/
def S (q k : Vec Ideal S6x8448x256 .bf16) : Vec Ideal S6x8192x8448 .f32 :=
  Host.dotGeneral dot_S6x8192x256_S6x8448x256_S6x8192x8448_2_2_1_1_0_0 none
    (extf (F := Ideal) .f32 (extractStridedSlice S6x8192x256 ![0, 0, 0] q slices_S6x8448x256_S6x8192x256_0_0_0) bitsLt_bf16_f32)
    (extf (F := Ideal) .f32 k bitsLt_bf16_f32)

/-- The largest score of each query. -/
def top (s : Vec Ideal S6x8192x8448 .f32) : Vec Ideal S6x8192 .f32 :=
  maximumf (F := Ideal) (φ := .f32) (broadcastInDim S6x8192 ![] bcast_S_S6x8192 (constant S_ .f32 0xFF800000#32))
    (Host.reduce FloatOps.maximumf s (constant S_ .f32 0xFF800000#32) reducesTo_S6x8192x8448_S6x8192_d2 h_S_)

/-- The unnormalized weights. -/
def weights (s : Vec Ideal S6x8192x8448 .f32) : Vec Ideal S6x8192x8448 .f32 :=
  Host.exp (F := Ideal) (φ := .f32) (subf s (broadcastInDim S6x8192x8448 ![0, 1, 2] bcast_S6x8192x1_S6x8192x8448_0_1_2
    (broadcastInDim S6x8192x1 ![0, 1] bcast_S6x8192_S6x8192x1_0_1 (top s))))

theorem S_apply (q k : Vec Ideal S6x8448x256 .bf16) (h : Fin 6) (i : Fin 8192) (j : Fin 8448) :
    S q k (ix3 h i j) = dot q k h ⟨i.val, by omega⟩ j := by
  pointwise [S]
  rfl

/-- A maximum along the last axis. -/
theorem reduce_max {a b n : ℕ} {u : Shape} (x : FVec Ideal ⟨3, ![a, b, n]⟩ .f32) (init : FVec Ideal u .f32)
    (h : (⟨3, ![a, b, n]⟩ : Shape).ReducesTo [2] ⟨2, ![a, b]⟩) (hu : 0 < u.numel) (i : Fin a) (j : Fin b) :
    Host.reduce FloatOps.maximumf x init h hu (ix2 i j)
      = Finset.fold max (init (Shape.Idx.first hu)) (fun k => x (ix3 i j k)) Finset.univ := by
  simp only [pointwise]

/-- The larger of the constant and any array's entry. -/
theorem larger_apply (y : Vec Ideal S6x8192 .f32) (i : S6x8192.Idx) :
    maximumf (F := Ideal) (φ := .f32) (broadcastInDim S6x8192 ![] bcast_S_S6x8192 (constant S_ .f32 0xFF800000#32)) y i
      = max (Ideal.ofBits .f32 0xFF800000#32) (y i) := rfl

theorem first_apply (b : BitVec 32) (h : 0 < S_.numel) :
    (constant S_ .f32 b : FVec Ideal S_ .f32) (Shape.Idx.first h) = Ideal.ofBits .f32 b := rfl

theorem top_apply (s : Vec Ideal S6x8192x8448 .f32) (h : Fin 6) (i : Fin 8192) : top s (ix2 h i)
    = max (Ideal.ofBits .f32 0xFF800000#32) (Finset.fold max (Ideal.ofBits .f32 0xFF800000#32) (fun j => s (ix3 h i j)) Finset.univ) := by
  unfold top
  rw [larger_apply, reduce_max, first_apply]

theorem weights_apply (s : Vec Ideal S6x8192x8448 .f32) (h : Fin 6) (i : Fin 8192) (j : Fin 8448) :
    weights s (ix3 h i j) = Ideal.exp (s (ix3 h i j) - top s (ix2 h i)) := by
  pointwise [weights]

/-- A sum along the last axis. -/
theorem reduce_add {a b n : ℕ} {u : Shape} (x : FVec Ideal ⟨3, ![a, b, n]⟩ .f32) (init : FVec Ideal u .f32)
    (h : (⟨3, ![a, b, n]⟩ : Shape).ReducesTo [2] ⟨2, ![a, b]⟩) (hu : 0 < u.numel) (i : Fin a) (j : Fin b) :
    Host.reduceAdd x init h hu (ix2 i j) = init (Shape.Idx.first hu) + ∑ k : Fin n, x (ix3 i j k) := by
  simp only [pointwise, Ideal.hostReduceAdd_def]

/-- The weights' sums. -/
def sums (p : Vec Ideal S6x8192x8448 .f32) : Vec Ideal S6x8192 .f32 :=
  Host.reduceAdd (F := Ideal) (φ := .f32) p (constant S_ .f32 0x00000000#32) reducesTo_S6x8192x8448_S6x8192_d2 h_S_

theorem sums_apply (p : Vec Ideal S6x8192x8448 .f32) (h : Fin 6) (i : Fin 8192) : sums p (ix2 h i) = ∑ x : Fin 8448, p (ix3 h i x) := by
  refine (reduce_add p _ _ _ h i).trans ?_
  pointwise

/-- The normalized weights. -/
def normal (p : Vec Ideal S6x8192x8448 .f32) : Vec Ideal S6x8192x8448 .f32 :=
  Host.divf (F := Ideal) (φ := .f32) p (broadcastInDim S6x8192x8448 ![0, 1, 2] bcast_S6x8192x1_S6x8192x8448_0_1_2
    (broadcastInDim S6x8192x1 ![0, 1] bcast_S6x8192_S6x8192x1_0_1 (sums p)))

theorem normal_apply (p : Vec Ideal S6x8192x8448 .f32) (h : Fin 6) (i : Fin 8192) (j : Fin 8448) :
    normal p (ix3 h i j) = Ideal.div (p (ix3 h i j)) (sums p (ix2 h i)) := by
  pointwise [normal]

/-- The weighted values, laid out query by query. -/
def mixed (v : Vec Ideal S6x8448x128 .bf16) (p : Vec Ideal S6x8192x8448 .f32) : Vec Ideal S8192x768 .f32 :=
  shapeCast _ (transpose S8192x6x128 [2, 0, 1] (Host.dotGeneral dot_S6x8448x128_S6x8192x8448_S6x128x8192_1_2_2_1_0_0 none
    (extf (F := Ideal) .f32 v bitsLt_bf16_f32) (show FVec Ideal S6x8192x8448 .f32 from p)) transposes_S6x128x8192_S8192x6x128_2_0_1) shapeCasts_S8192x6x128_S8192x768

def value (q k : Vec Ideal S6x8448x256 .bf16) (v : Vec Ideal S6x8448x128 .bf16) : Vec Ideal S8192x768 .f32 := mixed v (normal (weights (S q k)))

theorem mixed_apply (v : Vec Ideal S6x8448x128 .bf16) (p : Vec Ideal S6x8192x8448 .f32) (h : Fin 6) (i : Fin 8192) (d : Fin 128) :
    mixed v p (ix2 i ⟨128 * h.val + d.val, by omega⟩) = ∑ j : Fin 8448, v (ix3 h j d) * p (ix3 h i j) := by
  pointwise [mixed]

theorem neg_inf : Ideal.ofBits .f32 0xFF800000#32 = ⊥ := by simp [Ideal.ofBits, Ideal.ieee]

/-- Of finite queries and keys the largest score is a real number. -/
theorem top_real {q k : Heads 256} (hq : ∀ i, Real' (q i)) (hk : ∀ i, Real' (k i)) (h : Fin 6) (i : Fin 8192) : Real' (top (S q k) (ix2 h i)) := by
  have hs : ∀ j, Real' (S q k (ix3 h i j)) := fun j => by rw [S_apply, dot_eq hq hk]; exact .coe _
  have hle : S q k (ix3 h i 0) ≤ Finset.fold max (Ideal.ofBits .f32 0xFF800000#32) (fun j => S q k (ix3 h i j)) Finset.univ :=
    (Finset.le_fold_max _).mpr (.inr ⟨0, Finset.mem_univ _, le_rfl⟩)
  have := Real'.fold Finset.univ neg_inf (fun j => S q k (ix3 h i j)) hs (hs 0)
  rw [max_eq_right hle] at this
  have hb : Ideal.ofBits .f32 0xFF800000#32 ≤ Finset.fold max (Ideal.ofBits .f32 0xFF800000#32) (fun j => S q k (ix3 h i j)) Finset.univ :=
    neg_inf.trans_le bot_le
  rw [top_apply, max_eq_right hb]
  exact this

/-- The reference's result at an index. -/
theorem value_apply {q k : Heads 256} (v : Heads 128) (hq : ∀ i, Real' (q i)) (hk : ∀ i, Real' (k i)) (h : Fin 6) (i : Fin 8192) (d : Fin 128) :
    value q k v (ix2 i ⟨128 * h.val + d.val, by omega⟩) = attended q k v h ⟨i.val, by omega⟩ d := by
  obtain ⟨M, hM⟩ := top_real hq hk h i
  have hw : ∀ j : Fin 8448, weights (S q k) (ix3 h i j) = w (scores q k h ⟨i.val, by omega⟩ j - M) := fun j => by
    rw [weights_apply, S_apply, dot_eq hq hk, hM, ← EReal.coe_sub]
    rfl
  unfold value
  rw [mixed_apply, attended_eq _ _ _ _ _ _ M]
  refine Finset.sum_congr rfl fun j _ => ?_
  rw [normal_apply, sums_apply, hw, ← sum_w, Finset.sum_range]
  exact congrArg _ (congrArg _ (Finset.sum_congr rfl fun x _ => hw x))

end Cert.ReferenceIdeal.Hand

end
-- ==== Proof.Finite.lean ====
module

public import proofs.«01_k».proof.Proof.Attention
public import proofs.«01_k».proof.Proof.Gen.Pre_finite
public import Idealize.ShloMosaic.Lib.ReduceAll
public import Idealize.ShloMosaic.PureOps.Ideal

/-! What the precondition says: every query and every key is a real number. -/

@[expose] public section

noncomputable section

namespace Cert.Pre_finite.Hand

open Idealize.ShloMosaic Cert.Pre_finite Cert.Pre_finite.Gen Cert.Softmax

theorem inf : Ideal.ofBits .bf16 0x7F80#16 = ⊤ := by simp [Ideal.ofBits, Ideal.ieee]

/-- An entry smaller than infinity in absolute value. -/
theorem real_of_lt (x : Vec Ideal S6x8448x256 .bf16) (i : S6x8448x256.Idx)
    (h : cmpf (F := Ideal) (φ := .bf16) .olt (Host.absf x) (broadcastInDim S6x8448x256 ![] Facts.bcast_S_S6x8448x256 (constant S_ .bf16 0x7F80#16)) i = 1#1) :
    Real' (x i) := by
  have h : (max (x i) (-(x i)) : EReal) < Ideal.ofBits .bf16 0x7F80#16 := by
    have h : BitVec.ofBool (decide ((max (x i) (-(x i)) : EReal) < Ideal.ofBits .bf16 0x7F80#16)) = 1#1 := h
    by_contra hn
    rw [decide_eq_false hn] at h
    exact absurd h (by decide)
  rw [inf] at h
  have h1 : x i ≠ ⊤ := fun e => by simp [e] at h
  have h2 : x i ≠ ⊥ := fun e => by simp [e] at h
  exact ⟨(x i).toReal, (EReal.coe_toReal h1 h2).symm⟩

instance : Subsingleton S_.Idx := ⟨fun a b => funext fun i => i.elim0⟩

theorem finite (q k : Vec Ideal S6x8448x256 .bf16) (v : Vec Ideal S6x8448x128 .bf16) (h : fn (F := Ideal) q k v = fun _ => 1#1) :
    (∀ i, Real' (q i)) ∧ ∀ i, Real' (k i) := by
  have h := congrFun h (Shape.Idx.first Facts.h_S_)
  have h := IntOp.andi_eq_one.1 h
  exact ⟨fun i => real_of_lt q i (Host.reduce_andi_all _ _ _ _ _ h.1 i), fun i => real_of_lt k i (Host.reduce_andi_all _ _ _ _ _ h.2 i)⟩

end Cert.Pre_finite.Hand

end
-- ==== Proof.Project.lean ====
module

public import proofs.«01_k».proof.Proof.Gen.Kernel2Ideal.Value
public import Idealize.ShloMosaic.Lib.Pointwise

/-! The input projection's grid points: what a point leaves in its block and in the carried scratch, as payloads. -/

@[expose] public section

set_option maxRecDepth 16384

noncomputable section

namespace Cert.Kernel2Ideal.Hand

open Idealize.ShloMosaic Idealize.ShloMosaic.TcCoe
open Cert.Kernel2Ideal.Gen

variable {F : FTy → Type} [FloatOps F]

theorem zero_offset : (![0, 0] : Fin 2 → Nat) = fun _ => 0 := funext fun a => by fin_cases a <;> rfl

theorem mod_slices_1_0 : S8x12288.Slices ![1, 0] S1x2048 := ⟨rfl, inb_S8x12288_S1x2048_1_0⟩
theorem mod_slices_0_0 : S8x12288.Slices ![0, 0] S1x2048 := ⟨rfl, inb_S8x12288_S1x2048_0_0⟩
theorem mod_slices_1_2048 : S8x12288.Slices ![1, 2048] S1x2048 := ⟨rfl, inb_S8x12288_S1x2048_1_2048⟩
theorem mod_slices_0_2048 : S8x12288.Slices ![0, 2048] S1x2048 := ⟨rfl, inb_S8x12288_S1x2048_0_2048⟩

/-- The normalized rows a first column block computes from its inputs. -/
def fresh (i : grid0.Coords) (x : Vec F S768x2048 .f32) (mod : Vec F S8x12288 .f32) (nw : Vec F S1x2048 .f32) : Vec F S768x2048 .bf16 :=
  k0_pay1 (k0_pay3 (BitVec.ofNat 32 (i 0).val) x nw
    (extractStridedSlice S1x2048 ![1, 0] mod mod_slices_1_0) (extractStridedSlice S1x2048 ![0, 0] mod mod_slices_0_0)
    (extractStridedSlice S1x2048 ![1, 2048] mod mod_slices_1_2048) (extractStridedSlice S1x2048 ![0, 2048] mod mod_slices_0_2048))

section
variable (c : Dev nD) (i : grid0.Coords) (a2 : Memref sig .tc .vmem S768x2048 .f32) (h2 : a2.IsWhole) (a3 : Memref sig .tc .vmem S8x12288 .f32) (h3 : a3.IsWhole)
  (a4 : Memref sig .tc .vmem S1x2048 .f32) (h4 : a4.IsWhole) (a5 : Memref sig .tc .vmem S2048x768 .bf16) (h5 : a5.IsWhole)
  (a6 : Memref sig .tc .vmem S768x768 .f32) (h6 : a6.IsWhole) (a7 : Memref sig .tc .vmem S768x2048 .bf16) (h7 : a7.IsWhole)
  (x : Vec F S768x2048 .f32) (mod : Vec F S8x12288 .f32) (nw : Vec F S1x2048 .f32) (w : Vec F S2048x768 .bf16) (s : Vec F S768x2048 .bf16)

/-- At a first column block the scratch ends with the normalized rows. -/
theorem scratch_first (hc : cond0_0 i) : sout0_A_0 c i a2 h2 a3 h3 a4 h4 a5 h5 a6 h6 a7 h7 hc x mod nw w = fresh i x mod nw := by
  unfold sout0_A_0
  rw [View.read_writes_eq_canon _ _ _ (scover0_A_0 c i a2 h2 a3 h3 a4 h4 a5 h5 a6 h6 a7 h7 hc x mod nw w)]
  unfold kernelRun0_A
  dsimp only
  sl_unfold_words
  rw [View.canon_unit_zero (S := S768x2048) zero_offset]
  simp only [View.readAt_eq_ld, h2.read_unread, h3.read_unread, h4.read_unread, View.ld_unit_zero (S := S768x2048) zero_offset,
    View.ld_unit_zero (S := S1x2048) zero_offset, View.ld_unit]
  rfl

/-- … and its block with their product. -/
theorem out_first (hc : cond0_0 i) : out0_A_4 c i a2 h2 a3 h3 a4 h4 a5 h5 a6 h6 a7 h7 hc x mod nw w = k0_pay2 (fresh i x mod nw) w := by
  unfold out0_A_4
  rw [View.read_writes_eq_canon _ _ _ (cover0_A_4 c i a2 h2 a3 h3 a4 h4 a5 h5 a6 h6 a7 h7 hc x mod nw w)]
  unfold kernelRun0_A
  dsimp only
  sl_unfold_words
  rw [View.canon_unit_zero (S := S768x768) zero_offset, View.readCov_unit_zero (S := S768x2048) _ zero_offset]
  simp only [View.readAt_eq_ld, h2.read_unread, h3.read_unread, h4.read_unread, h5.read_unread, View.ld_unit_zero (S := S768x2048) zero_offset,
    View.ld_unit_zero (S := S1x2048) zero_offset, View.ld_unit_zero (S := S2048x768) zero_offset, View.ld_unit]
  rfl

/-- At a later one the block ends with the product of what the scratch holds. -/
theorem out_later (hc : ¬cond0_0 i) : out0_B_4 c i a2 h2 a3 h3 a4 h4 a5 h5 a6 h6 a7 h7 hc x mod nw w s = k0_pay2 s w := by
  unfold out0_B_4
  rw [View.read_writes_eq_canon _ _ _ (cover0_B_4 c i a2 h2 a3 h3 a4 h4 a5 h5 a6 h6 a7 h7 hc x mod nw w s)]
  unfold kernelRun0_B
  dsimp only
  sl_unfold_words
  rw [View.canon_unit_zero (S := S768x768) zero_offset]
  simp only [View.readAt_eq_ld, h5.read_unread, h7.read_unread, View.ld_unit_zero (S := S768x2048) zero_offset,
    View.ld_unit_zero (S := S2048x768) zero_offset]

end

variable (m : (ℓ : Loc nD τ sig) → Buf (Elt F) ℓ) (c : Dev nD)

theorem lt_N (t : Fin cfg0.N) : t.val < 66 := lt_of_lt_of_eq t.isLt N_0

/-- The first point of a row of blocks. -/
def head (t : Fin cfg0.N) : Fin cfg0.N := ⟨6 * (t.val / 6), lt_of_lt_of_eq (b := 66) (by have := lt_N t; omega) N_0.symm⟩

theorem outs_first (t : Fin cfg0.N) (h : t.val % 6 = 0) : outsAt0 m c t.val t.isLt
    = (k0_pay2 (fresh (grid0.coords t) (iblk m c 0 t) (iblk m c 1 t) (iblk m c 2 t)) (iblk m c 3 t),
      fresh (grid0.coords t) (iblk m c 0 t) (iblk m c 1 t) (iblk m c 2 t)) :=
  (outsAt0_A m c t h).trans (congrArg₂ Prod.mk (out_first c (grid0.coords t) (ms0_0 t) (hs0_0 t) (ms0_1 t) (hs0_1 t) (ms0_2 t) (hs0_2 t) (ms0_3 t) (hs0_3 t) (ms0_4 t) (hs0_4 t) scM0_0 (Memref.isWhole_whole _)
    (iblk m c 0 t) (iblk m c 1 t) (iblk m c 2 t) (iblk m c 3 t) ((hcond0_0 t).mpr h))
    (scratch_first c (grid0.coords t) (ms0_0 t) (hs0_0 t) (ms0_1 t) (hs0_1 t) (ms0_2 t) (hs0_2 t) (ms0_3 t) (hs0_3 t) (ms0_4 t) (hs0_4 t) scM0_0 (Memref.isWhole_whole _)
    (iblk m c 0 t) (iblk m c 1 t) (iblk m c 2 t) (iblk m c 3 t) ((hcond0_0 t).mpr h)))

theorem outs_later (t : Fin cfg0.N) (h : ¬t.val % 6 = 0) (s : Vec F S768x2048 .bf16)
    (hs : (outsAt0 m c (t.val - 1) (Nat.lt_of_le_of_lt (Nat.sub_le _ _) t.isLt)).2 = s) :
    outsAt0 m c t.val t.isLt = (k0_pay2 s (iblk m c 3 t), s) := by
  subst hs
  exact (outsAt0_B m c t h).trans (congrArg₂ Prod.mk (out_later c (grid0.coords t) (ms0_0 t) (hs0_0 t) (ms0_1 t) (hs0_1 t) (ms0_2 t) (hs0_2 t) (ms0_3 t) (hs0_3 t) (ms0_4 t) (hs0_4 t) scM0_0 (Memref.isWhole_whole _)
    (iblk m c 0 t) (iblk m c 1 t) (iblk m c 2 t) (iblk m c 3 t) _ (fun h' => h ((hcond0_0 t).mp h'))) rfl)

/-- After any point: the block is the product of the rows its row of blocks started with, and the scratch holds these. -/
theorem outs_at : ∀ (n : ℕ) (t : Fin cfg0.N), t.val = n → outsAt0 m c t.val t.isLt
    = (k0_pay2 (fresh (grid0.coords (head t)) (iblk m c 0 (head t)) (iblk m c 1 (head t)) (iblk m c 2 (head t))) (iblk m c 3 t),
      fresh (grid0.coords (head t)) (iblk m c 0 (head t)) (iblk m c 1 (head t)) (iblk m c 2 (head t)))
  | n, t, e => by
    by_cases h : t.val % 6 = 0
    · have hh : head t = t := Fin.ext (show 6 * (t.val / 6) = t.val by omega)
      rw [hh]
      exact outs_first m c t h
    · have hlt := t.isLt
      have hh : head ⟨t.val - 1, by omega⟩ = head t := Fin.ext (show 6 * ((t.val - 1) / 6) = 6 * (t.val / 6) by omega)
      have ih := congrArg Prod.snd (outs_at (n - 1) ⟨t.val - 1, by omega⟩ (show t.val - 1 = n - 1 by rw [e]))
      rw [hh] at ih
      exact outs_later m c t h _ ih
  termination_by n => n
  decreasing_by omega

end Cert.Kernel2Ideal.Hand

end
-- ==== Proof.Payload.lean ====
module

public import proofs.«01_k».proof.Proof.Gen.Kernel2Ideal.Skeleton
public import Idealize.ShloMosaic.Lib.Pointwise
public import Idealize.ShloMosaic.Lib.WordCmp

/-! The input projection's payloads, index by index. -/

@[expose] public section

set_option maxRecDepth 16384

noncomputable section

namespace Cert.Kernel2Ideal.Hand

open Idealize.ShloMosaic Idealize.ShloMosaic.TcCoe
open Cert.Kernel2Ideal.Gen

theorem pay2_apply (h : Vec Ideal S768x2048 .bf16) (w : Vec Ideal S2048x768 .bf16) (r j : Fin 768) :
    k0_pay2 h w (ix2 r j) = ∑ d : Fin 2048, h (ix2 r d) * w (ix2 d j) := by
  pointwise [k0_pay2]

/-- The mask of the rows past the first segment. -/
theorem mask_eq (p : ℕ) (r : Fin 768) (hp : p < 11) :
    IntOp.cmpi CmpIPredicate.sge (IntOp.addi (Scalar.muli (BitVec.ofNat 32 p) 768#32) (BitVec.ofNat 32 r.val)) 8192#32
      = BitVec.ofBool (decide (8192 ≤ 768 * p + r.val)) := by
  have e : IntOp.addi (Scalar.muli (BitVec.ofNat 32 p) 768#32) (BitVec.ofNat 32 r.val) = BitVec.ofNat 32 (768 * p + r.val) := by
    apply BitVec.eq_of_toNat_eq
    simp [IntOp.addi, Scalar.muli, IntOp.muli, BitVec.toNat_mul, BitVec.toNat_add, Nat.mul_comm]
  rw [e, WordCmp.cmpi_sge_ofNat (by omega) (by omega)]

theorem select_eq (b : Bool) (x y : EReal) : Scalar.select (BitVec.ofBool b) x y = if b then x else y := by
  cases b <;> rfl

theorem pay3_apply (p : ℕ) (hp : p < 11) (x : Vec Ideal S768x2048 .f32) (nw a1 a0 b1 b0 : Vec Ideal S1x2048 .f32) (r : Fin 768) (d : Fin 2048) :
    k0_pay1 (k0_pay3 (BitVec.ofNat 32 p) x nw a1 a0 b1 b0) (ix2 r d)
      = x (ix2 r d) * Ideal.rsqrt (Ideal.div (∑ e : Fin 2048, x (ix2 r e) * x (ix2 r e)) (Ideal.ofBits .f32 0x45000000#32) + Ideal.ofBits .f32 0x358637BD#32)
          * nw (ix2 0 d) * (1 + if 8192 ≤ 768 * p + r.val then b1 (ix2 0 d) else b0 (ix2 0 d))
        + if 8192 ≤ 768 * p + r.val then a1 (ix2 0 d) else a0 (ix2 0 d) := by
  pointwise [k0_pay1, k0_pay3]
  simp only [mask_eq p r hp, select_eq, decide_eq_true_eq]

end Cert.Kernel2Ideal.Hand

end
-- ==== Proof.Projection.lean ====
module

public import Idealize.ShloMosaic.PureOps.Ideal
public import Idealize.ShloMosaic.Lib.Pointwise

/-! The mathematics of the input projection: a normalized, modulated row times the weights. -/

@[expose] public section

noncomputable section

namespace Cert.Projection

open Idealize.ShloMosaic

abbrev Mat (a b : ℕ) : Type := (⟨2, ![a, b]⟩ : Shape).Idx → EReal

/-- A row divided by its root mean square, times the norm's weights, scaled and shifted. -/
def modulated (x nw scale shift : Fin 2048 → EReal) (d : Fin 2048) : EReal :=
  x d * Ideal.rsqrt (Ideal.div (∑ e : Fin 2048, x e * x e) (Ideal.ofBits .f32 0x45000000#32) + Ideal.ofBits .f32 0x358637BD#32)
    * nw d * (1 + scale d) + shift d

/-- The modulation row of token `i`. -/
def modRow (i : ℕ) : Fin 8 := if 8192 ≤ i then 1 else 0

/-- The projection of token `i` to column `j`. -/
def projected (x : Mat 8448 2048) (mod : Mat 8 12288) (nw : Mat 1 2048) (w : Mat 2048 4608) (i : Fin 8448) (j : Fin 4608) : EReal :=
  ∑ d : Fin 2048, modulated (fun e => x (ix2 i e)) (fun e => nw (ix2 0 e)) (fun e => mod (ix2 (modRow i.val) ⟨2048 + e.val, by omega⟩))
    (fun e => mod (ix2 (modRow i.val) ⟨e.val, by omega⟩)) d * w (ix2 d j)

/-- The result array. -/
def result (x : Mat 8448 2048) (mod : Mat 8 12288) (nw : Mat 1 2048) (w : Mat 2048 4608) : Mat 8448 4608 := fun i =>
  projected x mod nw w (i 0) (i 1)

end Cert.Projection

end
-- ==== Proof.Blocks2.lean ====
module

public import proofs.«01_k».proof.Proof.Project
public import proofs.«01_k».proof.Proof.Payload
public import proofs.«01_k».proof.Proof.Projection

/-! The projection's blocks, index by index, and the result array assembled from them. -/

@[expose] public section

noncomputable section

namespace Cert.Kernel2Ideal.Hand

open Idealize.ShloMosaic Idealize.ShloMosaic.TcCoe
open Idealize.ShloMosaic.Pipeline (Dat)
open Cert.Kernel2Ideal.Gen Cert.Projection

variable (m : (ℓ : Loc nD τ sig) → Buf (Elt Ideal) ℓ) (c : Dev nD)

/-- Point `t` is row block `t / 6`, column block `t % 6`. -/
theorem index_0 : ∀ t : Fin cfg0.N, win0_0.index t 0 = t.val / 6 ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = 0 ∧ win0_2.index t 1 = 0 := by decide +kernel
theorem index_3 : ∀ t : Fin cfg0.N, win0_3.index t 0 = 0 ∧ win0_3.index t 1 = t.val % 6 := by decide +kernel
theorem index_4 : ∀ t : Fin cfg0.N, win0_4.index t 0 = t.val / 6 ∧ win0_4.index t 1 = t.val % 6 := by decide +kernel
theorem coord_0 : ∀ t : Fin cfg0.N, (grid0.coords t 0).val = t.val / 6 := by decide +kernel

abbrev xs : Mat 8448 2048 := m ((c : Thread nD τ).loc main_arg0)
abbrev mods : Mat 8 12288 := m ((c : Thread nD τ).loc main_arg1)
abbrev nws : Mat 1 2048 := m ((c : Thread nD τ).loc main_arg2)
abbrev ws : Mat 2048 4608 := m ((c : Thread nD τ).loc main_arg3)

/-- The point's tokens. -/
theorem x_block (t : Fin cfg0.N) (r : Fin 768) (e : Fin 2048) : (iblk m c 0 t : Vec Ideal S768x2048 .f32) (ix2 r e)
    = xs m c (ix2 ⟨768 * (t.val / 6) + r.val, by have := lt_N t; omega⟩ e) := by
  unfold iblk
  show _ = m ((c : Thread nD τ).loc main_arg0) _
  rw [View.read_apply, ← V_main_arg0 m c]
  refine congrArg (V m c main_arg0) (funext fun a => Fin.ext ?_)
  have hi := index_0 t
  fin_cases a
  · show win0_0.index t 0 * 768 + 1 * r.val = 768 * (t.val / 6) + r.val
    omega
  · show win0_0.index t 1 * 2048 + 1 * e.val = e.val
    omega

theorem mod_block (t : Fin cfg0.N) (r : Fin 8) (e : Fin 12288) : (iblk m c 1 t : Vec Ideal S8x12288 .f32) (ix2 r e) = mods m c (ix2 r e) := by
  unfold iblk
  show _ = m ((c : Thread nD τ).loc main_arg1) _
  rw [View.read_apply, ← V_main_arg1 m c]
  refine congrArg (V m c main_arg1) (funext fun a => Fin.ext ?_)
  have hi := index_1 t
  fin_cases a
  · show win0_1.index t 0 * 8 + 1 * r.val = r.val
    omega
  · show win0_1.index t 1 * 12288 + 1 * e.val = e.val
    omega

theorem nw_block (t : Fin cfg0.N) (e : Fin 2048) : (iblk m c 2 t : Vec Ideal S1x2048 .f32) (ix2 0 e) = nws m c (ix2 0 e) := by
  unfold iblk
  show _ = m ((c : Thread nD τ).loc main_arg2) _
  rw [View.read_apply, ← V_main_arg2 m c]
  refine congrArg (V m c main_arg2) (funext fun a => Fin.ext ?_)
  have hi := index_2 t
  fin_cases a
  · show win0_2.index t 0 * 1 + 1 * 0 = 0
    omega
  · show win0_2.index t 1 * 2048 + 1 * e.val = e.val
    omega

/-- The point's weights. -/
theorem w_block (t : Fin cfg0.N) (d : Fin 2048) (j : Fin 768) : (iblk m c 3 t : Vec Ideal S2048x768 .bf16) (ix2 d j)
    = ws m c (ix2 d ⟨768 * (t.val % 6) + j.val, by omega⟩) := by
  unfold iblk
  show _ = m ((c : Thread nD τ).loc main_arg3) _
  rw [View.read_apply, ← V_main_arg3 m c]
  refine congrArg (V m c main_arg3) (funext fun a => Fin.ext ?_)
  have hi := index_3 t
  fin_cases a
  · show win0_3.index t 0 * 2048 + 1 * d.val = d.val
    omega
  · show win0_3.index t 1 * 768 + 1 * j.val = 768 * (t.val % 6) + j.val
    omega

theorem pick_eq (b : Prop) [Decidable b] (f : Fin 8 → EReal) : (if b then f 1 else f 0) = f (if b then 1 else 0) := by
  split <;> rfl

/-- A slice of one row of the modulation. -/
theorem mod_slice (g : Vec Ideal S8x12288 .f32) (k o : ℕ) (h : S8x12288.Slices ![k, o] S1x2048) (r : Fin 8) (hr : r.val = k) (d : Fin 2048) (ho : o + d.val < 12288) :
    extractStridedSlice S1x2048 ![k, o] g h (ix2 0 d) = g (ix2 r ⟨o + d.val, ho⟩) := by
  subst hr
  pointwise

theorem fresh_apply (t : Fin cfg0.N) (r : Fin 768) (d : Fin 2048) :
    fresh (F := Ideal) (grid0.coords t) (iblk m c 0 t) (iblk m c 1 t) (iblk m c 2 t) (ix2 r d)
      = modulated (fun e => xs m c (ix2 ⟨768 * (t.val / 6) + r.val, by have := lt_N t; omega⟩ e)) (fun e => nws m c (ix2 0 e))
          (fun e => mods m c (ix2 (modRow (768 * (t.val / 6) + r.val)) ⟨2048 + e.val, by omega⟩))
          (fun e => mods m c (ix2 (modRow (768 * (t.val / 6) + r.val)) ⟨e.val, by omega⟩)) d := by
  have ht := lt_N t
  unfold fresh
  rw [coord_0 t, pay3_apply _ (by omega)]
  rw [mod_slice _ 1 0 _ 1 rfl d (by omega), mod_slice _ 0 0 _ 0 rfl d (by omega), mod_slice _ 1 2048 _ 1 rfl d (by omega), mod_slice _ 0 2048 _ 0 rfl d (by omega)]
  simp only [x_block, mod_block, nw_block, Nat.zero_add]
  unfold modulated modRow
  rw [pick_eq _ (fun k => mods m c (ix2 k ⟨2048 + d.val, by omega⟩)), pick_eq _ (fun k => mods m c (ix2 k ⟨d.val, by omega⟩))]

/-- What a point writes back. -/
theorem block_apply (t : Fin cfg0.N) (r j : Fin 768) : (outsAt0 m c t.val t.isLt).1 (ix2 r j)
    = projected (xs m c) (mods m c) (nws m c) (ws m c) ⟨768 * (t.val / 6) + r.val, by have := lt_N t; omega⟩ ⟨768 * (t.val % 6) + j.val, by omega⟩ := by
  have hh : (head t).val / 6 = t.val / 6 := show 6 * (t.val / 6) / 6 = t.val / 6 by omega
  rw [outs_at m c _ t rfl]
  refine (pay2_apply _ _ r j).trans (Finset.sum_congr rfl fun d _ => ?_)
  rw [fresh_apply, w_block]
  simp only [hh]

set_option maxRecDepth 65536 in
theorem flushed_eq (t : Fin cfg0.N) :
    (dats m 0 c).flushed 4 t = ((cfg0.win 4).blk t).view.read (Elt Ideal) (result (xs m c) (mods m c) (nws m c) (ws m c)) := by
  rw [Cert.Kernel2Ideal.Value.flushed4]
  funext j
  have h0 : (j 0).val < 768 := (j 0).isLt
  have h1 : (j 1).val < 768 := (j 1).isLt
  have ht := lt_N t
  have hi := index_4 t
  have e : (fun a => j a : S768x768.Idx) = ix2 ⟨(j 0).val, h0⟩ ⟨(j 1).val, h1⟩ := by
    funext a
    match a with
    | ⟨0, _⟩ => rfl
    | ⟨1, _⟩ => rfl
  rw [View.read_apply]
  refine (congrArg (outsAt0 m c t.val t.isLt).1 e).trans ((block_apply m c t ⟨(j 0).val, h0⟩ ⟨(j 1).val, h1⟩).trans (Eq.symm ?_))
  refine congrArg₂ (projected (xs m c) (mods m c) (nws m c) (ws m c)) (Fin.ext ?_) (Fin.ext ?_)
  · show win0_4.index t 0 * 768 + 1 * (j 0).val = 768 * (t.val / 6) + (j 0).val
    omega
  · show win0_4.index t 1 * 768 + 1 * (j 1).val = 768 * (t.val % 6) + (j 1).val
    omega

theorem cover (i : S8448x4608.Idx) : ∃ t : Fin cfg0.N, (cfg0.win 4).flush t = true ∧ i ∈ ((cfg0.win 4).blk t).view.set := by
  have h0 : (i 0).val < 8448 := (i 0).isLt
  have h1 : (i 1).val < 4608 := (i 1).isLt
  let t : Fin cfg0.N := ⟨6 * ((i 0).val / 768) + (i 1).val / 768, lt_of_lt_of_eq (b := 66) (by omega) N_0.symm⟩
  have hi := index_4 t
  have e : t.val = 6 * ((i 0).val / 768) + (i 1).val / 768 := rfl
  refine ⟨t, flush0_4 t, ?_⟩
  show i ∈ ((View.whole main_v0).slice (win0_4.rect t)).set
  rw [View.set_slice_whole, Rect.mem_set_unit]
  intro a
  match a with
  | ⟨0, _⟩ =>
    show win0_4.index t 0 * 768 ≤ (i 0).val ∧ (i 0).val < win0_4.index t 0 * 768 + 768
    omega
  | ⟨1, _⟩ =>
    show win0_4.index t 1 * 768 ≤ (i 1).val ∧ (i 1).val < win0_4.index t 1 * 768 + 768
    omega

/-- The result array after the run. -/
theorem final : (dats m 0 c).arrAt 4 cfg0.N = result (xs m c) (mods m c) (nws m c) (ws m c) :=
  (dats m 0 c).arrAt_eq_of_cover 4 (result (xs m c) (mods m c) (nws m c) (ws m c)) (fun t _ => flushed_eq m c t) cover

end Cert.Kernel2Ideal.Hand

end
-- ==== Proof.Reference2.lean ====
module

public import proofs.«01_k».proof.Proof.Projection
public import proofs.«01_k».proof.Proof.Gen.Reference2Ideal.Run
public import Idealize.ShloMosaic.Lib.Pointwise

/-! The projection's reference at an index. -/

@[expose] public section

set_option maxRecDepth 16384

noncomputable section

namespace Cert.Reference2Ideal.Hand

open Idealize.ShloMosaic Idealize.ShloMosaic.TcCoe
open Cert.Reference2Ideal Cert.Reference2Ideal.Gen Cert.Projection

/-- A sum along the last axis, from zero. -/
theorem reduce_add {a n : ℕ} {u : Shape} (x : FVec Ideal ⟨2, ![a, n]⟩ .f32) (init : FVec Ideal u .f32)
    (h : (⟨2, ![a, n]⟩ : Shape).ReducesTo [1] ⟨1, ![a]⟩) (hu : 0 < u.numel) (i : Fin a) :
    Host.reduceAdd x init h hu (ix1 i) = init (Shape.Idx.first hu) + ∑ k : Fin n, x (ix2 i k) := by
  simp only [pointwise, Ideal.hostReduceAdd_def]

section
variable (x : Vec Ideal S8448x2048 .f32) (mod : Vec Ideal S8x12288 .f32) (nw : Vec Ideal S1x2048 .f32) (w : Vec Ideal S2048x4608 .bf16)

/-- The tokens of the first segment. -/
def tokens0 : Vec Ideal S8192x2048 .f32 := extractStridedSlice S8192x2048 ![0, 0] x slices_S8448x2048_S8192x2048_0_0

/-- Its modulation. -/
def modulation0 : Vec Ideal S12288 .f32 := shapeCast _ (extractStridedSlice S1x12288 ![0, 0] mod slices_S8x12288_S1x12288_0_0) shapeCasts_S1x12288_S12288

/-- The sums of squares of rows. -/
def squares0 (y : Vec Ideal S8192x2048 .f32) : Vec Ideal S8192 .f32 :=
  Host.reduceAdd (F := Ideal) (φ := .f32) (mulf (F := Ideal) (φ := .f32) y y) (constant S_ .f32 0x00000000#32) reducesTo_S8192x2048_S8192_d1 h_S_

/-- Rows normalized by given sums of squares, and modulated. -/
def rows0 (y : Vec Ideal S8192x2048 .f32) (s : Vec Ideal S8192 .f32) (g : Vec Ideal S12288 .f32) : Vec Ideal S8192x2048 .f32 :=
  addf (F := Ideal) (φ := .f32) (mulf (mulf (mulf y (broadcastInDim S8192x2048 ![0, 1] bcast_S8192x1_S8192x2048_0_1 (Host.rsqrt (addf (Host.divf (broadcastInDim S8192x1 ![0] bcast_S8192_S8192x1_0 s) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ nw shapeCasts_S1x2048_S2048)))) (broadcastInDim S8192x2048 ![0, 1] bcast_S1x2048_S8192x2048_0_1 (broadcastInDim S1x2048 ![1] bcast_S2048_S1x2048_1 (addf (broadcastInDim S2048 ![] bcast_S_S2048 (constant S_ .f32 0x3F800000#32)) (extractStridedSlice S2048 ![2048] g slices_S12288_S2048_2048))))) (broadcastInDim S8192x2048 ![0, 1] bcast_S1x2048_S8192x2048_0_1 (broadcastInDim S1x2048 ![1] bcast_S2048_S1x2048_1 (extractStridedSlice S2048 ![0] g slices_S12288_S2048_0)))

/-- Rows times the weights. -/
def product0 (h : Vec Ideal S8192x2048 .f32) : Vec Ideal S8192x4608 .f32 :=
  Host.dotGeneral dot_S8192x2048_S2048x4608_S8192x4608_1_0_0_1_n_n none (show FVec Ideal S8192x2048 .f32 from h) (extf (F := Ideal) .f32 w bitsLt_bf16_f32)

theorem tokens0_apply (i : Fin 8192) (e : Fin 2048) : tokens0 x (ix2 i e) = x (ix2 ⟨0 + i.val, by omega⟩ e) := by
  pointwise [tokens0]

theorem modulation0_apply (e : Fin 12288) : modulation0 mod (ix1 e) = mod (ix2 0 e) := by
  pointwise [modulation0]

theorem squares0_apply (y : Vec Ideal S8192x2048 .f32) (i : Fin 8192) : squares0 y (ix1 i) = ∑ e : Fin 2048, y (ix2 i e) * y (ix2 i e) := by
  refine (reduce_add _ _ _ _ i).trans ?_
  pointwise

theorem rows0_apply (y : Vec Ideal S8192x2048 .f32) (s : Vec Ideal S8192 .f32) (g : Vec Ideal S12288 .f32) (i : Fin 8192) (d : Fin 2048) :
    rows0 nw y s g (ix2 i d) = y (ix2 i d) * Ideal.rsqrt (Ideal.div (s (ix1 i)) (Ideal.ofBits .f32 0x45000000#32) + Ideal.ofBits .f32 0x358637BD#32)
      * nw (ix2 0 d) * (1 + g (ix1 ⟨2048 + d.val, by omega⟩)) + g (ix1 ⟨d.val, by omega⟩) := by
  pointwise [rows0]

theorem product0_apply (h : Vec Ideal S8192x2048 .f32) (i : Fin 8192) (j : Fin 4608) : product0 w h (ix2 i j) = ∑ d : Fin 2048, h (ix2 i d) * w (ix2 d j) := by
  pointwise [product0]

/-- The segment's projection. -/
def part0 : Vec Ideal S8192x4608 .f32 := product0 w (rows0 nw (tokens0 x) (squares0 (tokens0 x)) (modulation0 mod))

theorem part0_apply (i : Fin 8192) (j : Fin 4608) : part0 x mod nw w (ix2 i j) = projected x mod nw w ⟨0 + i.val, by omega⟩ j := by
  have hs : modRow (0 + i.val) = 0 := if_neg (by omega)
  unfold part0 projected modulated
  rw [product0_apply]
  simp only [rows0_apply, squares0_apply, tokens0_apply, modulation0_apply, hs]

end

section
variable (x : Vec Ideal S8448x2048 .f32) (mod : Vec Ideal S8x12288 .f32) (nw : Vec Ideal S1x2048 .f32) (w : Vec Ideal S2048x4608 .bf16)

/-- The tokens of the second segment. -/
def tokens1 : Vec Ideal S256x2048 .f32 := extractStridedSlice S256x2048 ![8192, 0] x slices_S8448x2048_S256x2048_8192_0

/-- Its modulation. -/
def modulation1 : Vec Ideal S12288 .f32 := shapeCast _ (extractStridedSlice S1x12288 ![1, 0] mod slices_S8x12288_S1x12288_1_0) shapeCasts_S1x12288_S12288

/-- The sums of squares of rows. -/
def squares1 (y : Vec Ideal S256x2048 .f32) : Vec Ideal S256 .f32 :=
  Host.reduceAdd (F := Ideal) (φ := .f32) (mulf (F := Ideal) (φ := .f32) y y) (constant S_ .f32 0x00000000#32) reducesTo_S256x2048_S256_d1 h_S_

/-- Rows normalized by given sums of squares, and modulated. -/
def rows1 (y : Vec Ideal S256x2048 .f32) (s : Vec Ideal S256 .f32) (g : Vec Ideal S12288 .f32) : Vec Ideal S256x2048 .f32 :=
  addf (F := Ideal) (φ := .f32) (mulf (mulf (mulf y (broadcastInDim S256x2048 ![0, 1] bcast_S256x1_S256x2048_0_1 (Host.rsqrt (addf (Host.divf (broadcastInDim S256x1 ![0] bcast_S256_S256x1_0 s) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 (shapeCast _ nw shapeCasts_S1x2048_S2048)))) (broadcastInDim S256x2048 ![0, 1] bcast_S1x2048_S256x2048_0_1 (broadcastInDim S1x2048 ![1] bcast_S2048_S1x2048_1 (addf (broadcastInDim S2048 ![] bcast_S_S2048 (constant S_ .f32 0x3F800000#32)) (extractStridedSlice S2048 ![2048] g slices_S12288_S2048_2048))))) (broadcastInDim S256x2048 ![0, 1] bcast_S1x2048_S256x2048_0_1 (broadcastInDim S1x2048 ![1] bcast_S2048_S1x2048_1 (extractStridedSlice S2048 ![0] g slices_S12288_S2048_0)))

/-- Rows times the weights. -/
def product1 (h : Vec Ideal S256x2048 .f32) : Vec Ideal S256x4608 .f32 :=
  Host.dotGeneral dot_S256x2048_S2048x4608_S256x4608_1_0_0_1_n_n none (show FVec Ideal S256x2048 .f32 from h) (extf (F := Ideal) .f32 w bitsLt_bf16_f32)

theorem tokens1_apply (i : Fin 256) (e : Fin 2048) : tokens1 x (ix2 i e) = x (ix2 ⟨8192 + i.val, by omega⟩ e) := by
  pointwise [tokens1]

theorem modulation1_apply (e : Fin 12288) : modulation1 mod (ix1 e) = mod (ix2 1 e) := by
  pointwise [modulation1]

theorem squares1_apply (y : Vec Ideal S256x2048 .f32) (i : Fin 256) : squares1 y (ix1 i) = ∑ e : Fin 2048, y (ix2 i e) * y (ix2 i e) := by
  refine (reduce_add _ _ _ _ i).trans ?_
  pointwise

theorem rows1_apply (y : Vec Ideal S256x2048 .f32) (s : Vec Ideal S256 .f32) (g : Vec Ideal S12288 .f32) (i : Fin 256) (d : Fin 2048) :
    rows1 nw y s g (ix2 i d) = y (ix2 i d) * Ideal.rsqrt (Ideal.div (s (ix1 i)) (Ideal.ofBits .f32 0x45000000#32) + Ideal.ofBits .f32 0x358637BD#32)
      * nw (ix2 0 d) * (1 + g (ix1 ⟨2048 + d.val, by omega⟩)) + g (ix1 ⟨d.val, by omega⟩) := by
  pointwise [rows1]

theorem product1_apply (h : Vec Ideal S256x2048 .f32) (i : Fin 256) (j : Fin 4608) : product1 w h (ix2 i j) = ∑ d : Fin 2048, h (ix2 i d) * w (ix2 d j) := by
  pointwise [product1]

/-- The segment's projection. -/
def part1 : Vec Ideal S256x4608 .f32 := product1 w (rows1 nw (tokens1 x) (squares1 (tokens1 x)) (modulation1 mod))

theorem part1_apply (i : Fin 256) (j : Fin 4608) : part1 x mod nw w (ix2 i j) = projected x mod nw w ⟨8192 + i.val, by omega⟩ j := by
  have hs : modRow (8192 + i.val) = 1 := if_pos (by omega)
  unfold part1 projected modulated
  rw [product1_apply]
  simp only [rows1_apply, squares1_apply, tokens1_apply, modulation1_apply, hs]

end

/-- The whole result: the two segments one after the other. -/
def value (x : Vec Ideal S8448x2048 .f32) (mod : Vec Ideal S8x12288 .f32) (nw : Vec Ideal S1x2048 .f32) (w : Vec Ideal S2048x4608 .bf16) : Vec Ideal S8448x4608 .f32 :=
  concatenate S8448x4608 0 [⟨S8192x4608, part0 x mod nw w⟩, ⟨S256x4608, part1 x mod nw w⟩] concatenates_S8192x4608_S256x4608_S8448x4608_d0

/-- Two arrays of rows one after the other. -/
theorem stacked_apply (a : Vec Ideal S8192x4608 .f32) (b : Vec Ideal S256x4608 .f32) (i : Fin 8448) (j : Fin 4608) :
    concatenate S8448x4608 0 [⟨S8192x4608, a⟩, ⟨S256x4608, b⟩] concatenates_S8192x4608_S256x4608_S8448x4608_d0 (ix2 i j)
      = if h : i.val < 8192 then a (ix2 ⟨i.val, h⟩ j) else b (ix2 ⟨i.val - 8192, by omega⟩ j) := by
  pointwise

theorem value_apply (x : Vec Ideal S8448x2048 .f32) (mod : Vec Ideal S8x12288 .f32) (nw : Vec Ideal S1x2048 .f32) (w : Vec Ideal S2048x4608 .bf16)
    (i : Fin 8448) (j : Fin 4608) : value x mod nw w (ix2 i j) = projected x mod nw w i j := by
  unfold value
  rw [stacked_apply]
  split
  · rename_i h
    rw [part0_apply]
    exact congrArg (projected x mod nw w · j) (Fin.ext (Nat.zero_add _))
  · rename_i h
    rw [part1_apply]
    exact congrArg (projected x mod nw w · j) (Fin.ext (show 8192 + (i.val - 8192) = i.val by omega))

end Cert.Reference2Ideal.Hand

end
-- ==== Proof.Routing.lean ====
module

public import proofs.«01_k».proof.Proof.Projection
public import proofs.«01_k».proof.Proof.Softmax

/-! The mathematics of the output projection: the gated residual, its normalized and modulated rows, and the softmax of the routing
    logits. The logits are a product with the router taken in two parts, the second of which vanishes for real numbers. -/

@[expose] public section

noncomputable section

namespace Cert.Routing

open Idealize.ShloMosaic Cert.Projection Cert.Softmax

/-! ## Real numbers among the extended reals -/

theorem real_add {x y : EReal} (hx : Real' x) (hy : Real' y) : Real' (x + y) := by
  obtain ⟨a, rfl⟩ := hx; obtain ⟨b, rfl⟩ := hy; exact ⟨a + b, (EReal.coe_add a b).symm⟩

theorem real_mul {x y : EReal} (hx : Real' x) (hy : Real' y) : Real' (x * y) := by
  obtain ⟨a, rfl⟩ := hx; obtain ⟨b, rfl⟩ := hy; exact ⟨a * b, (EReal.coe_mul a b).symm⟩

theorem real_sum {ι : Type*} (t : Finset ι) (f : ι → EReal) (hf : ∀ i, Real' (f i)) : Real' (∑ i ∈ t, f i) := by
  choose g hg using hf
  exact ⟨∑ i ∈ t, g i, by rw [coe_sum]; exact Finset.sum_congr rfl fun i _ => hg i⟩

theorem real_sub_self {x : EReal} (hx : Real' x) : x - x = 0 := by
  obtain ⟨a, rfl⟩ := hx
  rw [← EReal.coe_sub, sub_self, EReal.coe_zero]

theorem width : Ideal.ofBits .f32 0x45000000#32 = ((2048 : ℝ) : EReal) := by
  simp [Ideal.ofBits, Ideal.ieee]
  rw [← EReal.coe_mul]
  norm_num

/-- The norm's small constant is a positive real number. -/
theorem small : ∃ r : ℝ, 0 < r ∧ Ideal.ofBits .f32 0x358637BD#32 = (r : EReal) := by
  refine ⟨8796093 * 2 ^ (-43 : ℤ), by positivity, ?_⟩
  simp [Ideal.ofBits, Ideal.ieee]

/-- Of real inputs a normalized, modulated row is real. -/
theorem real_modulated {x nw scale shift : Fin 2048 → EReal} (hx : ∀ e, Real' (x e)) (hn : ∀ e, Real' (nw e)) (hc : ∀ e, Real' (scale e))
    (hs : ∀ e, Real' (shift e)) (d : Fin 2048) : Real' (modulated x nw scale shift d) := by
  choose g hg using hx
  obtain ⟨r, hr, er⟩ := small
  have hq : Real' (Ideal.rsqrt (Ideal.div (∑ e : Fin 2048, x e * x e) (Ideal.ofBits .f32 0x45000000#32) + Ideal.ofBits .f32 0x358637BD#32)) := by
    have e : ∑ e : Fin 2048, x e * x e = ((∑ e : Fin 2048, g e * g e : ℝ) : EReal) := by
      rw [coe_sum]
      exact Finset.sum_congr rfl fun i _ => by rw [hg, EReal.coe_mul]
    have hp : 0 ≤ ∑ e : Fin 2048, g e * g e := Finset.sum_nonneg fun i _ => mul_self_nonneg _
    rw [e, width, div_real _ (by norm_num), er, ← EReal.coe_mul, ← EReal.coe_add]
    have hpos : 0 < (∑ e : Fin 2048, g e * g e) * (2048 : ℝ)⁻¹ + r := by positivity
    generalize (∑ e : Fin 2048, g e * g e) * (2048 : ℝ)⁻¹ + r = z at hpos
    exact ⟨(Real.sqrt z)⁻¹, by rw [Ideal.rsqrt_coe, if_neg (not_lt.mpr hpos.le), if_neg hpos.ne']⟩
  unfold modulated
  have h1 : Real' (1 : EReal) := ⟨1, EReal.coe_one.symm⟩
  exact real_add (real_mul (real_mul (real_mul ⟨g d, hg d⟩ hq) (hn d)) (real_add h1 (hc d))) (hs d)

/-! ## The results -/

section
variable (ys ym : Mat 8448 768) (yh : Mat 8448 512) (x : Mat 8448 2048) (mod : Mat 8 12288) (nw : Mat 1 2048) (w : Mat 2048 2048) (r : Mat 2048 128)

/-- Token `i`'s new residual at column `j`. -/
def residual (i : Fin 8448) (j : Fin 2048) : EReal :=
  x (ix2 i j) + mod (ix2 (modRow i.val) ⟨4096 + j.val, by omega⟩)
    * (((∑ d : Fin 768, ys (ix2 i d) * w (ix2 ⟨d.val, by omega⟩ j)) + ∑ d : Fin 768, ym (ix2 i d) * w (ix2 ⟨768 + d.val, by omega⟩ j))
      + ∑ d : Fin 512, yh (ix2 i d) * w (ix2 ⟨1536 + d.val, by omega⟩ j))

/-- Its row, normalized and modulated. -/
def normed (i : Fin 8448) (j : Fin 2048) : EReal :=
  modulated (residual ys ym yh x mod w i) (fun e => nw (ix2 0 e)) (fun e => mod (ix2 (modRow i.val) ⟨8192 + e.val, by omega⟩))
    (fun e => mod (ix2 (modRow i.val) ⟨6144 + e.val, by omega⟩)) j

/-- Its logit for expert `k`. -/
def logit (i : Fin 8448) (k : Fin 16) : EReal := ∑ d : Fin 2048, normed ys ym yh x mod nw w i d * r (ix2 d ⟨k.val, by omega⟩)

end

/-- The softmax of sixteen logits, followed by zeros. -/
def affinity (l : Fin 16 → EReal) (k : Fin 128) : EReal :=
  if h : k.val < 16 then
    Ideal.div (Ideal.exp (l ⟨k.val, h⟩ - Finset.fold max ⊥ l Finset.univ)) (∑ x : Fin 16, Ideal.exp (l x - Finset.fold max ⊥ l Finset.univ))
  else 0

/-- A row of logits, masked past the sixteenth. -/
def masked (l : Fin 16 → EReal) (k : Fin 128) : EReal := if h : k.val < 16 then l ⟨k.val, h⟩ else ⊥

theorem masked_lo (l : Fin 16 → EReal) (k : Fin 16) : masked l (Fin.castAdd 112 k) = l k := dif_pos k.isLt

theorem masked_hi (l : Fin 16 → EReal) (k : Fin 112) : masked l (Fin.natAdd 16 k) = ⊥ := dif_neg (by simp)

/-- The mask does not change the maximum. -/
theorem max_masked (l : Fin 16 → EReal) : Finset.fold max ⊥ (masked l) Finset.univ = Finset.fold max ⊥ l Finset.univ := by
  refine le_antisymm ((Finset.fold_max_le _).mpr ⟨bot_le, fun k _ => ?_⟩) ((Finset.fold_max_le _).mpr ⟨bot_le, fun k _ => ?_⟩)
  · unfold masked
    split
    · exact (Finset.le_fold_max _).mpr (.inr ⟨_, Finset.mem_univ _, le_rfl⟩)
    · exact bot_le
  · exact (Finset.le_fold_max _).mpr (.inr ⟨Fin.castAdd 112 k, Finset.mem_univ _, (masked_lo l k).ge⟩)

/-- The largest of sixteen real logits is real. -/
theorem real_max {l : Fin 16 → EReal} (hl : ∀ k, Real' (l k)) : Real' (Finset.fold max ⊥ l Finset.univ) := by
  have := Real'.fold Finset.univ (b := ⊥) rfl l hl (hl 0)
  rwa [max_eq_right ((Finset.le_fold_max _).mpr (.inr ⟨0, Finset.mem_univ _, le_rfl⟩))] at this

theorem exp_bot_sub (M : EReal) : Ideal.exp (⊥ - M) = 0 := by
  rw [EReal.bot_sub]; rfl

/-- The softmax of the masked row is the softmax of the sixteen logits, and zero past them. -/
theorem softmax_masked {l : Fin 16 → EReal} (hl : ∀ k, Real' (l k)) (k : Fin 128) :
    Ideal.div (Ideal.exp (masked l k - Finset.fold max ⊥ (masked l) Finset.univ))
      (∑ x : Fin 128, Ideal.exp (masked l x - Finset.fold max ⊥ (masked l) Finset.univ)) = affinity l k := by
  rw [max_masked]
  have hs : ∑ x : Fin 128, Ideal.exp (masked l x - Finset.fold max ⊥ l Finset.univ) = ∑ x : Fin 16, Ideal.exp (l x - Finset.fold max ⊥ l Finset.univ) := by
    rw [show (∑ x : Fin 128, Ideal.exp (masked l x - Finset.fold max ⊥ l Finset.univ))
      = ∑ x : Fin (16 + 112), Ideal.exp (masked l x - Finset.fold max ⊥ l Finset.univ) from rfl, Fin.sum_univ_add]
    rw [Finset.sum_congr rfl fun (x : Fin 112) _ => show Ideal.exp (masked l (Fin.natAdd 16 x) - Finset.fold max ⊥ l Finset.univ) = 0 by
      rw [masked_hi, exp_bot_sub]]
    rw [Finset.sum_const_zero, add_zero]
    exact Finset.sum_congr rfl fun x _ => by rw [masked_lo]
  rw [hs]
  unfold affinity masked
  split
  · rfl
  · rw [exp_bot_sub]
    obtain ⟨M, hM⟩ := real_max hl
    choose g hg using hl
    have e : ∑ x : Fin 16, Ideal.exp (l x - Finset.fold max ⊥ l Finset.univ) = ((∑ x : Fin 16, Real.exp (g x - M) : ℝ) : EReal) := by
      rw [coe_sum]
      exact Finset.sum_congr rfl fun x _ => by rw [hM, hg, ← EReal.coe_sub]; rfl
    have hp : 0 < ∑ x : Fin 16, Real.exp (g x - M) := Finset.sum_pos (fun _ _ => Real.exp_pos _) ⟨0, Finset.mem_univ _⟩
    rw [e, div_real _ hp, zero_mul]

/-- Taken in two parts, of which the second is what the first leaves: for real numbers, the product. -/
theorem split_dot {n : ℕ} (h r : Fin n → EReal) (hh : ∀ d, Real' (h d)) (hr : ∀ d, Real' (r d)) :
    (∑ d, h d * r d) + ((∑ d, h d * (r d - r d)) + ∑ d, (h d - h d) * r d) = ∑ d, h d * r d := by
  simp only [real_sub_self (hh _), real_sub_self (hr _), mul_zero, zero_mul, Finset.sum_const_zero, add_zero]

end Cert.Routing

end
-- ==== Proof.Payload3.lean ====
module

public import proofs.«01_k».proof.Proof.Routing
public import proofs.«01_k».proof.Proof.Gen.Kernel3Ideal.Skeleton
public import Idealize.ShloMosaic.Lib.Pointwise
public import Idealize.ShloMosaic.Lib.WordCmp

/-! The output projection's payloads, index by index. -/

@[expose] public section

set_option maxRecDepth 16384

noncomputable section

namespace Cert.Kernel3Ideal.Hand

open Idealize.ShloMosaic Idealize.ShloMosaic.TcCoe
open Cert.Kernel3Ideal Cert.Kernel3Ideal.Gen Cert.Routing

/-- The mask of the rows past the first segment. -/
theorem mask_eq (p : ℕ) (r : Fin 384) (hp : p < 22) :
    IntOp.cmpi CmpIPredicate.sge (IntOp.addi (Scalar.muli (BitVec.ofNat 32 p) 384#32) (BitVec.ofNat 32 r.val)) 8192#32
      = BitVec.ofBool (decide (8192 ≤ 384 * p + r.val)) := by
  have e : IntOp.addi (Scalar.muli (BitVec.ofNat 32 p) 384#32) (BitVec.ofNat 32 r.val) = BitVec.ofNat 32 (384 * p + r.val) := by
    apply BitVec.eq_of_toNat_eq
    simp [IntOp.addi, Scalar.muli, IntOp.muli, BitVec.toNat_mul, BitVec.toNat_add, Nat.mul_comm]
  rw [e, WordCmp.cmpi_sge_ofNat (by omega) (by omega)]

theorem select_eq (b : Bool) (x y : EReal) : Scalar.select (BitVec.ofBool b) x y = if b then x else y := by
  cases b <;> rfl

theorem pay2_apply (i : grid0.Coords) (hp : (i 0).val < 22) (ys : Vec Ideal S384x768 .f32) (w0 : Vec Ideal S768x2048 .bf16) (ym : Vec Ideal S384x768 .f32)
    (w1 : Vec Ideal S768x2048 .bf16) (yh : Vec Ideal S384x512 .f32) (w2 : Vec Ideal S512x2048 .bf16) (g1 g0 : Vec Ideal S1x2048 .f32) (x : Vec Ideal S384x2048 .f32)
    (r : Fin 384) (j : Fin 2048) :
    k0_pay2 i ys w0 ym w1 yh w2 g1 g0 x (ix2 r j)
      = x (ix2 r j) + (if 8192 ≤ 384 * (i 0).val + r.val then g1 (ix2 0 j) else g0 (ix2 0 j))
        * (((∑ d : Fin 768, ys (ix2 r d) * w0 (ix2 d j)) + ∑ d : Fin 768, ym (ix2 r d) * w1 (ix2 d j)) + ∑ d : Fin 512, yh (ix2 r d) * w2 (ix2 d j)) := by
  pointwise [k0_pay2]
  simp only [mask_eq _ r hp, select_eq, decide_eq_true_eq]

theorem pay3_apply (p : ℕ) (hp : p < 22) (x : FVec Ideal S384x2048 .f32) (nw a1 a0 b1 b0 : Vec Ideal S1x2048 .f32) (r : Fin 384) (d : Fin 2048) :
    k0_pay3 (Scalar.muli (BitVec.ofNat 32 p) 384#32) x nw a1 a0 b1 b0 (ix2 r d)
      = x (ix2 r d) * Ideal.rsqrt (Ideal.div (∑ e : Fin 2048, x (ix2 r e) * x (ix2 r e)) (Ideal.ofBits .f32 0x45000000#32) + Ideal.ofBits .f32 0x358637BD#32)
          * nw (ix2 0 d) * (1 + if 8192 ≤ 384 * p + r.val then b1 (ix2 0 d) else b0 (ix2 0 d))
        + if 8192 ≤ 384 * p + r.val then a1 (ix2 0 d) else a0 (ix2 0 d) := by
  pointwise [k0_pay3]
  simp only [mask_eq p r hp, select_eq, decide_eq_true_eq]

/-- The named mask is the least extended real. -/
theorem mask_bot : Named.named (F := Ideal) Cert.Kernel3Ideal.κ "mask" (φ := .f32) 0xF149F2CA#32 = (⊥ : EReal) :=
  IdealRules.named_const.ideal_named_scalar _ _ _ _ rfl

theorem lane_eq (k : Fin 128) : IntOp.cmpi CmpIPredicate.slt (BitVec.ofNat 32 k.val) 16#32 = BitVec.ofBool (decide (k.val < 16)) := by
  rw [WordCmp.cmpi_slt_ofNat (by omega) (by omega)]

theorem pay1_apply (h : FVec Ideal S384x2048 .f32) (t : Vec Ideal S2048x128 .f32) (r : Fin 384) (hh : ∀ d, Cert.Softmax.Real' (h (ix2 r d)))
    (ht : ∀ i, Cert.Softmax.Real' (t i)) (k : Fin 128) :
    k0_pay1 h (truncf .bf16 h bitsLt_bf16_f32) t (ix2 r k) = affinity (fun k => ∑ d : Fin 2048, h (ix2 r d) * t (ix2 d ⟨k.val, by omega⟩)) k := by
  pointwise [k0_pay1]
  simp only [lane_eq, select_eq, decide_eq_true_eq, mask_bot]
  have e : ∀ x : Fin 128, (if x.val < 16 then (∑ d, h (ix2 r d) * t (ix2 d x))
      + ((∑ d, h (ix2 r d) * (t (ix2 d x) - t (ix2 d x))) + ∑ d, (h (ix2 r d) - h (ix2 r d)) * t (ix2 d x)) else (⊥ : EReal))
      = masked (fun k => ∑ d : Fin 2048, h (ix2 r d) * t (ix2 d ⟨k.val, by omega⟩)) x := fun x => by
    rw [split_dot _ _ hh fun d => ht (ix2 d x)]
    unfold masked
    split <;> rfl
  simp only [e]
  rw [show Ideal.ofBits .f32 4286578688#32 = ⊥ by simp [Ideal.ofBits, Ideal.ieee]]
  exact softmax_masked (fun k => real_sum _ _ fun d => real_mul (hh d) (ht _)) k

end Cert.Kernel3Ideal.Hand

end
-- ==== Proof.Blocks3.lean ====
module

public import proofs.«01_k».proof.Proof.Payload3
public import proofs.«01_k».proof.Proof.Gen.Kernel3Ideal.Value

/-! The output projection's blocks, index by index, and the three result arrays assembled from them. -/

@[expose] public section

noncomputable section

namespace Cert.Kernel3Ideal.Hand

open Idealize.ShloMosaic Idealize.ShloMosaic.TcCoe
open Idealize.ShloMosaic.Pipeline (Dat)
open Cert.Kernel3Ideal.Gen Cert.Projection Cert.Routing Cert.Softmax

variable (m : (ℓ : Loc nD τ sig) → Buf (Elt Ideal) ℓ) (c : Dev nD)

theorem zero_offset : (![0, 0] : Fin 2 → Nat) = fun _ => 0 := funext fun a => by fin_cases a <;> rfl

theorem mod_slices_1_4096 : S8x12288.Slices ![1, 4096] S1x2048 := ⟨rfl, inb_S8x12288_S1x2048_1_4096⟩
theorem mod_slices_0_4096 : S8x12288.Slices ![0, 4096] S1x2048 := ⟨rfl, inb_S8x12288_S1x2048_0_4096⟩
theorem mod_slices_1_6144 : S8x12288.Slices ![1, 6144] S1x2048 := ⟨rfl, inb_S8x12288_S1x2048_1_6144⟩
theorem mod_slices_0_6144 : S8x12288.Slices ![0, 6144] S1x2048 := ⟨rfl, inb_S8x12288_S1x2048_0_6144⟩
theorem mod_slices_1_8192 : S8x12288.Slices ![1, 8192] S1x2048 := ⟨rfl, inb_S8x12288_S1x2048_1_8192⟩
theorem mod_slices_0_8192 : S8x12288.Slices ![0, 8192] S1x2048 := ⟨rfl, inb_S8x12288_S1x2048_0_8192⟩
theorem w_slices_0 : S2048x2048.Slices ![0, 0] S768x2048 := ⟨rfl, inb_S2048x2048_S768x2048_0_0⟩
theorem w_slices_768 : S2048x2048.Slices ![768, 0] S768x2048 := ⟨rfl, inb_S2048x2048_S768x2048_768_0⟩
theorem w_slices_1536 : S2048x2048.Slices ![1536, 0] S512x2048 := ⟨rfl, inb_S2048x2048_S512x2048_1536_0⟩

section
variable (i : grid0.Coords) (ys ym : Vec Ideal S384x768 .f32) (yh : Vec Ideal S384x512 .f32) (x : Vec Ideal S384x2048 .f32) (g : Vec Ideal S8x12288 .f32)
  (nw : Vec Ideal S1x2048 .f32) (w : Vec Ideal S2048x2048 .bf16) (t : Vec Ideal S2048x128 .f32)

/-- A point's new residual rows. -/
def fresh : FVec Ideal S384x2048 .f32 :=
  k0_pay2 i ys (extractStridedSlice S768x2048 ![0, 0] w w_slices_0) ym (extractStridedSlice S768x2048 ![768, 0] w w_slices_768)
    yh (extractStridedSlice S512x2048 ![1536, 0] w w_slices_1536) (extractStridedSlice S1x2048 ![1, 4096] g mod_slices_1_4096)
    (extractStridedSlice S1x2048 ![0, 4096] g mod_slices_0_4096) x

/-- Rows normalized and modulated. -/
def norm (y : FVec Ideal S384x2048 .f32) : FVec Ideal S384x2048 .f32 :=
  k0_pay3 (Scalar.muli (BitVec.ofNat 32 (i 0).val) 384#32) y nw
    (extractStridedSlice S1x2048 ![1, 6144] g mod_slices_1_6144) (extractStridedSlice S1x2048 ![0, 6144] g mod_slices_0_6144)
    (extractStridedSlice S1x2048 ![1, 8192] g mod_slices_1_8192) (extractStridedSlice S1x2048 ![0, 8192] g mod_slices_0_8192)

theorem residual_rows : k0_pay5 i ys ym yh x g nw w t = fresh i ys ym yh x g w := by
  unfold k0_pay5
  simp only [View.ld_unit_zero (S := S384x768) zero_offset, View.ld_unit_zero (S := S384x512) zero_offset,
    View.ld_unit_zero (S := S384x2048) zero_offset, View.ld_unit]
  rfl

theorem out8_eq : out0_8 i ys ym yh x g nw w t = fresh i ys ym yh x g w := by
  rw [← residual_rows i ys ym yh x g nw w t]
  unfold out0_8
  rw [View.canon_unit_zero (S := S384x2048) zero_offset]
  rfl

theorem out9_eq : out0_9 i ys ym yh x g nw w t = norm i g nw (fresh i ys ym yh x g w) := by
  unfold out0_9
  rw [View.canon_unit_zero (S := S384x2048) zero_offset, residual_rows]
  simp only [View.ld_unit_zero (S := S1x2048) zero_offset, View.ld_unit]
  rfl

theorem out10_eq : out0_10 i ys ym yh x g nw w t
    = k0_pay1 (norm i g nw (fresh i ys ym yh x g w)) (truncf .bf16 (norm i g nw (fresh i ys ym yh x g w)) bitsLt_bf16_f32) t := by
  unfold out0_10
  rw [View.canon_unit_zero (S := S384x128) zero_offset, residual_rows]
  simp only [View.ld_unit_zero (S := S1x2048) zero_offset, View.ld_unit_zero (S := S2048x128) zero_offset, View.ld_unit]
  rfl

end

theorem lt_N (t : Fin cfg0.N) : t.val < 22 := lt_of_lt_of_eq t.isLt N_0

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = t.val ∧ win0_2.index t 1 = 0 := by decide +kernel
theorem index_3 : ∀ t : Fin cfg0.N, win0_3.index t 0 = t.val ∧ win0_3.index t 1 = 0 := by decide +kernel
theorem index_8 : ∀ t : Fin cfg0.N, win0_8.index t 0 = t.val ∧ win0_8.index t 1 = 0 := by decide +kernel
theorem index_9 : ∀ t : Fin cfg0.N, win0_9.index t 0 = t.val ∧ win0_9.index t 1 = 0 := by decide +kernel
theorem index_10 : ∀ t : Fin cfg0.N, win0_10.index t 0 = t.val ∧ win0_10.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 := by decide +kernel
theorem index_6 : ∀ t : Fin cfg0.N, win0_6.index t 0 = 0 ∧ win0_6.index t 1 = 0 := by decide +kernel
theorem index_7 : ∀ t : Fin cfg0.N, win0_7.index t 0 = 0 ∧ win0_7.index t 1 = 0 := by decide +kernel
theorem coord_0 : ∀ t : Fin cfg0.N, (grid0.coords t 0).val = t.val := by decide +kernel

abbrev yss : Mat 8448 768 := m ((c : Thread nD τ).loc main_arg0)
abbrev yms : Mat 8448 768 := m ((c : Thread nD τ).loc main_arg1)
abbrev yhs : Mat 8448 512 := m ((c : Thread nD τ).loc main_arg2)
abbrev xs : Mat 8448 2048 := m ((c : Thread nD τ).loc main_arg3)
abbrev mods : Mat 8 12288 := m ((c : Thread nD τ).loc main_arg4)
abbrev nws : Mat 1 2048 := m ((c : Thread nD τ).loc main_arg5)
abbrev ws : Mat 2048 2048 := m ((c : Thread nD τ).loc main_arg6)
abbrev rs : Mat 2048 128 := m ((c : Thread nD τ).loc main_arg7)

theorem yss_block (t : Fin cfg0.N) (r : Fin 384) (e : Fin 768) : (iblk m c 0 t : Vec Ideal S384x768 .f32) (ix2 r e)
    = yss m c (ix2 ⟨384 * t.val + r.val, by have := lt_N t; omega⟩ e) := by
  unfold iblk
  show _ = m ((c : Thread nD τ).loc main_arg0) _
  rw [View.read_apply, ← V_main_arg0 m c]
  refine congrArg (V m c main_arg0) (funext fun a => Fin.ext ?_)
  have hi := index_0 t
  fin_cases a
  · show win0_0.index t 0 * 384 + 1 * r.val = 384 * t.val + r.val
    omega
  · show win0_0.index t 1 * 768 + 1 * e.val = e.val
    omega

theorem yms_block (t : Fin cfg0.N) (r : Fin 384) (e : Fin 768) : (iblk m c 1 t : Vec Ideal S384x768 .f32) (ix2 r e)
    = yms m c (ix2 ⟨384 * t.val + r.val, by have := lt_N t; omega⟩ e) := by
  unfold iblk
  show _ = m ((c : Thread nD τ).loc main_arg1) _
  rw [View.read_apply, ← V_main_arg1 m c]
  refine congrArg (V m c main_arg1) (funext fun a => Fin.ext ?_)
  have hi := index_1 t
  fin_cases a
  · show win0_1.index t 0 * 384 + 1 * r.val = 384 * t.val + r.val
    omega
  · show win0_1.index t 1 * 768 + 1 * e.val = e.val
    omega

theorem yhs_block (t : Fin cfg0.N) (r : Fin 384) (e : Fin 512) : (iblk m c 2 t : Vec Ideal S384x512 .f32) (ix2 r e)
    = yhs m c (ix2 ⟨384 * t.val + r.val, by have := lt_N t; omega⟩ e) := by
  unfold iblk
  show _ = m ((c : Thread nD τ).loc main_arg2) _
  rw [View.read_apply, ← V_main_arg2 m c]
  refine congrArg (V m c main_arg2) (funext fun a => Fin.ext ?_)
  have hi := index_2 t
  fin_cases a
  · show win0_2.index t 0 * 384 + 1 * r.val = 384 * t.val + r.val
    omega
  · show win0_2.index t 1 * 512 + 1 * e.val = e.val
    omega

theorem xs_block (t : Fin cfg0.N) (r : Fin 384) (e : Fin 2048) : (iblk m c 3 t : Vec Ideal S384x2048 .f32) (ix2 r e)
    = xs m c (ix2 ⟨384 * t.val + r.val, by have := lt_N t; omega⟩ e) := by
  unfold iblk
  show _ = m ((c : Thread nD τ).loc main_arg3) _
  rw [View.read_apply, ← V_main_arg3 m c]
  refine congrArg (V m c main_arg3) (funext fun a => Fin.ext ?_)
  have hi := index_3 t
  fin_cases a
  · show win0_3.index t 0 * 384 + 1 * r.val = 384 * t.val + r.val
    omega
  · show win0_3.index t 1 * 2048 + 1 * e.val = e.val
    omega

theorem mods_block (t : Fin cfg0.N) (r : Fin 8) (e : Fin 12288) : (iblk m c 4 t : Vec Ideal S8x12288 .f32) (ix2 r e)
    = mods m c (ix2 r e) := by
  unfold iblk
  show _ = m ((c : Thread nD τ).loc main_arg4) _
  rw [View.read_apply, ← V_main_arg4 m c]
  refine congrArg (V m c main_arg4) (funext fun a => Fin.ext ?_)
  have hi := index_4 t
  fin_cases a
  · show win0_4.index t 0 * 8 + 1 * r.val = r.val
    omega
  · show win0_4.index t 1 * 12288 + 1 * e.val = e.val
    omega

theorem nws_block (t : Fin cfg0.N) (r : Fin 1) (e : Fin 2048) : (iblk m c 5 t : Vec Ideal S1x2048 .f32) (ix2 r e)
    = nws m c (ix2 r e) := by
  unfold iblk
  show _ = m ((c : Thread nD τ).loc main_arg5) _
  rw [View.read_apply, ← V_main_arg5 m c]
  refine congrArg (V m c main_arg5) (funext fun a => Fin.ext ?_)
  have hi := index_5 t
  fin_cases a
  · show win0_5.index t 0 * 1 + 1 * r.val = r.val
    omega
  · show win0_5.index t 1 * 2048 + 1 * e.val = e.val
    omega

theorem ws_block (t : Fin cfg0.N) (r : Fin 2048) (e : Fin 2048) : (iblk m c 6 t : Vec Ideal S2048x2048 .bf16) (ix2 r e)
    = ws m c (ix2 r e) := by
  unfold iblk
  show _ = m ((c : Thread nD τ).loc main_arg6) _
  rw [View.read_apply, ← V_main_arg6 m c]
  refine congrArg (V m c main_arg6) (funext fun a => Fin.ext ?_)
  have hi := index_6 t
  fin_cases a
  · show win0_6.index t 0 * 2048 + 1 * r.val = r.val
    omega
  · show win0_6.index t 1 * 2048 + 1 * e.val = e.val
    omega

theorem rs_block (t : Fin cfg0.N) (r : Fin 2048) (e : Fin 128) : (iblk m c 7 t : Vec Ideal S2048x128 .f32) (ix2 r e)
    = rs m c (ix2 r e) := by
  unfold iblk
  show _ = m ((c : Thread nD τ).loc main_arg7) _
  rw [View.read_apply, ← V_main_arg7 m c]
  refine congrArg (V m c main_arg7) (funext fun a => Fin.ext ?_)
  have hi := index_7 t
  fin_cases a
  · show win0_7.index t 0 * 2048 + 1 * r.val = r.val
    omega
  · show win0_7.index t 1 * 128 + 1 * e.val = e.val
    omega

theorem pick_eq (b : Prop) [Decidable b] (f : Fin 8 → EReal) : (if b then f 1 else f 0) = f (if b then 1 else 0) := by
  split <;> rfl

/-- A slice of one row of the modulation. -/
theorem mod_slice (g : Vec Ideal S8x12288 .f32) (k o : ℕ) (h : S8x12288.Slices ![k, o] S1x2048) (r : Fin 8) (hr : r.val = k) (d : Fin 2048) (ho : o + d.val < 12288) :
    extractStridedSlice S1x2048 ![k, o] g h (ix2 0 d) = g (ix2 r ⟨o + d.val, ho⟩) := by
  subst hr
  pointwise

/-- A band of the weights' rows. -/
theorem w_slice {n : ℕ} (w : Vec Ideal S2048x2048 .bf16) (o : ℕ) (h : S2048x2048.Slices ![o, 0] ⟨2, ![n, 2048]⟩) (d : Fin n) (j : Fin 2048) (ho : o + d.val < 2048) :
    extractStridedSlice ⟨2, ![n, 2048]⟩ ![o, 0] w h (ix2 d j) = w (ix2 ⟨o + d.val, ho⟩ j) := by
  pointwise

abbrev residuals : Mat 8448 2048 := fun i => residual (yss m c) (yms m c) (yhs m c) (xs m c) (mods m c) (ws m c) (i 0) (i 1)
abbrev normeds : Mat 8448 2048 := fun i => normed (yss m c) (yms m c) (yhs m c) (xs m c) (mods m c) (nws m c) (ws m c) (i 0) (i 1)
abbrev affinities : Mat 8448 128 := fun i =>
  affinity (logit (yss m c) (yms m c) (yhs m c) (xs m c) (mods m c) (nws m c) (ws m c) (rs m c) (i 0)) (i 1)

/-- What a point computes for its rows. -/
abbrev rows (t : Fin cfg0.N) : FVec Ideal S384x2048 .f32 :=
  fresh (grid0.coords t) (iblk m c 0 t) (iblk m c 1 t) (iblk m c 2 t) (iblk m c 3 t) (iblk m c 4 t) (iblk m c 6 t)

theorem rows_apply (t : Fin cfg0.N) (r : Fin 384) (j : Fin 2048) :
    rows m c t (ix2 r j) = residual (yss m c) (yms m c) (yhs m c) (xs m c) (mods m c) (ws m c) ⟨384 * t.val + r.val, by have := lt_N t; omega⟩ j := by
  have ht := lt_N t
  have hc := coord_0 t
  unfold rows fresh
  rw [pay2_apply _ (by omega)]
  rw [mod_slice _ 1 4096 _ 1 rfl j (by omega), mod_slice _ 0 4096 _ 0 rfl j (by omega)]
  have e0 := fun d : Fin 768 => w_slice (iblk m c 6 t) 0 w_slices_0 d j (by omega)
  have e1 := fun d : Fin 768 => w_slice (iblk m c 6 t) 768 w_slices_768 d j (by omega)
  have e2 := fun d : Fin 512 => w_slice (iblk m c 6 t) 1536 w_slices_1536 d j (by omega)
  simp only [e0, e1, e2, yss_block, yms_block, yhs_block, xs_block, mods_block, ws_block, hc]
  unfold Cert.Routing.residual modRow
  rw [pick_eq _ (fun k => mods m c (ix2 k ⟨4096 + j.val, by omega⟩))]
  simp only [Nat.zero_add]

theorem norm_apply (t : Fin cfg0.N) (r : Fin 384) (d : Fin 2048) :
    norm (grid0.coords t) (iblk m c 4 t) (iblk m c 5 t) (rows m c t) (ix2 r d)
      = normed (yss m c) (yms m c) (yhs m c) (xs m c) (mods m c) (nws m c) (ws m c) ⟨384 * t.val + r.val, by have := lt_N t; omega⟩ d := by
  have ht := lt_N t
  unfold norm
  rw [coord_0 t, pay3_apply _ (by omega)]
  rw [mod_slice _ 1 6144 _ 1 rfl d (by omega), mod_slice _ 0 6144 _ 0 rfl d (by omega), mod_slice _ 1 8192 _ 1 rfl d (by omega), mod_slice _ 0 8192 _ 0 rfl d (by omega)]
  simp only [rows_apply, mods_block, nws_block]
  unfold normed modulated modRow
  rw [pick_eq _ (fun k => mods m c (ix2 k ⟨8192 + d.val, by omega⟩)), pick_eq _ (fun k => mods m c (ix2 k ⟨6144 + d.val, by omega⟩))]

/-- Every argument of the call is real. -/
structure Finite (ys ym : Mat 8448 768) (yh : Mat 8448 512) (x : Mat 8448 2048) (mod : Mat 8 12288) (nw : Mat 1 2048) (w : Mat 2048 2048) (r : Mat 2048 128) : Prop where
  ys : ∀ i, Real' (ys i)
  ym : ∀ i, Real' (ym i)
  yh : ∀ i, Real' (yh i)
  x : ∀ i, Real' (x i)
  mod : ∀ i, Real' (mod i)
  nw : ∀ i, Real' (nw i)
  w : ∀ i, Real' (w i)
  r : ∀ i, Real' (r i)

theorem Finite.normed {ys ym : Mat 8448 768} {yh : Mat 8448 512} {x : Mat 8448 2048} {mod : Mat 8 12288} {nw : Mat 1 2048} {w : Mat 2048 2048} {r : Mat 2048 128}
    (h : Finite ys ym yh x mod nw w r) (i : Fin 8448) (j : Fin 2048) : Real' (Cert.Routing.normed ys ym yh x mod nw w i j) :=
  real_modulated (fun e => real_add (h.x _) (real_mul (h.mod _) (real_add (real_add (real_sum _ _ fun d => real_mul (h.ys _) (h.w _))
    (real_sum _ _ fun d => real_mul (h.ym _) (h.w _))) (real_sum _ _ fun d => real_mul (h.yh _) (h.w _)))))
    (fun e => h.nw _) (fun e => h.mod _) (fun e => h.mod _) j

theorem affinity_apply (hf : Finite (yss m c) (yms m c) (yhs m c) (xs m c) (mods m c) (nws m c) (ws m c) (rs m c)) (t : Fin cfg0.N) (r : Fin 384) (k : Fin 128) :
    k0_pay1 (norm (grid0.coords t) (iblk m c 4 t) (iblk m c 5 t) (rows m c t))
      (truncf .bf16 (norm (grid0.coords t) (iblk m c 4 t) (iblk m c 5 t) (rows m c t)) bitsLt_bf16_f32) (iblk m c 7 t) (ix2 r k)
      = affinity (logit (yss m c) (yms m c) (yhs m c) (xs m c) (mods m c) (nws m c) (ws m c) (rs m c) ⟨384 * t.val + r.val, by have := lt_N t; omega⟩) k := by
  have hr : ∀ i, Real' ((iblk m c 7 t : Vec Ideal S2048x128 .f32) i) := fun i => by
    have h0 : (i 0).val < 2048 := (i 0).isLt
    have h1 : (i 1).val < 128 := (i 1).isLt
    have e : i = ix2 ⟨(i 0).val, h0⟩ ⟨(i 1).val, h1⟩ := by
      funext a
      match a with
      | ⟨0, _⟩ => rfl
      | ⟨1, _⟩ => rfl
    rw [e, rs_block]
    exact hf.r _
  rw [pay1_apply _ _ r (fun d => by rw [norm_apply]; exact hf.normed _ _) hr k]
  refine congrArg (affinity · k) (funext fun k => Finset.sum_congr rfl fun d _ => ?_)
  rw [norm_apply, rs_block]

set_option maxRecDepth 65536 in
theorem flushed8_eq (t : Fin cfg0.N) :
    (dats m 0 c).flushed 8 t = ((cfg0.win 8).blk t).view.read (Elt Ideal) (residuals m c) := by
  rw [Cert.Kernel3Ideal.Value.flushed8, out8_eq]
  funext j
  have h0 : (j 0).val < 384 := (j 0).isLt
  have h1 : (j 1).val < 2048 := (j 1).isLt
  have ht := lt_N t
  have hi := index_8 t
  have e : (fun a => j a : S384x2048.Idx) = ix2 ⟨(j 0).val, h0⟩ ⟨(j 1).val, h1⟩ := by
    funext a
    match a with
    | ⟨0, _⟩ => rfl
    | ⟨1, _⟩ => rfl
  rw [View.read_apply]
  refine (congrArg _ e).trans ((rows_apply m c t ⟨(j 0).val, h0⟩ ⟨(j 1).val, h1⟩).trans (Eq.symm ?_))
  have e0 : (((cfg0.win 8).blk t).view.emb j) 0 = (⟨384 * t.val + (j 0).val, by omega⟩ : Fin 8448) := Fin.ext (by
    show win0_8.index t 0 * 384 + 1 * (j 0).val = 384 * t.val + (j 0).val
    omega)
  have e1 : (((cfg0.win 8).blk t).view.emb j) 1 = (⟨(j 1).val, h1⟩ : Fin 2048) := Fin.ext (by
    show win0_8.index t 1 * 2048 + 1 * (j 1).val = (j 1).val
    omega)
  show residuals m c _ = _
  unfold residuals
  rw [e0, e1]

theorem cover8 (i : S8448x2048.Idx) : ∃ t : Fin cfg0.N, (cfg0.win 8).flush t = true ∧ i ∈ ((cfg0.win 8).blk t).view.set := by
  have h0 : (i 0).val < 8448 := (i 0).isLt
  have h1 : (i 1).val < 2048 := (i 1).isLt
  let t : Fin cfg0.N := ⟨(i 0).val / 384, lt_of_lt_of_eq (b := 22) (by omega) N_0.symm⟩
  have hi := index_8 t
  have e : t.val = (i 0).val / 384 := rfl
  refine ⟨t, flush0_8 t, ?_⟩
  show i ∈ ((View.whole main_v0_0).slice (win0_8.rect t)).set
  rw [View.set_slice_whole, Rect.mem_set_unit]
  intro a
  match a with
  | ⟨0, _⟩ =>
    show win0_8.index t 0 * 384 ≤ (i 0).val ∧ (i 0).val < win0_8.index t 0 * 384 + 384
    omega
  | ⟨1, _⟩ =>
    show win0_8.index t 1 * 2048 ≤ (i 1).val ∧ (i 1).val < win0_8.index t 1 * 2048 + 2048
    omega

/-- The result array after the run. -/
theorem final8 : (dats m 0 c).arrAt 8 cfg0.N = residuals m c :=
  (dats m 0 c).arrAt_eq_of_cover 8 (residuals m c) (fun t _ => flushed8_eq m c t) cover8

set_option maxRecDepth 65536 in
theorem flushed9_eq (t : Fin cfg0.N) :
    (dats m 0 c).flushed 9 t = ((cfg0.win 9).blk t).view.read (Elt Ideal) (normeds m c) := by
  rw [Cert.Kernel3Ideal.Value.flushed9, out9_eq]
  funext j
  have h0 : (j 0).val < 384 := (j 0).isLt
  have h1 : (j 1).val < 2048 := (j 1).isLt
  have ht := lt_N t
  have hi := index_9 t
  have e : (fun a => j a : S384x2048.Idx) = ix2 ⟨(j 0).val, h0⟩ ⟨(j 1).val, h1⟩ := by
    funext a
    match a with
    | ⟨0, _⟩ => rfl
    | ⟨1, _⟩ => rfl
  rw [View.read_apply]
  refine (congrArg _ e).trans ((norm_apply m c t ⟨(j 0).val, h0⟩ ⟨(j 1).val, h1⟩).trans (Eq.symm ?_))
  have e0 : (((cfg0.win 9).blk t).view.emb j) 0 = (⟨384 * t.val + (j 0).val, by omega⟩ : Fin 8448) := Fin.ext (by
    show win0_9.index t 0 * 384 + 1 * (j 0).val = 384 * t.val + (j 0).val
    omega)
  have e1 : (((cfg0.win 9).blk t).view.emb j) 1 = (⟨(j 1).val, h1⟩ : Fin 2048) := Fin.ext (by
    show win0_9.index t 1 * 2048 + 1 * (j 1).val = (j 1).val
    omega)
  show normeds m c _ = _
  unfold normeds
  rw [e0, e1]

theorem cover9 (i : S8448x2048.Idx) : ∃ t : Fin cfg0.N, (cfg0.win 9).flush t = true ∧ i ∈ ((cfg0.win 9).blk t).view.set := by
  have h0 : (i 0).val < 8448 := (i 0).isLt
  have h1 : (i 1).val < 2048 := (i 1).isLt
  let t : Fin cfg0.N := ⟨(i 0).val / 384, lt_of_lt_of_eq (b := 22) (by omega) N_0.symm⟩
  have hi := index_9 t
  have e : t.val = (i 0).val / 384 := rfl
  refine ⟨t, flush0_9 t, ?_⟩
  show i ∈ ((View.whole main_v0_1).slice (win0_9.rect t)).set
  rw [View.set_slice_whole, Rect.mem_set_unit]
  intro a
  match a with
  | ⟨0, _⟩ =>
    show win0_9.index t 0 * 384 ≤ (i 0).val ∧ (i 0).val < win0_9.index t 0 * 384 + 384
    omega
  | ⟨1, _⟩ =>
    show win0_9.index t 1 * 2048 ≤ (i 1).val ∧ (i 1).val < win0_9.index t 1 * 2048 + 2048
    omega

/-- The result array after the run. -/
theorem final9 : (dats m 0 c).arrAt 9 cfg0.N = normeds m c :=
  (dats m 0 c).arrAt_eq_of_cover 9 (normeds m c) (fun t _ => flushed9_eq m c t) cover9

set_option maxRecDepth 65536 in
theorem flushed10_eq (hf : Finite (yss m c) (yms m c) (yhs m c) (xs m c) (mods m c) (nws m c) (ws m c) (rs m c)) (t : Fin cfg0.N) :
    (dats m 0 c).flushed 10 t = ((cfg0.win 10).blk t).view.read (Elt Ideal) (affinities m c) := by
  rw [Cert.Kernel3Ideal.Value.flushed10, out10_eq]
  funext j
  have h0 : (j 0).val < 384 := (j 0).isLt
  have h1 : (j 1).val < 128 := (j 1).isLt
  have ht := lt_N t
  have hi := index_10 t
  have e : (fun a => j a : S384x128.Idx) = ix2 ⟨(j 0).val, h0⟩ ⟨(j 1).val, h1⟩ := by
    funext a
    match a with
    | ⟨0, _⟩ => rfl
    | ⟨1, _⟩ => rfl
  rw [View.read_apply]
  refine (congrArg _ e).trans ((affinity_apply m c hf t ⟨(j 0).val, h0⟩ ⟨(j 1).val, h1⟩).trans (Eq.symm ?_))
  have e0 : (((cfg0.win 10).blk t).view.emb j) 0 = (⟨384 * t.val + (j 0).val, by omega⟩ : Fin 8448) := Fin.ext (by
    show win0_10.index t 0 * 384 + 1 * (j 0).val = 384 * t.val + (j 0).val
    omega)
  have e1 : (((cfg0.win 10).blk t).view.emb j) 1 = (⟨(j 1).val, h1⟩ : Fin 128) := Fin.ext (by
    show win0_10.index t 1 * 128 + 1 * (j 1).val = (j 1).val
    omega)
  show affinities m c _ = _
  unfold affinities
  rw [e0, e1]

theorem cover10 (i : S8448x128.Idx) : ∃ t : Fin cfg0.N, (cfg0.win 10).flush t = true ∧ i ∈ ((cfg0.win 10).blk t).view.set := by
  have h0 : (i 0).val < 8448 := (i 0).isLt
  have h1 : (i 1).val < 128 := (i 1).isLt
  let t : Fin cfg0.N := ⟨(i 0).val / 384, lt_of_lt_of_eq (b := 22) (by omega) N_0.symm⟩
  have hi := index_10 t
  have e : t.val = (i 0).val / 384 := rfl
  refine ⟨t, flush0_10 t, ?_⟩
  show i ∈ ((View.whole main_v0_2).slice (win0_10.rect t)).set
  rw [View.set_slice_whole, Rect.mem_set_unit]
  intro a
  match a with
  | ⟨0, _⟩ =>
    show win0_10.index t 0 * 384 ≤ (i 0).val ∧ (i 0).val < win0_10.index t 0 * 384 + 384
    omega
  | ⟨1, _⟩ =>
    show win0_10.index t 1 * 128 ≤ (i 1).val ∧ (i 1).val < win0_10.index t 1 * 128 + 128
    omega

/-- The result array after the run. -/
theorem final10 (hf : Finite (yss m c) (yms m c) (yhs m c) (xs m c) (mods m c) (nws m c) (ws m c) (rs m c)) : (dats m 0 c).arrAt 10 cfg0.N = affinities m c :=
  (dats m 0 c).arrAt_eq_of_cover 10 (affinities m c) (fun t _ => flushed10_eq m c hf t) cover10

end Cert.Kernel3Ideal.Hand

end
-- ==== Proof.Reference3.lean ====
module

public import proofs.«01_k».proof.Proof.Routing
public import proofs.«01_k».proof.Proof.Gen.Reference3Ideal
public import Idealize.ShloMosaic.Lib.Pointwise

/-! The output projection's reference at an index. -/

@[expose] public section

set_option maxRecDepth 16384

noncomputable section

namespace Cert.Reference3Ideal.Hand

open Idealize.ShloMosaic Idealize.ShloMosaic.TcCoe
open Cert.Reference3Ideal Cert.Reference3Ideal.Gen Cert.Projection Cert.Routing Cert.Softmax

/-- A sum along the last axis, from an initial value. -/
theorem reduce_add {a n : ℕ} {u : Shape} (x : FVec Ideal ⟨2, ![a, n]⟩ .f32) (init : FVec Ideal u .f32)
    (h : (⟨2, ![a, n]⟩ : Shape).ReducesTo [1] ⟨1, ![a]⟩) (hu : 0 < u.numel) (i : Fin a) :
    Host.reduceAdd x init h hu (ix1 i) = init (Shape.Idx.first hu) + ∑ k : Fin n, x (ix2 i k) := by
  simp only [pointwise, Ideal.hostReduceAdd_def]

/-- A maximum along the last axis, from an initial value. -/
theorem reduce_max {a n : ℕ} {u : Shape} (x : FVec Ideal ⟨2, ![a, n]⟩ .f32) (init : FVec Ideal u .f32)
    (h : (⟨2, ![a, n]⟩ : Shape).ReducesTo [1] ⟨1, ![a]⟩) (hu : 0 < u.numel) (i : Fin a) :
    Host.reduce FloatOps.maximumf x init h hu (ix1 i) = Finset.fold max (init (Shape.Idx.first hu)) (fun k => x (ix2 i k)) Finset.univ := by
  simp only [pointwise]

theorem neg_inf : Ideal.ofBits .f32 0xFF800000#32 = ⊥ := by simp [Ideal.ofBits, Ideal.ieee]

theorem zero_word : (FloatOps.sitofp .f32 0#32 : Ideal .f32) = (0 : EReal) := by
  show (((0#32 : BitVec 32).toInt : ℝ) : EReal) = 0
  simp

theorem first_apply (b : BitVec 32) (h : 0 < S_.numel) :
    (constant S_ .f32 b : FVec Ideal S_ .f32) (Shape.Idx.first h) = Ideal.ofBits .f32 b := rfl

/-- The three products side by side. -/
def joined (ys ym : Vec Ideal S8448x768 .f32) (yh : Vec Ideal S8448x512 .f32) : Vec Ideal S8448x2048 .f32 :=
  concatenate S8448x2048 1 [⟨S8448x768, ys⟩, ⟨S8448x768, ym⟩, ⟨S8448x512, yh⟩] concatenates_S8448x768_S8448x768_S8448x512_S8448x2048_d1

theorem joined_apply (ys ym : Vec Ideal S8448x768 .f32) (yh : Vec Ideal S8448x512 .f32) (i : Fin 8448) (d : Fin 2048) : joined ys ym yh (ix2 i d)
    = if h : d.val < 768 then ys (ix2 i ⟨d.val, h⟩) else if h' : d.val - 768 < 768 then ym (ix2 i ⟨d.val - 768, by omega⟩)
      else yh (ix2 i ⟨d.val - 768 - 768, by omega⟩) := by
  pointwise [joined]

/-- A sum over all columns, product by product. -/
theorem sum_joined (ys ym : Vec Ideal S8448x768 .f32) (yh : Vec Ideal S8448x512 .f32) (w : Vec Ideal S2048x2048 .bf16) (i : Fin 8448) (j : Fin 2048) :
    ∑ d : Fin 2048, joined ys ym yh (ix2 i d) * w (ix2 d j)
      = ((∑ d : Fin 768, ys (ix2 i d) * w (ix2 ⟨d.val, by omega⟩ j)) + ∑ d : Fin 768, ym (ix2 i d) * w (ix2 ⟨768 + d.val, by omega⟩ j))
        + ∑ d : Fin 512, yh (ix2 i d) * w (ix2 ⟨1536 + d.val, by omega⟩ j) := by
  simp only [joined_apply]
  rw [show ∀ f : Fin 2048 → EReal, ∑ d : Fin 2048, f d = ∑ d : Fin (768 + 768 + 512), f d from fun f => rfl, Fin.sum_univ_add, Fin.sum_univ_add]
  refine congrArg₂ (· + ·) (congrArg₂ (· + ·) (Finset.sum_congr rfl fun d _ => ?_) (Finset.sum_congr rfl fun d _ => ?_)) (Finset.sum_congr rfl fun d _ => ?_)
  · have e : (Fin.castAdd 512 (Fin.castAdd 768 d) : Fin (768 + 768 + 512)).val = d.val := rfl
    rw [dif_pos (by omega)]
    rfl
  · have e : (Fin.castAdd 512 (Fin.natAdd 768 d) : Fin (768 + 768 + 512)).val = 768 + d.val := rfl
    rw [dif_neg (by omega), dif_pos (by omega)]
    refine congrArg₂ (· * ·) (congrArg (fun k => ym (ix2 i k)) (Fin.ext ?_)) rfl
    show 768 + d.val - 768 = d.val
    omega
  · have e : (Fin.natAdd (768 + 768) d : Fin (768 + 768 + 512)).val = 1536 + d.val := rfl
    rw [dif_neg (by omega), dif_neg (by omega)]
    refine congrArg₂ (· * ·) (congrArg (fun k => yh (ix2 i k)) (Fin.ext ?_)) rfl
    show 1536 + d.val - 768 - 768 = d.val
    omega

section
variable (ys ym : Vec Ideal S8448x768 .f32) (yh : Vec Ideal S8448x512 .f32) (x : Vec Ideal S8448x2048 .f32) (mod : Vec Ideal S8x12288 .f32)
  (nw : Vec Ideal S1x2048 .f32) (w : Vec Ideal S2048x2048 .bf16) (r : Vec Ideal S2048x128 .f32)

/-! ### The first segment -/

/-- The segment's modulation. -/
def modulation0 : Vec Ideal S12288 .f32 := shapeCast _ (extractStridedSlice S1x12288 ![0, 0] mod slices_S8x12288_S1x12288_0_0) shapeCasts_S1x12288_S12288

/-- The segment's tokens plus gated products. -/
def added0 (y : Vec Ideal S8448x2048 .f32) (g : Vec Ideal S12288 .f32) : Vec Ideal S8192x2048 .f32 :=
  addf (F := Ideal) (φ := .f32) (extractStridedSlice S8192x2048 ![0, 0] x slices_S8448x2048_S8192x2048_0_0) (mulf (broadcastInDim S8192x2048 ![0, 1] bcast_S1x2048_S8192x2048_0_1 (broadcastInDim S1x2048 ![1] bcast_S2048_S1x2048_1 (extractStridedSlice S2048 ![4096] g slices_S12288_S2048_4096))) (Host.dotGeneral dot_S8192x2048_S2048x2048_S8192x2048_1_0_0_1_n_n none (show FVec Ideal S8192x2048 .f32 from extractStridedSlice S8192x2048 ![0, 0] y slices_S8448x2048_S8192x2048_0_0) (extf (F := Ideal) .f32 w bitsLt_bf16_f32)))

/-- The sums of squares of rows. -/
def squares0 (y : Vec Ideal S8192x2048 .f32) : Vec Ideal S8192 .f32 :=
  Host.reduceAdd (F := Ideal) (φ := .f32) (mulf (F := Ideal) (φ := .f32) y y) (constant S_ .f32 0x00000000#32) reducesTo_S8192x2048_S8192_d1 h_S_

/-- Rows normalized by given sums of squares, and modulated. -/
def rows0 (y : Vec Ideal S8192x2048 .f32) (s : Vec Ideal S8192 .f32) (g : Vec Ideal S12288 .f32) : Vec Ideal S8192x2048 .f32 :=
  addf (F := Ideal) (φ := .f32) (mulf (mulf (mulf y (broadcastInDim S8192x2048 ![0, 1] bcast_S8192x1_S8192x2048_0_1 (Host.rsqrt (addf (Host.divf (broadcastInDim S8192x1 ![0] bcast_S8192_S8192x1_0 s) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ nw shapeCasts_S1x2048_S2048)))) (broadcastInDim S8192x2048 ![0, 1] bcast_S1x2048_S8192x2048_0_1 (broadcastInDim S1x2048 ![1] bcast_S2048_S1x2048_1 (addf (broadcastInDim S2048 ![] bcast_S_S2048 (constant S_ .f32 0x3F800000#32)) (extractStridedSlice S2048 ![8192] g slices_S12288_S2048_8192))))) (broadcastInDim S8192x2048 ![0, 1] bcast_S1x2048_S8192x2048_0_1 (broadcastInDim S1x2048 ![1] bcast_S2048_S1x2048_1 (extractStridedSlice S2048 ![6144] g slices_S12288_S2048_6144)))

/-- The routing logits of rows. -/
def logits0 (h : Vec Ideal S8192x2048 .f32) : Vec Ideal S8192x16 .f32 :=
  Host.dotGeneral dot_S8192x2048_S2048x16_S8192x16_1_0_0_1_n_n none (show FVec Ideal S8192x2048 .f32 from h) (show FVec Ideal S2048x16 .f32 from extractStridedSlice S2048x16 ![0, 0] r slices_S2048x128_S2048x16_0_0)

/-- Each row's largest logit. -/
def top0 (l : Vec Ideal S8192x16 .f32) : Vec Ideal S8192 .f32 :=
  maximumf (F := Ideal) (φ := .f32) (broadcastInDim S8192 ![] bcast_S_S8192 (constant S_ .f32 0xFF800000#32))
    (Host.reduce FloatOps.maximumf l (constant S_ .f32 0xFF800000#32) reducesTo_S8192x16_S8192_d1 h_S_)

/-- The exponentials of the logits less given numbers. -/
def weights0 (l : Vec Ideal S8192x16 .f32) (t : Vec Ideal S8192 .f32) : Vec Ideal S8192x16 .f32 :=
  Host.exp (F := Ideal) (φ := .f32) (subf l (broadcastInDim S8192x16 ![0, 1] bcast_S8192x1_S8192x16_0_1 (broadcastInDim S8192x1 ![0] bcast_S8192_S8192x1_0 t)))

/-- Their sums. -/
def sums0 (p : Vec Ideal S8192x16 .f32) : Vec Ideal S8192 .f32 :=
  Host.reduceAdd (F := Ideal) (φ := .f32) p (constant S_ .f32 0x00000000#32) reducesTo_S8192x16_S8192_d1 h_S_

/-- The quotients, followed by zeros. -/
def padded0 (p : Vec Ideal S8192x16 .f32) (s : Vec Ideal S8192 .f32) : Vec Ideal S8192x128 .f32 :=
  pad S8192x128 ![0, 0] ![0, 112] ![0, 0] (Host.divf (F := Ideal) (φ := .f32) p (broadcastInDim S8192x16 ![0, 1] bcast_S8192x1_S8192x16_0_1 (broadcastInDim S8192x1 ![0] bcast_S8192_S8192x1_0 s)))
    (sitofp (F := Ideal) .f32 (constantI S_ 32 0#32)) pads_S8192x16_S8192x128_000_01120 h_S_

theorem modulation0_apply (e : Fin 12288) : modulation0 mod (ix1 e) = mod (ix2 0 e) := by
  pointwise [modulation0]

theorem added0_apply (y : Vec Ideal S8448x2048 .f32) (g : Vec Ideal S12288 .f32) (i : Fin 8192) (j : Fin 2048) :
    added0 x w y g (ix2 i j) = x (ix2 ⟨0 + i.val, by omega⟩ j) + g (ix1 ⟨4096 + j.val, by omega⟩)
      * ∑ d : Fin 2048, y (ix2 ⟨0 + i.val, by omega⟩ d) * w (ix2 d j) := by
  pointwise [added0]

theorem squares0_apply (y : Vec Ideal S8192x2048 .f32) (i : Fin 8192) : squares0 y (ix1 i) = ∑ e : Fin 2048, y (ix2 i e) * y (ix2 i e) := by
  refine (reduce_add _ _ _ _ i).trans ?_
  pointwise

theorem rows0_apply (y : Vec Ideal S8192x2048 .f32) (s : Vec Ideal S8192 .f32) (g : Vec Ideal S12288 .f32) (i : Fin 8192) (d : Fin 2048) :
    rows0 nw y s g (ix2 i d) = y (ix2 i d) * Ideal.rsqrt (Ideal.div (s (ix1 i)) (Ideal.ofBits .f32 0x45000000#32) + Ideal.ofBits .f32 0x358637BD#32)
      * nw (ix2 0 d) * (1 + g (ix1 ⟨8192 + d.val, by omega⟩)) + g (ix1 ⟨6144 + d.val, by omega⟩) := by
  pointwise [rows0]

theorem logits0_apply (h : Vec Ideal S8192x2048 .f32) (i : Fin 8192) (k : Fin 16) :
    logits0 r h (ix2 i k) = ∑ d : Fin 2048, h (ix2 i d) * r (ix2 d ⟨k.val, by omega⟩) := by
  pointwise [logits0]

theorem larger0_apply (y : Vec Ideal S8192 .f32) (i : S8192.Idx) :
    maximumf (F := Ideal) (φ := .f32) (broadcastInDim S8192 ![] bcast_S_S8192 (constant S_ .f32 0xFF800000#32)) y i
      = max (Ideal.ofBits .f32 0xFF800000#32) (y i) := rfl

theorem top0_apply (l : Vec Ideal S8192x16 .f32) (i : Fin 8192) : top0 l (ix1 i) = Finset.fold max ⊥ (fun k : Fin 16 => l (ix2 i k)) Finset.univ := by
  unfold top0
  rw [larger0_apply, reduce_max, first_apply, neg_inf, max_eq_right bot_le]

theorem weights0_apply (l : Vec Ideal S8192x16 .f32) (t : Vec Ideal S8192 .f32) (i : Fin 8192) (k : Fin 16) :
    weights0 l t (ix2 i k) = Ideal.exp (l (ix2 i k) - t (ix1 i)) := by
  pointwise [weights0]

theorem sums0_apply (p : Vec Ideal S8192x16 .f32) (i : Fin 8192) : sums0 p (ix1 i) = ∑ k : Fin 16, p (ix2 i k) := by
  refine (reduce_add _ _ _ _ i).trans ?_
  pointwise

theorem padded0_apply (p : Vec Ideal S8192x16 .f32) (s : Vec Ideal S8192 .f32) (i : Fin 8192) (k : Fin 128) :
    padded0 p s (ix2 i k) = if h : k.val < 16 then Ideal.div (p (ix2 i ⟨k.val, h⟩)) (s (ix1 i)) else 0 := by
  pointwise [padded0]
  rw [zero_word]

/-- The segment's residual. -/
def residual0 : Vec Ideal S8192x2048 .f32 := added0 x w (joined ys ym yh) (modulation0 mod)

/-- The segment's normalized rows. -/
def normed0 : Vec Ideal S8192x2048 .f32 :=
  rows0 nw (residual0 ys ym yh x mod w) (squares0 (residual0 ys ym yh x mod w)) (modulation0 mod)

/-- The segment's affinities, from its logits. -/
def affinity0 (l : Vec Ideal S8192x16 .f32) : Vec Ideal S8192x128 .f32 := padded0 (weights0 l (top0 l)) (sums0 (weights0 l (top0 l)))

theorem seg0 (i : Fin 8192) : modRow (0 + i.val) = 0 := if_neg (by omega)

theorem residual0_apply (i : Fin 8192) (j : Fin 2048) :
    residual0 ys ym yh x mod w (ix2 i j) = residual ys ym yh x mod w ⟨0 + i.val, by omega⟩ j := by
  unfold residual0 Cert.Routing.residual
  rw [added0_apply, sum_joined, modulation0_apply]
  simp only [seg0]

theorem normed0_apply (i : Fin 8192) (j : Fin 2048) :
    normed0 ys ym yh x mod nw w (ix2 i j) = normed ys ym yh x mod nw w ⟨0 + i.val, by omega⟩ j := by
  unfold normed0 normed modulated
  rw [rows0_apply, squares0_apply, modulation0_apply, modulation0_apply]
  simp only [residual0_apply, seg0]

theorem affinity0_apply (i : Fin 8192) (k : Fin 128) :
    affinity0 (logits0 r (normed0 ys ym yh x mod nw w)) (ix2 i k) = affinity (logit ys ym yh x mod nw w r ⟨0 + i.val, by omega⟩) k := by
  unfold affinity0 affinity
  rw [padded0_apply]
  simp only [weights0_apply, sums0_apply, top0_apply, logits0_apply, normed0_apply]
  rfl

/-! ### The second segment -/

/-- The segment's modulation. -/
def modulation1 : Vec Ideal S12288 .f32 := shapeCast _ (extractStridedSlice S1x12288 ![1, 0] mod slices_S8x12288_S1x12288_1_0) shapeCasts_S1x12288_S12288

/-- The segment's tokens plus gated products. -/
def added1 (y : Vec Ideal S8448x2048 .f32) (g : Vec Ideal S12288 .f32) : Vec Ideal S256x2048 .f32 :=
  addf (F := Ideal) (φ := .f32) (extractStridedSlice S256x2048 ![8192, 0] x slices_S8448x2048_S256x2048_8192_0) (mulf (broadcastInDim S256x2048 ![0, 1] bcast_S1x2048_S256x2048_0_1 (broadcastInDim S1x2048 ![1] bcast_S2048_S1x2048_1 (extractStridedSlice S2048 ![4096] g slices_S12288_S2048_4096))) (Host.dotGeneral dot_S256x2048_S2048x2048_S256x2048_1_0_0_1_n_n none (show FVec Ideal S256x2048 .f32 from extractStridedSlice S256x2048 ![8192, 0] y slices_S8448x2048_S256x2048_8192_0) (extf (F := Ideal) .f32 w bitsLt_bf16_f32)))

/-- The sums of squares of rows. -/
def squares1 (y : Vec Ideal S256x2048 .f32) : Vec Ideal S256 .f32 :=
  Host.reduceAdd (F := Ideal) (φ := .f32) (mulf (F := Ideal) (φ := .f32) y y) (constant S_ .f32 0x00000000#32) reducesTo_S256x2048_S256_d1 h_S_

/-- Rows normalized by given sums of squares, and modulated. -/
def rows1 (y : Vec Ideal S256x2048 .f32) (s : Vec Ideal S256 .f32) (g : Vec Ideal S12288 .f32) : Vec Ideal S256x2048 .f32 :=
  addf (F := Ideal) (φ := .f32) (mulf (mulf (mulf y (broadcastInDim S256x2048 ![0, 1] bcast_S256x1_S256x2048_0_1 (Host.rsqrt (addf (Host.divf (broadcastInDim S256x1 ![0] bcast_S256_S256x1_0 s) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 (shapeCast _ nw shapeCasts_S1x2048_S2048)))) (broadcastInDim S256x2048 ![0, 1] bcast_S1x2048_S256x2048_0_1 (broadcastInDim S1x2048 ![1] bcast_S2048_S1x2048_1 (addf (broadcastInDim S2048 ![] bcast_S_S2048 (constant S_ .f32 0x3F800000#32)) (extractStridedSlice S2048 ![8192] g slices_S12288_S2048_8192))))) (broadcastInDim S256x2048 ![0, 1] bcast_S1x2048_S256x2048_0_1 (broadcastInDim S1x2048 ![1] bcast_S2048_S1x2048_1 (extractStridedSlice S2048 ![6144] g slices_S12288_S2048_6144)))

/-- The routing logits of rows. -/
def logits1 (h : Vec Ideal S256x2048 .f32) : Vec Ideal S256x16 .f32 :=
  Host.dotGeneral dot_S256x2048_S2048x16_S256x16_1_0_0_1_n_n none (show FVec Ideal S256x2048 .f32 from h) (show FVec Ideal S2048x16 .f32 from extractStridedSlice S2048x16 ![0, 0] r slices_S2048x128_S2048x16_0_0)

/-- Each row's largest logit. -/
def top1 (l : Vec Ideal S256x16 .f32) : Vec Ideal S256 .f32 :=
  maximumf (F := Ideal) (φ := .f32) (broadcastInDim S256 ![] bcast_S_S256 (constant S_ .f32 0xFF800000#32))
    (Host.reduce FloatOps.maximumf l (constant S_ .f32 0xFF800000#32) reducesTo_S256x16_S256_d1 h_S_)

/-- The exponentials of the logits less given numbers. -/
def weights1 (l : Vec Ideal S256x16 .f32) (t : Vec Ideal S256 .f32) : Vec Ideal S256x16 .f32 :=
  Host.exp (F := Ideal) (φ := .f32) (subf l (broadcastInDim S256x16 ![0, 1] bcast_S256x1_S256x16_0_1 (broadcastInDim S256x1 ![0] bcast_S256_S256x1_0 t)))

/-- Their sums. -/
def sums1 (p : Vec Ideal S256x16 .f32) : Vec Ideal S256 .f32 :=
  Host.reduceAdd (F := Ideal) (φ := .f32) p (constant S_ .f32 0x00000000#32) reducesTo_S256x16_S256_d1 h_S_

/-- The quotients, followed by zeros. -/
def padded1 (p : Vec Ideal S256x16 .f32) (s : Vec Ideal S256 .f32) : Vec Ideal S256x128 .f32 :=
  pad S256x128 ![0, 0] ![0, 112] ![0, 0] (Host.divf (F := Ideal) (φ := .f32) p (broadcastInDim S256x16 ![0, 1] bcast_S256x1_S256x16_0_1 (broadcastInDim S256x1 ![0] bcast_S256_S256x1_0 s)))
    (sitofp (F := Ideal) .f32 (constantI S_ 32 0#32)) pads_S256x16_S256x128_000_01120 h_S_

theorem modulation1_apply (e : Fin 12288) : modulation1 mod (ix1 e) = mod (ix2 1 e) := by
  pointwise [modulation1]

theorem added1_apply (y : Vec Ideal S8448x2048 .f32) (g : Vec Ideal S12288 .f32) (i : Fin 256) (j : Fin 2048) :
    added1 x w y g (ix2 i j) = x (ix2 ⟨8192 + i.val, by omega⟩ j) + g (ix1 ⟨4096 + j.val, by omega⟩)
      * ∑ d : Fin 2048, y (ix2 ⟨8192 + i.val, by omega⟩ d) * w (ix2 d j) := by
  pointwise [added1]

theorem squares1_apply (y : Vec Ideal S256x2048 .f32) (i : Fin 256) : squares1 y (ix1 i) = ∑ e : Fin 2048, y (ix2 i e) * y (ix2 i e) := by
  refine (reduce_add _ _ _ _ i).trans ?_
  pointwise

theorem rows1_apply (y : Vec Ideal S256x2048 .f32) (s : Vec Ideal S256 .f32) (g : Vec Ideal S12288 .f32) (i : Fin 256) (d : Fin 2048) :
    rows1 nw y s g (ix2 i d) = y (ix2 i d) * Ideal.rsqrt (Ideal.div (s (ix1 i)) (Ideal.ofBits .f32 0x45000000#32) + Ideal.ofBits .f32 0x358637BD#32)
      * nw (ix2 0 d) * (1 + g (ix1 ⟨8192 + d.val, by omega⟩)) + g (ix1 ⟨6144 + d.val, by omega⟩) := by
  pointwise [rows1]

theorem logits1_apply (h : Vec Ideal S256x2048 .f32) (i : Fin 256) (k : Fin 16) :
    logits1 r h (ix2 i k) = ∑ d : Fin 2048, h (ix2 i d) * r (ix2 d ⟨k.val, by omega⟩) := by
  pointwise [logits1]

theorem larger1_apply (y : Vec Ideal S256 .f32) (i : S256.Idx) :
    maximumf (F := Ideal) (φ := .f32) (broadcastInDim S256 ![] bcast_S_S256 (constant S_ .f32 0xFF800000#32)) y i
      = max (Ideal.ofBits .f32 0xFF800000#32) (y i) := rfl

theorem top1_apply (l : Vec Ideal S256x16 .f32) (i : Fin 256) : top1 l (ix1 i) = Finset.fold max ⊥ (fun k : Fin 16 => l (ix2 i k)) Finset.univ := by
  unfold top1
  rw [larger1_apply, reduce_max, first_apply, neg_inf, max_eq_right bot_le]

theorem weights1_apply (l : Vec Ideal S256x16 .f32) (t : Vec Ideal S256 .f32) (i : Fin 256) (k : Fin 16) :
    weights1 l t (ix2 i k) = Ideal.exp (l (ix2 i k) - t (ix1 i)) := by
  pointwise [weights1]

theorem sums1_apply (p : Vec Ideal S256x16 .f32) (i : Fin 256) : sums1 p (ix1 i) = ∑ k : Fin 16, p (ix2 i k) := by
  refine (reduce_add _ _ _ _ i).trans ?_
  pointwise

theorem padded1_apply (p : Vec Ideal S256x16 .f32) (s : Vec Ideal S256 .f32) (i : Fin 256) (k : Fin 128) :
    padded1 p s (ix2 i k) = if h : k.val < 16 then Ideal.div (p (ix2 i ⟨k.val, h⟩)) (s (ix1 i)) else 0 := by
  pointwise [padded1]
  rw [zero_word]

/-- The segment's residual. -/
def residual1 : Vec Ideal S256x2048 .f32 := added1 x w (joined ys ym yh) (modulation1 mod)

/-- The segment's normalized rows. -/
def normed1 : Vec Ideal S256x2048 .f32 :=
  rows1 nw (residual1 ys ym yh x mod w) (squares1 (residual1 ys ym yh x mod w)) (modulation1 mod)

/-- The segment's affinities, from its logits. -/
def affinity1 (l : Vec Ideal S256x16 .f32) : Vec Ideal S256x128 .f32 := padded1 (weights1 l (top1 l)) (sums1 (weights1 l (top1 l)))

theorem seg1 (i : Fin 256) : modRow (8192 + i.val) = 1 := if_pos (by omega)

theorem residual1_apply (i : Fin 256) (j : Fin 2048) :
    residual1 ys ym yh x mod w (ix2 i j) = residual ys ym yh x mod w ⟨8192 + i.val, by omega⟩ j := by
  unfold residual1 Cert.Routing.residual
  rw [added1_apply, sum_joined, modulation1_apply]
  simp only [seg1]

theorem normed1_apply (i : Fin 256) (j : Fin 2048) :
    normed1 ys ym yh x mod nw w (ix2 i j) = normed ys ym yh x mod nw w ⟨8192 + i.val, by omega⟩ j := by
  unfold normed1 normed modulated
  rw [rows1_apply, squares1_apply, modulation1_apply, modulation1_apply]
  simp only [residual1_apply, seg1]

theorem affinity1_apply (i : Fin 256) (k : Fin 128) :
    affinity1 (logits1 r (normed1 ys ym yh x mod nw w)) (ix2 i k) = affinity (logit ys ym yh x mod nw w r ⟨8192 + i.val, by omega⟩) k := by
  unfold affinity1 affinity
  rw [padded1_apply]
  simp only [weights1_apply, sums1_apply, top1_apply, logits1_apply, normed1_apply]
  rfl

end

/-! ### The whole arrays: the two segments one after the other -/

/-- Two arrays of rows one after the other. -/
theorem stacked_wide (a : Vec Ideal S8192x2048 .f32) (b : Vec Ideal S256x2048 .f32) (i : Fin 8448) (j : Fin 2048) :
    concatenate S8448x2048 0 [⟨S8192x2048, a⟩, ⟨S256x2048, b⟩] concatenates_S8192x2048_S256x2048_S8448x2048_d0 (ix2 i j)
      = if h : i.val < 8192 then a (ix2 ⟨i.val, h⟩ j) else b (ix2 ⟨i.val - 8192, by omega⟩ j) := by
  pointwise

/-- Two arrays of narrow rows one after the other. -/
theorem stacked_narrow (a : Vec Ideal S8192x128 .f32) (b : Vec Ideal S256x128 .f32) (i : Fin 8448) (j : Fin 128) :
    concatenate S8448x128 0 [⟨S8192x128, a⟩, ⟨S256x128, b⟩] concatenates_S8192x128_S256x128_S8448x128_d0 (ix2 i j)
      = if h : i.val < 8192 then a (ix2 ⟨i.val, h⟩ j) else b (ix2 ⟨i.val - 8192, by omega⟩ j) := by
  pointwise

section
variable (ys ym : Vec Ideal S8448x768 .f32) (yh : Vec Ideal S8448x512 .f32) (x : Vec Ideal S8448x2048 .f32) (mod : Vec Ideal S8x12288 .f32)
  (nw : Vec Ideal S1x2048 .f32) (w : Vec Ideal S2048x2048 .bf16) (r : Vec Ideal S2048x128 .f32)

/-- The reference's residual. -/
def value0 : Vec Ideal S8448x2048 .f32 :=
  concatenate S8448x2048 0 [⟨S8192x2048, residual0 ys ym yh x mod w⟩, ⟨S256x2048, residual1 ys ym yh x mod w⟩] concatenates_S8192x2048_S256x2048_S8448x2048_d0

/-- The reference's normalized rows. -/
def value1 : Vec Ideal S8448x2048 .f32 :=
  concatenate S8448x2048 0 [⟨S8192x2048, normed0 ys ym yh x mod nw w⟩, ⟨S256x2048, normed1 ys ym yh x mod nw w⟩] concatenates_S8192x2048_S256x2048_S8448x2048_d0

/-- The reference's affinities. -/
def value2 : Vec Ideal S8448x128 .f32 :=
  concatenate S8448x128 0 [⟨S8192x128, affinity0 (logits0 r (normed0 ys ym yh x mod nw w))⟩, ⟨S256x128, affinity1 (logits1 r (normed1 ys ym yh x mod nw w))⟩] concatenates_S8192x128_S256x128_S8448x128_d0

theorem value0_apply (i : Fin 8448) (j : Fin 2048) : value0 ys ym yh x mod w (ix2 i j) = residual ys ym yh x mod w i j := by
  unfold value0
  rw [stacked_wide]
  split
  · rename_i h
    rw [residual0_apply]
    exact congrArg (fun i => Cert.Routing.residual ys ym yh x mod w i j) (Fin.ext (Nat.zero_add _))
  · rename_i h
    rw [residual1_apply]
    exact congrArg (fun i => Cert.Routing.residual ys ym yh x mod w i j) (Fin.ext (show 8192 + (i.val - 8192) = i.val by omega))

theorem value1_apply (i : Fin 8448) (j : Fin 2048) : value1 ys ym yh x mod nw w (ix2 i j) = normed ys ym yh x mod nw w i j := by
  unfold value1
  rw [stacked_wide]
  split
  · rename_i h
    rw [normed0_apply]
    exact congrArg (fun i => normed ys ym yh x mod nw w i j) (Fin.ext (Nat.zero_add _))
  · rename_i h
    rw [normed1_apply]
    exact congrArg (fun i => normed ys ym yh x mod nw w i j) (Fin.ext (show 8192 + (i.val - 8192) = i.val by omega))

theorem value2_apply (i : Fin 8448) (j : Fin 128) : value2 ys ym yh x mod nw w r (ix2 i j) = affinity (logit ys ym yh x mod nw w r i) j := by
  unfold value2
  rw [stacked_narrow]
  split
  · rename_i h
    rw [affinity0_apply]
    exact congrArg (fun i => affinity (logit ys ym yh x mod nw w r i) j) (Fin.ext (Nat.zero_add _))
  · rename_i h
    rw [affinity1_apply]
    exact congrArg (fun i => affinity (logit ys ym yh x mod nw w r i) j) (Fin.ext (show 8192 + (i.val - 8192) = i.val by omega))

end

end Cert.Reference3Ideal.Hand

end
-- ==== Proof.Run3.lean ====
module

public import proofs.«01_k».proof.Proof.Reference3
public import proofs.«01_k».proof.Proof.Gen.Reference3Ideal.Run

/-! What the output projection's reference leaves in its second and third results. -/

@[expose] public section

set_option maxRecDepth 16384

noncomputable section

namespace Cert.Reference3Ideal.Hand

open Idealize.ShloMosaic Idealize.ShloMosaic.TcCoe
open Cert.Reference3Ideal Cert.Reference3Ideal.Gen

section
variable (m : (ℓ : Loc nD τ sig) → Buf (Elt Ideal) ℓ) (c : Dev nD)

theorem normed_run : Cert.Reference3Ideal.Value.res_out1 m c = value1 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := rfl

theorem affinity_run : Cert.Reference3Ideal.Value.res_out2 m c = value2 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := rfl

end

end Cert.Reference3Ideal.Hand

end
-- ==== Proof.Finite3.lean ====
module

public import proofs.«01_k».proof.Proof.Softmax
public import proofs.«01_k».proof.Proof.Gen.Pre_all_finite
public import Idealize.ShloMosaic.Lib.ReduceAll
public import Idealize.ShloMosaic.PureOps.Ideal

/-! What the output projection's precondition says: every entry of its eight arguments is a real number. -/

@[expose] public section

noncomputable section

namespace Cert.Pre_all_finite.Hand

open Idealize.ShloMosaic Cert.Pre_all_finite Cert.Pre_all_finite.Gen Cert.Softmax

/-- A number whose absolute value the comparison found below infinity. -/
theorem real_of_cmp {y b : EReal} (hb : b = ⊤) (h : BitVec.ofBool (decide (max y (-y) < b)) = 1#1) : Real' y := by
  have h : max y (-y) < b := by
    by_contra hn
    rw [decide_eq_false hn] at h
    exact absurd h (by decide)
  rw [hb] at h
  have h1 : y ≠ ⊤ := fun e => by simp [e] at h
  have h2 : y ≠ ⊥ := fun e => by simp [e] at h
  exact ⟨y.toReal, (EReal.coe_toReal h1 h2).symm⟩

theorem wide_inf : Ideal.ofBits .f32 0x7F800000#32 = ⊤ := by simp [Ideal.ofBits, Ideal.ieee]

theorem narrow_inf : Ideal.ofBits .bf16 0x7F80#16 = ⊤ := by simp [Ideal.ofBits, Ideal.ieee]

theorem wide {S : Shape} (x : FVec Ideal S .f32) (hb : S_.BroadcastsInDim S (![] : Fin 0 → Fin S.rank)) (i : S.Idx)
    (h : cmpf (F := Ideal) (φ := .f32) .olt (Host.absf x) (broadcastInDim S ![] hb (constant S_ .f32 0x7F800000#32)) i = 1#1) : Real' (x i) :=
  real_of_cmp wide_inf h

theorem narrow {S : Shape} (x : FVec Ideal S .bf16) (hb : S_.BroadcastsInDim S (![] : Fin 0 → Fin S.rank)) (i : S.Idx)
    (h : cmpf (F := Ideal) (φ := .bf16) .olt (Host.absf x) (broadcastInDim S ![] hb (constant S_ .bf16 0x7F80#16)) i = 1#1) : Real' (x i) :=
  real_of_cmp narrow_inf h

instance : Subsingleton S_.Idx := ⟨fun a b => funext fun i => i.elim0⟩

theorem finite (ys ym : Vec Ideal S8448x768 .f32) (yh : Vec Ideal S8448x512 .f32) (x : Vec Ideal S8448x2048 .f32) (mod : Vec Ideal S8x12288 .f32)
    (nw : Vec Ideal S1x2048 .f32) (w : Vec Ideal S2048x2048 .bf16) (r : Vec Ideal S2048x128 .f32)
    (h : fn (F := Ideal) ys ym yh x mod nw w r = fun _ => 1#1) :
    (∀ i, Real' (ys i)) ∧ (∀ i, Real' (ym i)) ∧ (∀ i, Real' (yh i)) ∧ (∀ i, Real' (x i)) ∧ (∀ i, Real' (mod i)) ∧ (∀ i, Real' (nw i))
      ∧ (∀ i, Real' (w i)) ∧ ∀ i, Real' (r i) := by
  have h := congrFun h (Shape.Idx.first Facts.h_S_)
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => wide ys _ i (Host.reduce_andi_all _ _ _ _ _ h0 i), fun i => wide ym _ i (Host.reduce_andi_all _ _ _ _ _ h1 i),
    fun i => wide yh _ i (Host.reduce_andi_all _ _ _ _ _ h2 i), fun i => wide x _ i (Host.reduce_andi_all _ _ _ _ _ h3 i),
    fun i => wide mod _ i (Host.reduce_andi_all _ _ _ _ _ h4 i), fun i => wide nw _ i (Host.reduce_andi_all _ _ _ _ _ h5 i),
    fun i => narrow w _ i (Host.reduce_andi_all _ _ _ _ _ h6 i), fun i => wide r _ i (Host.reduce_andi_all _ _ _ _ _ h7 i)⟩

end Cert.Pre_all_finite.Hand

end
-- ==== Proof.Blocks4.lean ====
module

public import proofs.«01_k».proof.Proof.Gen.Kernel4Ideal.Value
public import proofs.«01_k».proof.Proof.Projection
public import Idealize.ShloMosaic.Lib.Pointwise

/-! The final norm: its payload and blocks, index by index, and the result array assembled from them. -/

@[expose] public section

set_option maxRecDepth 16384

noncomputable section

namespace Cert.FinalNorm

open Idealize.ShloMosaic Cert.Projection

/-- A row divided by its root mean square, times the norm's weights. -/
def weighted (x w : Fin 2048 → EReal) (d : Fin 2048) : EReal :=
  x d * Ideal.rsqrt (Ideal.div (∑ e : Fin 2048, x e * x e) (Ideal.ofBits .f32 0x45000000#32) + Ideal.ofBits .f32 0x358637BD#32) * w d

/-- The norm of token `i` at `d`. -/
def entry (x : Mat 8448 2048) (w : Mat 1 2048) (i : Fin 8192) (d : Fin 2048) : EReal :=
  weighted (fun e => x (ix2 ⟨i.val, by omega⟩ e)) (fun e => w (ix2 0 e)) d

end Cert.FinalNorm

namespace Cert.Kernel4Ideal.Hand

open Idealize.ShloMosaic Idealize.ShloMosaic.TcCoe
open Idealize.ShloMosaic.Pipeline (Dat)
open Cert.Kernel4Ideal.Gen Cert.Projection Cert.FinalNorm

theorem zero_offset : (![0, 0] : Fin 2 → Nat) = fun _ => 0 := funext fun a => by fin_cases a <;> rfl

theorem pay1_apply (x : Vec Ideal S512x2048 .f32) (w : Vec Ideal S1x2048 .f32) (r : Fin 512) (d : Fin 2048) :
    k0_pay1 x w (ix2 r d) = weighted (fun e => x (ix2 r e)) (fun e => w (ix2 0 e)) d := by
  unfold weighted
  pointwise [k0_pay1]

section
variable (c : Dev nD) (i : grid0.Coords) (a1 : Memref sig .tc .vmem S512x2048 .f32) (h1 : a1.IsWhole) (a2 : Memref sig .tc .vmem S1x2048 .f32) (h2 : a2.IsWhole)
  (a3 : Memref sig .tc .vmem S512x2048 .f32) (h3 : a3.IsWhole) (x : Vec Ideal S512x2048 .f32) (w : Vec Ideal S1x2048 .f32)

/-- A point's block ends with the normalized rows. -/
theorem out_eq : out0_A_2 c i a1 h1 a2 h2 a3 h3 x w = k0_pay1 x w := by
  unfold out0_A_2
  rw [View.read_writes_eq_canon _ _ _ (cover0_A_2 c i a1 h1 a2 h2 a3 h3 x w)]
  unfold kernelRun0_A
  dsimp only
  rw [View.canon_unit_zero (S := S512x2048) zero_offset]
  simp only [View.readAt_eq_ld, h1.read_unread, h2.read_unread, View.ld_unit_zero (S := S512x2048) zero_offset, View.ld_unit_zero (S := S1x2048) zero_offset]

end

variable (m : (ℓ : Loc nD τ sig) → Buf (Elt Ideal) ℓ) (c : Dev nD)

theorem lt_N (t : Fin cfg0.N) : t.val < 16 := lt_of_lt_of_eq t.isLt N_0

theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = t.val ∧ win0_2.index t 1 = 0 := by decide +kernel

abbrev xs : Mat 8448 2048 := m ((c : Thread nD τ).loc main_arg0)
abbrev ws : Mat 1 2048 := m ((c : Thread nD τ).loc main_arg1)

/-- The point's tokens. -/
theorem x_block (t : Fin cfg0.N) (r : Fin 512) (e : Fin 2048) : (X0_0 m c t : Vec Ideal S512x2048 .f32) (ix2 r e)
    = xs m c (ix2 ⟨512 * t.val + r.val, by have := lt_N t; omega⟩ e) := by
  unfold X0_0 Pipeline.Window.fill
  refine (dif_pos (moved0_0 t _)).trans ?_
  unfold iblk
  show _ = m ((c : Thread nD τ).loc main_arg0) _
  rw [View.read_apply, ← V_main_arg0 m c]
  refine congrArg (V m c main_arg0) (funext fun a => Fin.ext ?_)
  have hi := index_0 t
  fin_cases a
  · show win0_0.index t 0 * 512 + 1 * r.val = 512 * t.val + r.val
    omega
  · show win0_0.index t 1 * 2048 + 1 * e.val = e.val
    omega

theorem w_block (t : Fin cfg0.N) (e : Fin 2048) : (iblk m c 1 t : Vec Ideal S1x2048 .f32) (ix2 0 e) = ws m c (ix2 0 e) := by
  unfold iblk
  show _ = m ((c : Thread nD τ).loc main_arg1) _
  rw [View.read_apply, ← V_main_arg1 m c]
  refine congrArg (V m c main_arg1) (funext fun a => Fin.ext ?_)
  have hi := index_1 t
  fin_cases a
  · show win0_1.index t 0 * 1 + 1 * 0 = 0
    omega
  · show win0_1.index t 1 * 2048 + 1 * e.val = e.val
    omega

/-- What a point writes back. -/
theorem block_apply (t : Fin cfg0.N) (r : Fin 512) (d : Fin 2048) : outsAt0 m c t (ix2 r d)
    = entry (xs m c) (ws m c) ⟨512 * t.val + r.val, by have := lt_N t; omega⟩ d := by
  unfold outsAt0
  rw [out_eq]
  refine (pay1_apply _ _ r d).trans ?_
  unfold entry
  simp only [x_block, w_block]

/-- The result array. -/
abbrev result : Mat 8192 2048 := fun i => entry (xs m c) (ws m c) (i 0) (i 1)

set_option maxRecDepth 65536 in
theorem flushed_eq (t : Fin cfg0.N) : (dats m 0 c).flushed 2 t = ((cfg0.win 2).blk t).view.read (Elt Ideal) (result m c) := by
  rw [Cert.Kernel4Ideal.Value.flushed2]
  funext j
  have h0 : (j 0).val < 512 := (j 0).isLt
  have h1 : (j 1).val < 2048 := (j 1).isLt
  have ht := lt_N t
  have hi := index_2 t
  have e : (fun a => j a : S512x2048.Idx) = ix2 ⟨(j 0).val, h0⟩ ⟨(j 1).val, h1⟩ := by
    funext a
    match a with
    | ⟨0, _⟩ => rfl
    | ⟨1, _⟩ => rfl
  rw [View.read_apply]
  refine (congrArg (outsAt0 m c t) e).trans ((block_apply m c t ⟨(j 0).val, h0⟩ ⟨(j 1).val, h1⟩).trans (Eq.symm ?_))
  refine congrArg₂ (entry (xs m c) (ws m c)) (Fin.ext ?_) (Fin.ext ?_)
  · show win0_2.index t 0 * 512 + 1 * (j 0).val = 512 * t.val + (j 0).val
    omega
  · show win0_2.index t 1 * 2048 + 1 * (j 1).val = (j 1).val
    omega

theorem cover (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  let t : Fin cfg0.N := ⟨(i 0).val / 512, lt_of_lt_of_eq (b := 16) (by omega) N_0.symm⟩
  have hi := index_2 t
  have e : t.val = (i 0).val / 512 := rfl
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 512 ≤ (i 0).val ∧ (i 0).val < win0_2.index t 0 * 512 + 512
    omega
  | ⟨1, _⟩ =>
    show win0_2.index t 1 * 2048 ≤ (i 1).val ∧ (i 1).val < win0_2.index t 1 * 2048 + 2048
    omega

/-- The result array after the run. -/
theorem final : (dats m 0 c).arrAt 2 cfg0.N = result m c :=
  (dats m 0 c).arrAt_eq_of_cover 2 (result m c) (fun t _ => flushed_eq m c t) cover

end Cert.Kernel4Ideal.Hand

end
-- ==== Proof.Reference4.lean ====
module

public import proofs.«01_k».proof.Proof.Blocks4
public import proofs.«01_k».proof.Proof.Gen.Reference4Ideal.Run

/-! The final norm's reference at an index. -/

@[expose] public section

set_option maxRecDepth 16384

noncomputable section

namespace Cert.Reference4Ideal.Hand

open Idealize.ShloMosaic Idealize.ShloMosaic.TcCoe
open Cert.Reference4Ideal Cert.Reference4Ideal.Gen Cert.Projection Cert.FinalNorm

/-- A sum along the last axis, from zero. -/
theorem reduce_add {a n : ℕ} {u : Shape} (x : FVec Ideal ⟨2, ![a, n]⟩ .f32) (init : FVec Ideal u .f32)
    (h : (⟨2, ![a, n]⟩ : Shape).ReducesTo [1] ⟨1, ![a]⟩) (hu : 0 < u.numel) (i : Fin a) :
    Host.reduceAdd x init h hu (ix1 i) = init (Shape.Idx.first hu) + ∑ k : Fin n, x (ix2 i k) := by
  simp only [pointwise, Ideal.hostReduceAdd_def]

/-- The tokens of the first segment. -/
def tokens (x : Vec Ideal S8448x2048 .f32) : Vec Ideal S8192x2048 .f32 := extractStridedSlice S8192x2048 ![0, 0] x slices_S8448x2048_S8192x2048_0_0

/-- The sums of squares of rows. -/
def squares (y : Vec Ideal S8192x2048 .f32) : Vec Ideal S8192 .f32 :=
  Host.reduceAdd (F := Ideal) (φ := .f32) (mulf (F := Ideal) (φ := .f32) y y) (constant S_ .f32 0x00000000#32) reducesTo_S8192x2048_S8192_d1 h_S_

/-- Rows normalized by given sums of squares, times the weights. -/
def rows (w : Vec Ideal S1x2048 .f32) (y : Vec Ideal S8192x2048 .f32) (s : Vec Ideal S8192 .f32) : Vec Ideal S8192x2048 .f32 :=
  mulf (F := Ideal) (φ := .f32) (mulf y (broadcastInDim S8192x2048 ![0, 1] bcast_S8192x1_S8192x2048_0_1 (Host.rsqrt (addf (Host.divf (broadcastInDim S8192x1 ![0] bcast_S8192_S8192x1_0 s) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ w shapeCasts_S1x2048_S2048)))

theorem tokens_apply (x : Vec Ideal S8448x2048 .f32) (i : Fin 8192) (e : Fin 2048) : tokens x (ix2 i e) = x (ix2 ⟨i.val, by omega⟩ e) := by
  pointwise [tokens]

theorem squares_apply (y : Vec Ideal S8192x2048 .f32) (i : Fin 8192) : squares y (ix1 i) = ∑ e : Fin 2048, y (ix2 i e) * y (ix2 i e) := by
  refine (reduce_add _ _ _ _ i).trans ?_
  pointwise

theorem rows_apply (w : Vec Ideal S1x2048 .f32) (y : Vec Ideal S8192x2048 .f32) (s : Vec Ideal S8192 .f32) (i : Fin 8192) (d : Fin 2048) :
    rows w y s (ix2 i d) = y (ix2 i d) * Ideal.rsqrt (Ideal.div (s (ix1 i)) (Ideal.ofBits .f32 0x45000000#32) + Ideal.ofBits .f32 0x358637BD#32) * w (ix2 0 d) := by
  pointwise [rows]

/-- The whole result. -/
def value (x : Vec Ideal S8448x2048 .f32) (w : Vec Ideal S1x2048 .f32) : Vec Ideal S8192x2048 .f32 := rows w (tokens x) (squares (tokens x))

theorem value_apply (x : Vec Ideal S8448x2048 .f32) (w : Vec Ideal S1x2048 .f32) (i : Fin 8192) (d : Fin 2048) : value x w (ix2 i d) = entry x w i d := by
  unfold value entry weighted
  rw [rows_apply]
  simp only [squares_apply, tokens_apply]

end Cert.Reference4Ideal.Hand

end
-- ==== Proof.Latent.lean ====
module

public import proofs.«01_k».proof.Proof.Projection

/-! The mathematics of the latent projections: normalized rows times weights, and the rotation of the last columns. -/

@[expose] public section

noncomputable section

namespace Cert.Latent

open Idealize.ShloMosaic Cert.Projection

/-- A row of size `size` divided by its root mean square, times the norm's weights. -/
def normed {n : ℕ} (size : EReal) (x w : Fin n → EReal) (d : Fin n) : EReal :=
  x d * Ideal.rsqrt (Ideal.div (∑ e : Fin n, x e * x e) size + Ideal.ofBits .f32 0x358637BD#32) * w d

/-- Thirty-two pairs rotated by their angles: a pair is a column and the one 64 after it; the columns between are zero. -/
def rotated (a : Fin 128 → EReal) (cos sin : Fin 32 → EReal) (d : Fin 128) : EReal :=
  if h : d.val < 32 then a d * cos ⟨d.val, h⟩ - a ⟨d.val + 64, by omega⟩ * sin ⟨d.val, h⟩
  else if h : d.val < 64 then 0
  else if h' : d.val < 96 then a ⟨d.val - 64, by omega⟩ * sin ⟨d.val - 64, by omega⟩ + a d * cos ⟨d.val - 64, by omega⟩
  else 0

/-- The same with the angles' cosines and sines laid out over 128 columns, one product for each column and one for the column half way round. -/
def turned (a c s : Fin 128 → EReal) (d : Fin 128) : EReal :=
  a d * c d + a ⟨(d.val + 128 - 64) % 128, Nat.mod_lt _ (by decide)⟩ * s d

def wideCos (cos : Fin 32 → EReal) (d : Fin 128) : EReal :=
  if h : d.val < 32 then cos ⟨d.val, h⟩ else if h : d.val < 64 then 0 else if h' : d.val < 96 then cos ⟨d.val - 64, by omega⟩ else 0

def wideSin (sin : Fin 32 → EReal) (d : Fin 128) : EReal :=
  if h : d.val < 32 then -sin ⟨d.val, h⟩ else if h : d.val < 64 then 0 else if h' : d.val < 96 then sin ⟨d.val - 64, by omega⟩ else 0

theorem turned_wide (a : Fin 128 → EReal) (cos sin : Fin 32 → EReal) (d : Fin 128) :
    turned a (wideCos cos) (wideSin sin) d = rotated a cos sin d := by
  unfold turned wideCos wideSin rotated
  by_cases h0 : d.val < 32
  · rw [dif_pos h0, dif_pos h0, dif_pos h0, mul_neg, ← sub_eq_add_neg]
    exact congrArg (fun k => a d * cos ⟨d.val, h0⟩ - a k * sin ⟨d.val, h0⟩) (Fin.ext (show (d.val + 128 - 64) % 128 = d.val + 64 by omega))
  · rw [dif_neg h0, dif_neg h0, dif_neg h0]
    by_cases h1 : d.val < 64
    · rw [dif_pos h1, dif_pos h1, dif_pos h1, mul_zero, mul_zero, add_zero]
    · rw [dif_neg h1, dif_neg h1, dif_neg h1]
      by_cases h2 : d.val < 96
      · rw [dif_pos h2, dif_pos h2, dif_pos h2, add_comm]
        exact congrArg (fun k => a k * sin ⟨d.val - 64, by omega⟩ + a d * cos ⟨d.val - 64, by omega⟩)
          (Fin.ext (show (d.val + 128 - 64) % 128 = d.val - 64 by omega))
      · rw [dif_neg h2, dif_neg h2, dif_neg h2, mul_zero, mul_zero, add_zero]

section
variable (p : Mat 8448 4608) (cos sin : Mat 8448 32) (qnw : Mat 1 512) (kvnw : Mat 1 256) (wq : Mat 512 1536) (wkv : Mat 256 1536)

/-- Column `j` of token `i`'s queries, scaled. -/
def query (i : Fin 8448) (j : Fin 1536) : EReal :=
  (∑ d : Fin 512, normed (Ideal.ofBits .f32 0x44000000#32) (fun e => p (ix2 i ⟨4096 + e.val, by omega⟩)) (fun e => qnw (ix2 0 e)) d * wq (ix2 d j))
    * Ideal.ofBits .f32 0x3D93CD3A#32

/-- Column `j` of token `i`'s keys and values. -/
def keyValue (i : Fin 8448) (j : Fin 1536) : EReal :=
  ∑ d : Fin 256, normed (Ideal.ofBits .f32 0x43800000#32) (fun e => p (ix2 i ⟨2304 + e.val, by omega⟩)) (fun e => kvnw (ix2 0 e)) d * wkv (ix2 d j)

/-- Head `h`'s query of token `i`. -/
def queries (h : Fin 6) (i : Fin 8448) (d : Fin 256) : EReal :=
  if hd : d.val < 128 then query p qnw wq i ⟨256 * h.val + d.val, by omega⟩
  else rotated (fun e => query p qnw wq i ⟨256 * h.val + 128 + e.val, by omega⟩) (fun e => cos (ix2 i e)) (fun e => sin (ix2 i e)) ⟨d.val - 128, by omega⟩

/-- Head `h`'s key of token `i`: its own columns, and the rotated ones that all heads share. -/
def keys (h : Fin 6) (i : Fin 8448) (d : Fin 256) : EReal :=
  if hd : d.val < 128 then keyValue p kvnw wkv i ⟨256 * h.val + d.val, by omega⟩
  else rotated (fun e => p (ix2 i ⟨3840 + e.val, by omega⟩)) (fun e => cos (ix2 i e)) (fun e => sin (ix2 i e)) ⟨d.val - 128, by omega⟩

/-- Head `h`'s value of token `i`, with ones after it. -/
def values (h : Fin 6) (i : Fin 8448) (d : Fin 256) : EReal :=
  if hd : d.val < 128 then keyValue p kvnw wkv i ⟨256 * h.val + 128 + d.val, by omega⟩ else 1

end

end Cert.Latent

end
-- ==== Proof.Payload5.lean ====
module

public import proofs.«01_k».proof.Proof.Gen.Kernel5Ideal.Skeleton
public import proofs.«01_k».proof.Proof.Latent
public import Idealize.ShloMosaic.Lib.Pointwise

/-! The latent projections' payloads, index by index. -/

@[expose] public section

set_option maxRecDepth 16384

noncomputable section

namespace Cert.Kernel5Ideal.Hand

open Idealize.ShloMosaic Idealize.ShloMosaic.TcCoe
open Cert.Kernel5Ideal.Gen Cert.Latent

theorem pay2_apply (c : Vec Ideal S768x128 .f32) (r : Fin 768) (d : Fin 128) : k0_pay2 c (ix2 r d) = c (ix2 r d) := by
  pointwise [k0_pay2]

theorem pay3_apply (c : Vec Ideal S768x128 .f32) (r : Fin 768) (d : Fin 128) : k0_pay3 c (ix2 r d) = c (ix2 r d) := by
  pointwise [k0_pay3]

theorem pay4_apply (x : Vec Ideal S768x512 .f32) (nw : Vec Ideal S1x512 .f32) (w : Vec Ideal S512x1536 .bf16) (r : Fin 768) (j : Fin 1536) :
    k0_pay4 x nw w (ix2 r j) = (∑ d : Fin 512, normed (Ideal.ofBits .f32 0x44000000#32) (fun e => x (ix2 r e)) (fun e => nw (ix2 0 e)) d * w (ix2 d j))
      * Ideal.ofBits .f32 0x3D93CD3A#32 := by
  unfold normed
  pointwise [k0_pay4]

theorem pay5_apply (x : Vec Ideal S768x256 .f32) (nw : Vec Ideal S1x256 .f32) (r : Fin 768) (d : Fin 256) :
    k0_pay5 x nw (ix2 r d) = normed (Ideal.ofBits .f32 0x43800000#32) (fun e => x (ix2 r e)) (fun e => nw (ix2 0 e)) d := by
  unfold normed
  pointwise [k0_pay5]

theorem pay6_apply (x : FVec Ideal S768x256 .f32) (w : Vec Ideal S256x1536 .bf16) (r : Fin 768) (j : Fin 1536) :
    k0_pay6 x w (ix2 r j) = ∑ d : Fin 256, x (ix2 r d) * w (ix2 d j) := by
  pointwise [k0_pay6]

theorem pay7_apply (c s : FVec Ideal S768x128 .f32) (x : Vec Ideal S768x128 .f32) (r : Fin 768) (d : Fin 128) :
    k0_pay7 c s x (ix2 r d) = turned (fun e => x (ix2 r e)) (fun e => c (ix2 r e)) (fun e => s (ix2 r e)) d := by
  unfold turned
  pointwise [k0_pay7]

/-- Columns `o` to `o + 127`, stored as one head's. -/
theorem stored (v : FVec Ideal S768x1536 .f32) (o : ℕ) (hs : S768x1536.Slices ![0, o] S768x128) (r : Fin 768) (d : Fin 128) (hd : o + d.val < 1536) :
    shapeCast S1x768x128 (truncf (F := Ideal) .bf16 (extractStridedSlice S768x128 ![0, o] v hs) bitsLt_bf16_f32) shapeCasts_S768x128_S1x768x128 (ix3 0 r d)
      = v (ix2 r ⟨o + d.val, hd⟩) := by
  pointwise

/-- The same, turned by the angles. -/
theorem stored_turned (c s : FVec Ideal S768x128 .f32) (v : FVec Ideal S768x1536 .f32) (o : ℕ) (hs : S768x1536.Slices ![0, o] S768x128)
    (r : Fin 768) (d : Fin 128) (ho : o ≤ 1408) :
    shapeCast S1x768x128 (truncf (F := Ideal) .bf16 (addf (F := Ideal) (φ := .f32) (mulf (extractStridedSlice S768x128 ![0, o] v hs) c)
        (mulf (dynamicRotate 1 64#32 none (extractStridedSlice S768x128 ![0, o] v hs) rotates_S768x128_d1) s)) bitsLt_bf16_f32) shapeCasts_S768x128_S1x768x128 (ix3 0 r d)
      = turned (fun e => v (ix2 r ⟨o + e.val, by omega⟩)) (fun e => c (ix2 r e)) (fun e => s (ix2 r e)) d := by
  unfold turned
  pointwise

theorem stored_plain (v : FVec Ideal S768x128 .bf16) (r : Fin 768) (d : Fin 128) :
    shapeCast S1x768x128 v shapeCasts_S768x128_S1x768x128 (ix3 0 r d) = v (ix2 r d) := by
  pointwise

theorem one : Ideal.ofBits .bf16 0x3F80#16 = 1 := by
  simp [Ideal.ofBits, Ideal.ieee]
  rw [← EReal.coe_mul]
  norm_num

theorem stored_ones (r : Fin 768) (d : Fin 128) :
    shapeCast S1x768x128 (broadcast S768x128 (Scalar.ofBits (F := Ideal) .bf16 0x3F80#16)) shapeCasts_S768x128_S1x768x128 (ix3 0 r d) = (1 : EReal) := by
  pointwise

end Cert.Kernel5Ideal.Hand

end
-- ==== Proof.Blocks5.lean ====
module

public import proofs.«01_k».proof.Proof.Gen.Kernel5Ideal.Value
public import proofs.«01_k».proof.Proof.Payload5

/-! The latent projections' blocks, index by index, and the result arrays assembled from them. -/

@[expose] public section

set_option maxRecDepth 16384

noncomputable section

namespace Cert.Kernel5Ideal.Hand

open Idealize.ShloMosaic Idealize.ShloMosaic.TcCoe
open Idealize.ShloMosaic.Pipeline (Dat)
open Cert.Kernel5Ideal.Gen Cert.Projection Cert.Latent

theorem zero_offset : (![0, 0] : Fin 2 → Nat) = fun _ => 0 := funext fun a => by fin_cases a <;> rfl

/-- A function of head, row and column as a block. -/
def block (g : Fin 6 → Fin 768 → Fin 256 → EReal) : S6x768x256.Idx → EReal := fun y => g (y 0) (y 1) (y 2)

/-- A store of one head's rows, at columns `o` to `o + 127`, is a piece of such a block. -/
theorem piece (g : Fin 6 → Fin 768 → Fin 256 → EReal) (P : S1x768x128.Idx → EReal) (h o : ℕ)
    (inb : ∀ a, (![h, 0, o] : Fin 3 → ℕ) a + S1x768x128.size a ≤ S6x768x256.size a) (hh : h < 6) (ho : o ≤ 128)
    (hP : ∀ (r : Fin 768) (d : Fin 128), P (ix3 0 r d) = g ⟨h, hh⟩ r ⟨o + d.val, by omega⟩) :
    ∀ x : S1x768x128.Idx, P x = block g ((Rect.unit (s := S6x768x256) ![h, 0, o] S1x768x128.size inb).emb x) := by
  intro x
  have h0 : (x 0).val < 1 := (x 0).isLt
  have h1 : (x 1).val < 768 := (x 1).isLt
  have h2 : (x 2).val < 128 := (x 2).isLt
  have e : x = ix3 (n0 := 1) (n1 := 768) (n2 := 128) 0 ⟨(x 1).val, h1⟩ ⟨(x 2).val, h2⟩ := by
    funext a
    match a with
    | ⟨0, _⟩ => exact Fin.ext (show (x 0).val = 0 by omega)
    | ⟨1, _⟩ => rfl
    | ⟨2, _⟩ => rfl
  refine (congrArg P e).trans ((hP _ _).trans ?_)
  unfold block
  have e0 : (⟨h, hh⟩ : Fin 6) = (Rect.unit (s := S6x768x256) ![h, 0, o] S1x768x128.size inb).emb x 0 :=
    Fin.ext (show h = h + 1 * (x 0).val by omega)
  have e1 : (⟨(x 1).val, h1⟩ : Fin 768) = (Rect.unit (s := S6x768x256) ![h, 0, o] S1x768x128.size inb).emb x 1 :=
    Fin.ext (show (x 1).val = 0 + 1 * (x 1).val by omega)
  have e2 : (⟨o + (x 2).val, by omega⟩ : Fin 256) = (Rect.unit (s := S6x768x256) ![h, 0, o] S1x768x128.size inb).emb x 2 :=
    Fin.ext (show o + (x 2).val = o + 1 * (x 2).val by omega)
  rw [← e0, ← e1, ← e2]

/-- The queries' block from the scaled products and the angles' tables. -/
def qBlock (Q : FVec Ideal S768x1536 .f32) (c s : FVec Ideal S768x128 .f32) (h : Fin 6) (r : Fin 768) (d : Fin 256) : EReal :=
  if hd : d.val < 128 then Q (ix2 r ⟨256 * h.val + d.val, by omega⟩)
  else turned (fun e => Q (ix2 r ⟨256 * h.val + 128 + e.val, by omega⟩)) (fun e => c (ix2 r e)) (fun e => s (ix2 r e)) ⟨d.val - 128, by omega⟩

/-- The keys' block from the products and the turned columns. -/
def kBlock (K : FVec Ideal S768x1536 .f32) (R : FVec Ideal S768x128 .bf16) (h : Fin 6) (r : Fin 768) (d : Fin 256) : EReal :=
  if hd : d.val < 128 then K (ix2 r ⟨256 * h.val + d.val, by omega⟩) else R (ix2 r ⟨d.val - 128, by omega⟩)

/-- The values' block from the products. -/
def vBlock (K : FVec Ideal S768x1536 .f32) (h : Fin 6) (r : Fin 768) (d : Fin 256) : EReal :=
  if hd : d.val < 128 then K (ix2 r ⟨256 * h.val + 128 + d.val, by omega⟩) else 1

section
variable (Q K : FVec Ideal S768x1536 .f32) (c s : FVec Ideal S768x128 .f32) (R : FVec Ideal S768x128 .bf16) (h o : ℕ) (hh : h < 6)
  (hs : S768x1536.Slices ![0, o] S768x128) (r : Fin 768) (d : Fin 128)

theorem q_low (ho : o = 256 * h) :
    shapeCast S1x768x128 (truncf (F := Ideal) .bf16 (extractStridedSlice S768x128 ![0, o] Q hs) bitsLt_bf16_f32) shapeCasts_S768x128_S1x768x128 (ix3 0 r d)
      = qBlock Q c s ⟨h, hh⟩ r ⟨0 + d.val, by omega⟩ := by
  refine (stored Q o hs r d (by omega)).trans (Eq.symm ((dif_pos (show 0 + d.val < 128 by omega)).trans ?_))
  exact congrArg (fun j => Q (ix2 r j)) (Fin.ext (show 256 * h + (0 + d.val) = o + d.val by omega))

theorem q_high (ho : o = 256 * h + 128) :
    shapeCast S1x768x128 (truncf (F := Ideal) .bf16 (addf (F := Ideal) (φ := .f32) (mulf (extractStridedSlice S768x128 ![0, o] Q hs) c)
        (mulf (dynamicRotate 1 64#32 none (extractStridedSlice S768x128 ![0, o] Q hs) rotates_S768x128_d1) s)) bitsLt_bf16_f32) shapeCasts_S768x128_S1x768x128 (ix3 0 r d)
      = qBlock Q c s ⟨h, hh⟩ r ⟨128 + d.val, by omega⟩ := by
  subst ho
  refine (stored_turned c s Q _ hs r d (by omega)).trans (Eq.symm ((dif_neg (show ¬128 + d.val < 128 by omega)).trans ?_))
  exact congrArg (turned _ _ _) (Fin.ext (show 128 + d.val - 128 = d.val by omega))

theorem k_low (ho : o = 256 * h) :
    shapeCast S1x768x128 (truncf (F := Ideal) .bf16 (extractStridedSlice S768x128 ![0, o] K hs) bitsLt_bf16_f32) shapeCasts_S768x128_S1x768x128 (ix3 0 r d)
      = kBlock K R ⟨h, hh⟩ r ⟨0 + d.val, by omega⟩ := by
  refine (stored K o hs r d (by omega)).trans (Eq.symm ((dif_pos (show 0 + d.val < 128 by omega)).trans ?_))
  exact congrArg (fun j => K (ix2 r j)) (Fin.ext (show 256 * h + (0 + d.val) = o + d.val by omega))

theorem k_high : shapeCast S1x768x128 R shapeCasts_S768x128_S1x768x128 (ix3 0 r d) = kBlock K R ⟨h, hh⟩ r ⟨128 + d.val, by omega⟩ := by
  refine (stored_plain R r d).trans (Eq.symm ((dif_neg (show ¬128 + d.val < 128 by omega)).trans ?_))
  exact congrArg (fun j => R (ix2 r j)) (Fin.ext (show 128 + d.val - 128 = d.val by omega))

theorem v_low (ho : o = 256 * h + 128) :
    shapeCast S1x768x128 (truncf (F := Ideal) .bf16 (extractStridedSlice S768x128 ![0, o] K hs) bitsLt_bf16_f32) shapeCasts_S768x128_S1x768x128 (ix3 0 r d)
      = vBlock K ⟨h, hh⟩ r ⟨0 + d.val, by omega⟩ := by
  refine (stored K o hs r d (by omega)).trans (Eq.symm ((dif_pos (show 0 + d.val < 128 by omega)).trans ?_))
  exact congrArg (fun j => K (ix2 r j)) (Fin.ext (show 256 * h + 128 + (0 + d.val) = o + d.val by omega))

theorem v_high : shapeCast S1x768x128 (broadcast S768x128 (Scalar.ofBits (F := Ideal) .bf16 0x3F80#16)) shapeCasts_S768x128_S1x768x128 (ix3 0 r d)
    = vBlock K ⟨h, hh⟩ r ⟨128 + d.val, by omega⟩ := by
  refine (stored_ones r d).trans (Eq.symm ?_)
  unfold vBlock
  exact dif_neg (show ¬128 + d.val < 128 by omega)

end

section
variable (x0 : Vec Ideal S768x512 .f32) (x1 : Vec Ideal S768x256 .f32) (x2 x3 x4 : Vec Ideal S768x128 .f32) (x5 : Vec Ideal S1x512 .f32)
  (x6 : Vec Ideal S1x256 .f32) (x7 : Vec Ideal S512x1536 .bf16) (x8 : Vec Ideal S256x1536 .bf16)

theorem out9_eq : out0_9 x0 x1 x2 x3 x4 x5 x6 x7 x8 = block (qBlock (k0_pay49 x0 x1 x2 x3 x4 x5 x6 x7 x8) (k0_pay47 x0 x1 x2 x3 x4 x5 x6 x7 x8) (k0_pay48 x0 x1 x2 x3 x4 x5 x6 x7 x8)) := by
  funext y
  unfold out0_9
  refine View.canon_apply_of_pieces (Val := Elt Ideal) ((block (qBlock (k0_pay49 x0 x1 x2 x3 x4 x5 x6 x7 x8) (k0_pay47 x0 x1 x2 x3 x4 x5 x6 x7 x8) (k0_pay48 x0 x1 x2 x3 x4 x5 x6 x7 x8))) : S6x768x256.Idx → Elt Ideal .bf16) _ ?_ y (cover0_9 _ _ _ _ _ _ _ _ _ _ _ _ y)
  exact (
    List.forall_mem_cons.mpr ⟨piece _ _ 5 128 inb_S6x768x256_S1x768x128_5_0_128 (by decide) (by decide) fun r d => q_high (k0_pay49 x0 x1 x2 x3 x4 x5 x6 x7 x8) (k0_pay47 x0 x1 x2 x3 x4 x5 x6 x7 x8) (k0_pay48 x0 x1 x2 x3 x4 x5 x6 x7 x8) 5 1408 (by decide) _ r d rfl,
    List.forall_mem_cons.mpr ⟨piece _ _ 5 0 inb_S6x768x256_S1x768x128_5_0_0 (by decide) (by decide) fun r d => q_low (k0_pay49 x0 x1 x2 x3 x4 x5 x6 x7 x8) (k0_pay47 x0 x1 x2 x3 x4 x5 x6 x7 x8) (k0_pay48 x0 x1 x2 x3 x4 x5 x6 x7 x8) 5 1280 (by decide) _ r d rfl,
    List.forall_mem_cons.mpr ⟨piece _ _ 4 128 inb_S6x768x256_S1x768x128_4_0_128 (by decide) (by decide) fun r d => q_high (k0_pay49 x0 x1 x2 x3 x4 x5 x6 x7 x8) (k0_pay47 x0 x1 x2 x3 x4 x5 x6 x7 x8) (k0_pay48 x0 x1 x2 x3 x4 x5 x6 x7 x8) 4 1152 (by decide) _ r d rfl,
    List.forall_mem_cons.mpr ⟨piece _ _ 4 0 inb_S6x768x256_S1x768x128_4_0_0 (by decide) (by decide) fun r d => q_low (k0_pay49 x0 x1 x2 x3 x4 x5 x6 x7 x8) (k0_pay47 x0 x1 x2 x3 x4 x5 x6 x7 x8) (k0_pay48 x0 x1 x2 x3 x4 x5 x6 x7 x8) 4 1024 (by decide) _ r d rfl,
    List.forall_mem_cons.mpr ⟨piece _ _ 3 128 inb_S6x768x256_S1x768x128_3_0_128 (by decide) (by decide) fun r d => q_high (k0_pay49 x0 x1 x2 x3 x4 x5 x6 x7 x8) (k0_pay47 x0 x1 x2 x3 x4 x5 x6 x7 x8) (k0_pay48 x0 x1 x2 x3 x4 x5 x6 x7 x8) 3 896 (by decide) _ r d rfl,
    List.forall_mem_cons.mpr ⟨piece _ _ 3 0 inb_S6x768x256_S1x768x128_3_0_0 (by decide) (by decide) fun r d => q_low (k0_pay49 x0 x1 x2 x3 x4 x5 x6 x7 x8) (k0_pay47 x0 x1 x2 x3 x4 x5 x6 x7 x8) (k0_pay48 x0 x1 x2 x3 x4 x5 x6 x7 x8) 3 768 (by decide) _ r d rfl,
    List.forall_mem_cons.mpr ⟨piece _ _ 2 128 inb_S6x768x256_S1x768x128_2_0_128 (by decide) (by decide) fun r d => q_high (k0_pay49 x0 x1 x2 x3 x4 x5 x6 x7 x8) (k0_pay47 x0 x1 x2 x3 x4 x5 x6 x7 x8) (k0_pay48 x0 x1 x2 x3 x4 x5 x6 x7 x8) 2 640 (by decide) _ r d rfl,
    List.forall_mem_cons.mpr ⟨piece _ _ 2 0 inb_S6x768x256_S1x768x128_2_0_0 (by decide) (by decide) fun r d => q_low (k0_pay49 x0 x1 x2 x3 x4 x5 x6 x7 x8) (k0_pay47 x0 x1 x2 x3 x4 x5 x6 x7 x8) (k0_pay48 x0 x1 x2 x3 x4 x5 x6 x7 x8) 2 512 (by decide) _ r d rfl,
    List.forall_mem_cons.mpr ⟨piece _ _ 1 128 inb_S6x768x256_S1x768x128_1_0_128 (by decide) (by decide) fun r d => q_high (k0_pay49 x0 x1 x2 x3 x4 x5 x6 x7 x8) (k0_pay47 x0 x1 x2 x3 x4 x5 x6 x7 x8) (k0_pay48 x0 x1 x2 x3 x4 x5 x6 x7 x8) 1 384 (by decide) _ r d rfl,
    List.forall_mem_cons.mpr ⟨piece _ _ 1 0 inb_S6x768x256_S1x768x128_1_0_0 (by decide) (by decide) fun r d => q_low (k0_pay49 x0 x1 x2 x3 x4 x5 x6 x7 x8) (k0_pay47 x0 x1 x2 x3 x4 x5 x6 x7 x8) (k0_pay48 x0 x1 x2 x3 x4 x5 x6 x7 x8) 1 256 (by decide) _ r d rfl,
    List.forall_mem_cons.mpr ⟨piece _ _ 0 128 inb_S6x768x256_S1x768x128_0_0_128 (by decide) (by decide) fun r d => q_high (k0_pay49 x0 x1 x2 x3 x4 x5 x6 x7 x8) (k0_pay47 x0 x1 x2 x3 x4 x5 x6 x7 x8) (k0_pay48 x0 x1 x2 x3 x4 x5 x6 x7 x8) 0 128 (by decide) _ r d rfl,
    List.forall_mem_cons.mpr ⟨piece _ _ 0 0 inb_S6x768x256_S1x768x128_0_0_0 (by decide) (by decide) fun r d => q_low (k0_pay49 x0 x1 x2 x3 x4 x5 x6 x7 x8) (k0_pay47 x0 x1 x2 x3 x4 x5 x6 x7 x8) (k0_pay48 x0 x1 x2 x3 x4 x5 x6 x7 x8) 0 0 (by decide) _ r d rfl,
    fun _ hp => absurd hp List.not_mem_nil⟩⟩⟩⟩⟩⟩⟩⟩⟩⟩⟩⟩)

/-- The first head's stores, whose products stand spelt out. -/
theorem first_key (r : Fin 768) (d : Fin 128) : (k0_pay10 (k0_pay50 x0 x1 x2 x3 x4 x5 x6 x7 x8) (View.ld x8 r0_6)) (ix3 0 r d) = kBlock (k0_pay51 x0 x1 x2 x3 x4 x5 x6 x7 x8) (k0_pay52 x0 x1 x2 x3 x4 x5 x6 x7 x8) ⟨0, by decide⟩ r ⟨0 + d.val, by omega⟩ :=
  k_low (k0_pay51 x0 x1 x2 x3 x4 x5 x6 x7 x8) (k0_pay52 x0 x1 x2 x3 x4 x5 x6 x7 x8) 0 0 (by decide) slices_S768x1536_o0_0_S768x128 r d rfl

theorem first_value (r : Fin 768) (d : Fin 128) : (k0_pay13 (k0_pay12 (k0_pay50 x0 x1 x2 x3 x4 x5 x6 x7 x8) (View.ld x8 r0_6))) (ix3 0 r d) = vBlock (k0_pay51 x0 x1 x2 x3 x4 x5 x6 x7 x8) ⟨0, by decide⟩ r ⟨0 + d.val, by omega⟩ :=
  v_low (k0_pay51 x0 x1 x2 x3 x4 x5 x6 x7 x8) 0 128 (by decide) slices_S768x1536_o0_128_S768x128 r d rfl

theorem out10_eq : out0_10 x0 x1 x2 x3 x4 x5 x6 x7 x8 = block (kBlock (k0_pay51 x0 x1 x2 x3 x4 x5 x6 x7 x8) (k0_pay52 x0 x1 x2 x3 x4 x5 x6 x7 x8)) := by
  funext y
  unfold out0_10
  refine View.canon_apply_of_pieces (Val := Elt Ideal) ((block (kBlock (k0_pay51 x0 x1 x2 x3 x4 x5 x6 x7 x8) (k0_pay52 x0 x1 x2 x3 x4 x5 x6 x7 x8))) : S6x768x256.Idx → Elt Ideal .bf16) _ ?_ y (cover0_10 _ _ _ _ _ _ _ _ _ _ _ _ y)
  exact (
    List.forall_mem_cons.mpr ⟨piece _ _ 5 128 inb_S6x768x256_S1x768x128_5_0_128 (by decide) (by decide) fun r d => k_high (k0_pay51 x0 x1 x2 x3 x4 x5 x6 x7 x8) (k0_pay52 x0 x1 x2 x3 x4 x5 x6 x7 x8) 5 (by decide) r d,
    List.forall_mem_cons.mpr ⟨piece _ _ 5 0 inb_S6x768x256_S1x768x128_5_0_0 (by decide) (by decide) fun r d => k_low (k0_pay51 x0 x1 x2 x3 x4 x5 x6 x7 x8) (k0_pay52 x0 x1 x2 x3 x4 x5 x6 x7 x8) 5 1280 (by decide) _ r d rfl,
    List.forall_mem_cons.mpr ⟨piece _ _ 4 128 inb_S6x768x256_S1x768x128_4_0_128 (by decide) (by decide) fun r d => k_high (k0_pay51 x0 x1 x2 x3 x4 x5 x6 x7 x8) (k0_pay52 x0 x1 x2 x3 x4 x5 x6 x7 x8) 4 (by decide) r d,
    List.forall_mem_cons.mpr ⟨piece _ _ 4 0 inb_S6x768x256_S1x768x128_4_0_0 (by decide) (by decide) fun r d => k_low (k0_pay51 x0 x1 x2 x3 x4 x5 x6 x7 x8) (k0_pay52 x0 x1 x2 x3 x4 x5 x6 x7 x8) 4 1024 (by decide) _ r d rfl,
    List.forall_mem_cons.mpr ⟨piece _ _ 3 128 inb_S6x768x256_S1x768x128_3_0_128 (by decide) (by decide) fun r d => k_high (k0_pay51 x0 x1 x2 x3 x4 x5 x6 x7 x8) (k0_pay52 x0 x1 x2 x3 x4 x5 x6 x7 x8) 3 (by decide) r d,
    List.forall_mem_cons.mpr ⟨piece _ _ 3 0 inb_S6x768x256_S1x768x128_3_0_0 (by decide) (by decide) fun r d => k_low (k0_pay51 x0 x1 x2 x3 x4 x5 x6 x7 x8) (k0_pay52 x0 x1 x2 x3 x4 x5 x6 x7 x8) 3 768 (by decide) _ r d rfl,
    List.forall_mem_cons.mpr ⟨piece _ _ 2 128 inb_S6x768x256_S1x768x128_2_0_128 (by decide) (by decide) fun r d => k_high (k0_pay51 x0 x1 x2 x3 x4 x5 x6 x7 x8) (k0_pay52 x0 x1 x2 x3 x4 x5 x6 x7 x8) 2 (by decide) r d,
    List.forall_mem_cons.mpr ⟨piece _ _ 2 0 inb_S6x768x256_S1x768x128_2_0_0 (by decide) (by decide) fun r d => k_low (k0_pay51 x0 x1 x2 x3 x4 x5 x6 x7 x8) (k0_pay52 x0 x1 x2 x3 x4 x5 x6 x7 x8) 2 512 (by decide) _ r d rfl,
    List.forall_mem_cons.mpr ⟨piece _ _ 1 128 inb_S6x768x256_S1x768x128_1_0_128 (by decide) (by decide) fun r d => k_high (k0_pay51 x0 x1 x2 x3 x4 x5 x6 x7 x8) (k0_pay52 x0 x1 x2 x3 x4 x5 x6 x7 x8) 1 (by decide) r d,
    List.forall_mem_cons.mpr ⟨piece _ _ 1 0 inb_S6x768x256_S1x768x128_1_0_0 (by decide) (by decide) fun r d => k_low (k0_pay51 x0 x1 x2 x3 x4 x5 x6 x7 x8) (k0_pay52 x0 x1 x2 x3 x4 x5 x6 x7 x8) 1 256 (by decide) _ r d rfl,
    List.forall_mem_cons.mpr ⟨piece _ _ 0 128 inb_S6x768x256_S1x768x128_0_0_128 (by decide) (by decide) fun r d => k_high (k0_pay51 x0 x1 x2 x3 x4 x5 x6 x7 x8) (k0_pay52 x0 x1 x2 x3 x4 x5 x6 x7 x8) 0 (by decide) r d,
    List.forall_mem_cons.mpr ⟨piece _ (k0_pay10 (k0_pay50 x0 x1 x2 x3 x4 x5 x6 x7 x8) (View.ld x8 r0_6)) 0 0 inb_S6x768x256_S1x768x128_0_0_0 (by decide) (by decide) fun r d => first_key x0 x1 x2 x3 x4 x5 x6 x7 x8 r d,
    fun _ hp => absurd hp List.not_mem_nil⟩⟩⟩⟩⟩⟩⟩⟩⟩⟩⟩⟩)

theorem out11_eq : out0_11 x0 x1 x2 x3 x4 x5 x6 x7 x8 = block (vBlock (k0_pay51 x0 x1 x2 x3 x4 x5 x6 x7 x8)) := by
  funext y
  unfold out0_11
  refine View.canon_apply_of_pieces (Val := Elt Ideal) ((block (vBlock (k0_pay51 x0 x1 x2 x3 x4 x5 x6 x7 x8))) : S6x768x256.Idx → Elt Ideal .bf16) _ ?_ y (cover0_11 _ _ _ _ _ _ _ _ _ _ _ _ y)
  exact (
    List.forall_mem_cons.mpr ⟨piece _ _ 5 128 inb_S6x768x256_S1x768x128_5_0_128 (by decide) (by decide) fun r d => v_high (k0_pay51 x0 x1 x2 x3 x4 x5 x6 x7 x8) 5 (by decide) r d,
    List.forall_mem_cons.mpr ⟨piece _ _ 5 0 inb_S6x768x256_S1x768x128_5_0_0 (by decide) (by decide) fun r d => v_low (k0_pay51 x0 x1 x2 x3 x4 x5 x6 x7 x8) 5 1408 (by decide) _ r d rfl,
    List.forall_mem_cons.mpr ⟨piece _ _ 4 128 inb_S6x768x256_S1x768x128_4_0_128 (by decide) (by decide) fun r d => v_high (k0_pay51 x0 x1 x2 x3 x4 x5 x6 x7 x8) 4 (by decide) r d,
    List.forall_mem_cons.mpr ⟨piece _ _ 4 0 inb_S6x768x256_S1x768x128_4_0_0 (by decide) (by decide) fun r d => v_low (k0_pay51 x0 x1 x2 x3 x4 x5 x6 x7 x8) 4 1152 (by decide) _ r d rfl,
    List.forall_mem_cons.mpr ⟨piece _ _ 3 128 inb_S6x768x256_S1x768x128_3_0_128 (by decide) (by decide) fun r d => v_high (k0_pay51 x0 x1 x2 x3 x4 x5 x6 x7 x8) 3 (by decide) r d,
    List.forall_mem_cons.mpr ⟨piece _ _ 3 0 inb_S6x768x256_S1x768x128_3_0_0 (by decide) (by decide) fun r d => v_low (k0_pay51 x0 x1 x2 x3 x4 x5 x6 x7 x8) 3 896 (by decide) _ r d rfl,
    List.forall_mem_cons.mpr ⟨piece _ _ 2 128 inb_S6x768x256_S1x768x128_2_0_128 (by decide) (by decide) fun r d => v_high (k0_pay51 x0 x1 x2 x3 x4 x5 x6 x7 x8) 2 (by decide) r d,
    List.forall_mem_cons.mpr ⟨piece _ _ 2 0 inb_S6x768x256_S1x768x128_2_0_0 (by decide) (by decide) fun r d => v_low (k0_pay51 x0 x1 x2 x3 x4 x5 x6 x7 x8) 2 640 (by decide) _ r d rfl,
    List.forall_mem_cons.mpr ⟨piece _ _ 1 128 inb_S6x768x256_S1x768x128_1_0_128 (by decide) (by decide) fun r d => v_high (k0_pay51 x0 x1 x2 x3 x4 x5 x6 x7 x8) 1 (by decide) r d,
    List.forall_mem_cons.mpr ⟨piece _ _ 1 0 inb_S6x768x256_S1x768x128_1_0_0 (by decide) (by decide) fun r d => v_low (k0_pay51 x0 x1 x2 x3 x4 x5 x6 x7 x8) 1 384 (by decide) _ r d rfl,
    List.forall_mem_cons.mpr ⟨piece _ _ 0 128 inb_S6x768x256_S1x768x128_0_0_128 (by decide) (by decide) fun r d => v_high (k0_pay51 x0 x1 x2 x3 x4 x5 x6 x7 x8) 0 (by decide) r d,
    List.forall_mem_cons.mpr ⟨piece _ (k0_pay13 (k0_pay12 (k0_pay50 x0 x1 x2 x3 x4 x5 x6 x7 x8) (View.ld x8 r0_6))) 0 0 inb_S6x768x256_S1x768x128_0_0_0 (by decide) (by decide) fun r d => first_value x0 x1 x2 x3 x4 x5 x6 x7 x8 r d,
    fun _ hp => absurd hp List.not_mem_nil⟩⟩⟩⟩⟩⟩⟩⟩⟩⟩⟩⟩)

theorem scaled_apply (r : Fin 768) (j : Fin 1536) : k0_pay49 x0 x1 x2 x3 x4 x5 x6 x7 x8 (ix2 r j)
    = (∑ d : Fin 512, normed (Ideal.ofBits .f32 0x44000000#32) (fun e => x0 (ix2 r e)) (fun e => x5 (ix2 0 e)) d * x7 (ix2 d j)) * Ideal.ofBits .f32 0x3D93CD3A#32 := by
  unfold k0_pay49
  rw [View.ld_unit_zero (S := S768x512) zero_offset, View.ld_unit_zero (S := S1x512) zero_offset, View.ld_unit_zero (S := S512x1536) zero_offset]
  exact pay4_apply _ _ _ r j

theorem product_apply (r : Fin 768) (j : Fin 1536) : k0_pay51 x0 x1 x2 x3 x4 x5 x6 x7 x8 (ix2 r j)
    = ∑ d : Fin 256, normed (Ideal.ofBits .f32 0x43800000#32) (fun e => x1 (ix2 r e)) (fun e => x6 (ix2 0 e)) d * x8 (ix2 d j) := by
  unfold k0_pay51 k0_pay50
  rw [View.ld_unit_zero (S := S768x256) zero_offset, View.ld_unit_zero (S := S1x256) zero_offset, View.ld_unit_zero (S := S256x1536) zero_offset]
  refine (pay6_apply _ _ r j).trans (Finset.sum_congr rfl fun d _ => ?_)
  rw [pay5_apply]

theorem cos_apply (r : Fin 768) (d : Fin 128) : k0_pay47 x0 x1 x2 x3 x4 x5 x6 x7 x8 (ix2 r d) = x3 (ix2 r d) := by
  unfold k0_pay47
  rw [View.ld_unit_zero (S := S768x128) zero_offset]
  exact pay2_apply _ r d

theorem sin_apply (r : Fin 768) (d : Fin 128) : k0_pay48 x0 x1 x2 x3 x4 x5 x6 x7 x8 (ix2 r d) = x4 (ix2 r d) := by
  unfold k0_pay48
  rw [View.ld_unit_zero (S := S768x128) zero_offset]
  exact pay3_apply _ r d

theorem turned_apply (r : Fin 768) (d : Fin 128) : k0_pay52 x0 x1 x2 x3 x4 x5 x6 x7 x8 (ix2 r d)
    = turned (fun e => x2 (ix2 r e)) (fun e => x3 (ix2 r e)) (fun e => x4 (ix2 r e)) d := by
  unfold k0_pay52
  rw [View.ld_unit_zero (S := S768x128) zero_offset]
  refine (pay7_apply _ _ _ r d).trans ?_
  simp only [cos_apply, sin_apply]

end

variable (m : (ℓ : Loc nD τ sig) → Buf (Elt Ideal) ℓ) (c : Dev nD)

theorem lt_N (t : Fin cfg0.N) : t.val < 11 := lt_of_lt_of_eq t.isLt N_0

theorem index_0 : ∀ t : Fin cfg0.N, win0_0.index t 0 = t.val ∧ win0_0.index t 1 = 8 := by decide +kernel
theorem index_1 : ∀ t : Fin cfg0.N, win0_1.index t 0 = t.val ∧ win0_1.index t 1 = 9 := by decide +kernel
theorem index_2 : ∀ t : Fin cfg0.N, win0_2.index t 0 = t.val ∧ win0_2.index t 1 = 30 := by decide +kernel
theorem index_3 : ∀ t : Fin cfg0.N, win0_3.index t 0 = t.val ∧ win0_3.index t 1 = 0 := by decide +kernel
theorem index_4 : ∀ t : Fin cfg0.N, win0_4.index t 0 = t.val ∧ win0_4.index t 1 = 0 := by decide +kernel
theorem index_5 : ∀ t : Fin cfg0.N, win0_5.index t 0 = 0 ∧ win0_5.index t 1 = 0 := by decide +kernel
theorem index_6 : ∀ t : Fin cfg0.N, win0_6.index t 0 = 0 ∧ win0_6.index t 1 = 0 := by decide +kernel
theorem index_7 : ∀ t : Fin cfg0.N, win0_7.index t 0 = 0 ∧ win0_7.index t 1 = 0 := by decide +kernel
theorem index_8 : ∀ t : Fin cfg0.N, win0_8.index t 0 = 0 ∧ win0_8.index t 1 = 0 := by decide +kernel
theorem index_9 : ∀ t : Fin cfg0.N, win0_9.index t 0 = 0 ∧ win0_9.index t 1 = t.val ∧ win0_9.index t 2 = 0 := by decide +kernel
theorem index_10 : ∀ t : Fin cfg0.N, win0_10.index t 0 = 0 ∧ win0_10.index t 1 = t.val ∧ win0_10.index t 2 = 0 := by decide +kernel
theorem index_11 : ∀ t : Fin cfg0.N, win0_11.index t 0 = 0 ∧ win0_11.index t 1 = t.val ∧ win0_11.index t 2 = 0 := by decide +kernel

abbrev ps : Mat 8448 4608 := m ((c : Thread nD τ).loc main_arg0)
abbrev coss : Mat 8448 32 := m ((c : Thread nD τ).loc main_arg1)
abbrev sins : Mat 8448 32 := m ((c : Thread nD τ).loc main_arg2)
abbrev qnws : Mat 1 512 := m ((c : Thread nD τ).loc main_arg3)
abbrev kvnws : Mat 1 256 := m ((c : Thread nD τ).loc main_arg4)
abbrev wqs : Mat 512 1536 := m ((c : Thread nD τ).loc main_arg5)
abbrev wkvs : Mat 256 1536 := m ((c : Thread nD τ).loc main_arg6)

/-- Token `r` of point `t`. -/
abbrev row (t : Fin cfg0.N) (r : Fin 768) : Fin 8448 := ⟨768 * t.val + r.val, by have := lt_N t; omega⟩

theorem cq_block (t : Fin cfg0.N) (r : Fin 768) (e : Fin 512) : (iblk m c 0 t : Vec Ideal S768x512 .f32) (ix2 r e)
    = ps m c (ix2 (row t r) ⟨4096 + e.val, by omega⟩) := by
  unfold iblk
  show _ = m ((c : Thread nD τ).loc main_arg0) _
  rw [View.read_apply, ← V_main_arg0 m c]
  refine congrArg (V m c main_arg0) (funext fun a => Fin.ext ?_)
  have hi := index_0 t
  fin_cases a
  · show win0_0.index t 0 * 768 + 1 * r.val = 768 * t.val + r.val
    omega
  · show win0_0.index t 1 * 512 + 1 * e.val = 4096 + e.val
    omega

theorem ckv_block (t : Fin cfg0.N) (r : Fin 768) (e : Fin 256) : (iblk m c 1 t : Vec Ideal S768x256 .f32) (ix2 r e)
    = ps m c (ix2 (row t r) ⟨2304 + e.val, by omega⟩) := by
  unfold iblk
  show _ = m ((c : Thread nD τ).loc main_arg0) _
  rw [View.read_apply, ← V_main_arg0 m c]
  refine congrArg (V m c main_arg0) (funext fun a => Fin.ext ?_)
  have hi := index_1 t
  fin_cases a
  · show win0_1.index t 0 * 768 + 1 * r.val = 768 * t.val + r.val
    omega
  · show win0_1.index t 1 * 256 + 1 * e.val = 2304 + e.val
    omega

theorem kr_block (t : Fin cfg0.N) (r : Fin 768) (e : Fin 128) : (iblk m c 2 t : Vec Ideal S768x128 .f32) (ix2 r e)
    = ps m c (ix2 (row t r) ⟨3840 + e.val, by omega⟩) := by
  unfold iblk
  show _ = m ((c : Thread nD τ).loc main_arg0) _
  rw [View.read_apply, ← V_main_arg0 m c]
  refine congrArg (V m c main_arg0) (funext fun a => Fin.ext ?_)
  have hi := index_2 t
  fin_cases a
  · show win0_2.index t 0 * 768 + 1 * r.val = 768 * t.val + r.val
    omega
  · show win0_2.index t 1 * 128 + 1 * e.val = 3840 + e.val
    omega

theorem qnw_block (t : Fin cfg0.N) (r : Fin 1) (e : Fin 512) : (iblk m c 5 t : Vec Ideal S1x512 .f32) (ix2 r e) = qnws m c (ix2 r e) := by
  unfold iblk
  show _ = m ((c : Thread nD τ).loc main_arg3) _
  rw [View.read_apply, ← V_main_arg3 m c]
  refine congrArg (V m c main_arg3) (funext fun a => Fin.ext ?_)
  have hi := index_5 t
  fin_cases a
  · show win0_5.index t 0 * 1 + 1 * r.val = r.val
    omega
  · show win0_5.index t 1 * 512 + 1 * e.val = e.val
    omega

theorem kvnw_block (t : Fin cfg0.N) (r : Fin 1) (e : Fin 256) : (iblk m c 6 t : Vec Ideal S1x256 .f32) (ix2 r e) = kvnws m c (ix2 r e) := by
  unfold iblk
  show _ = m ((c : Thread nD τ).loc main_arg4) _
  rw [View.read_apply, ← V_main_arg4 m c]
  refine congrArg (V m c main_arg4) (funext fun a => Fin.ext ?_)
  have hi := index_6 t
  fin_cases a
  · show win0_6.index t 0 * 1 + 1 * r.val = r.val
    omega
  · show win0_6.index t 1 * 256 + 1 * e.val = e.val
    omega

theorem wq_block (t : Fin cfg0.N) (r : Fin 512) (e : Fin 1536) : (iblk m c 7 t : Vec Ideal S512x1536 .bf16) (ix2 r e) = wqs m c (ix2 r e) := by
  unfold iblk
  show _ = m ((c : Thread nD τ).loc main_arg5) _
  rw [View.read_apply, ← V_main_arg5 m c]
  refine congrArg (V m c main_arg5) (funext fun a => Fin.ext ?_)
  have hi := index_7 t
  fin_cases a
  · show win0_7.index t 0 * 512 + 1 * r.val = r.val
    omega
  · show win0_7.index t 1 * 1536 + 1 * e.val = e.val
    omega

theorem wkv_block (t : Fin cfg0.N) (r : Fin 256) (e : Fin 1536) : (iblk m c 8 t : Vec Ideal S256x1536 .bf16) (ix2 r e) = wkvs m c (ix2 r e) := by
  unfold iblk
  show _ = m ((c : Thread nD τ).loc main_arg6) _
  rw [View.read_apply, ← V_main_arg6 m c]
  refine congrArg (V m c main_arg6) (funext fun a => Fin.ext ?_)
  have hi := index_8 t
  fin_cases a
  · show win0_8.index t 0 * 256 + 1 * r.val = r.val
    omega
  · show win0_8.index t 1 * 1536 + 1 * e.val = e.val
    omega

/-- The table of cosines as the host prepares it. -/
def cosTable (x : Vec Ideal S8448x32 .f32) : Vec Ideal S8448x128 .f32 :=
  concatenate S8448x128 1 [⟨S8448x32, x⟩, ⟨S8448x32, broadcastInDim S8448x32 ![] bcast_S_S8448x32 (constant (F := Ideal) S_ .f32 0x00000000#32)⟩, ⟨S8448x32, x⟩, ⟨S8448x32, broadcastInDim S8448x32 ![] bcast_S_S8448x32 (constant (F := Ideal) S_ .f32 0x00000000#32)⟩] concatenates_S8448x32_S8448x32_S8448x32_S8448x32_S8448x128_d1

def sinTable (x : Vec Ideal S8448x32 .f32) : Vec Ideal S8448x128 .f32 :=
  concatenate S8448x128 1 [⟨S8448x32, Host.negf (F := Ideal) (φ := .f32) x⟩, ⟨S8448x32, broadcastInDim S8448x32 ![] bcast_S_S8448x32 (constant (F := Ideal) S_ .f32 0x00000000#32)⟩, ⟨S8448x32, x⟩, ⟨S8448x32, broadcastInDim S8448x32 ![] bcast_S_S8448x32 (constant (F := Ideal) S_ .f32 0x00000000#32)⟩] concatenates_S8448x32_S8448x32_S8448x32_S8448x32_S8448x128_d1

theorem cosTable_apply (x : Vec Ideal S8448x32 .f32) (i : Fin 8448) (d : Fin 128) : cosTable x (ix2 i d) = wideCos (fun e => x (ix2 i e)) d := by
  unfold wideCos
  pointwise [cosTable]
  repeat' split
  all_goals first
    | rfl
    | omega
    | exact congrArg (fun k => x (ix2 i k)) (Fin.ext (show d.val - 32 - 32 = d.val - 64 by omega))

theorem sinTable_apply (x : Vec Ideal S8448x32 .f32) (i : Fin 8448) (d : Fin 128) : sinTable x (ix2 i d) = wideSin (fun e => x (ix2 i e)) d := by
  unfold wideSin
  pointwise [sinTable]
  repeat' split
  all_goals first
    | rfl
    | omega
    | exact congrArg (fun k => x (ix2 i k)) (Fin.ext (show d.val - 32 - 32 = d.val - 64 by omega))

theorem V_cos : (V m c main_v1 : Vec Ideal S8448x128 .f32) = cosTable (coss m c) := by
  unfold V hostOps0
  after_results
  all_goals rfl

theorem V_sin : (V m c main_v3 : Vec Ideal S8448x128 .f32) = sinTable (sins m c) := by
  unfold V hostOps0
  after_results
  all_goals rfl

theorem cos_block (t : Fin cfg0.N) (r : Fin 768) (e : Fin 128) : (iblk m c 3 t : Vec Ideal S768x128 .f32) (ix2 r e)
    = wideCos (fun e => coss m c (ix2 (row t r) e)) e := by
  rw [← cosTable_apply, ← V_cos]
  unfold iblk
  rw [View.read_apply]
  refine congrArg (V m c main_v1) (funext fun a => Fin.ext ?_)
  have hi := index_3 t
  fin_cases a
  · show win0_3.index t 0 * 768 + 1 * r.val = 768 * t.val + r.val
    omega
  · show win0_3.index t 1 * 128 + 1 * e.val = e.val
    omega

theorem sin_block (t : Fin cfg0.N) (r : Fin 768) (e : Fin 128) : (iblk m c 4 t : Vec Ideal S768x128 .f32) (ix2 r e)
    = wideSin (fun e => sins m c (ix2 (row t r) e)) e := by
  rw [← sinTable_apply, ← V_sin]
  unfold iblk
  rw [View.read_apply]
  refine congrArg (V m c main_v3) (funext fun a => Fin.ext ?_)
  have hi := index_4 t
  fin_cases a
  · show win0_4.index t 0 * 768 + 1 * r.val = 768 * t.val + r.val
    omega
  · show win0_4.index t 1 * 128 + 1 * e.val = e.val
    omega

theorem scaled_at (t : Fin cfg0.N) (r : Fin 768) (j : Fin 1536) : k0_pay49 (iblk m c 0 t) (iblk m c 1 t) (iblk m c 2 t) (iblk m c 3 t) (iblk m c 4 t) (iblk m c 5 t) (iblk m c 6 t) (iblk m c 7 t) (iblk m c 8 t) (ix2 r j) = query (ps m c) (qnws m c) (wqs m c) (row t r) j := by
  refine (scaled_apply _ _ _ _ _ _ _ _ _ r j).trans ?_
  unfold query
  simp only [cq_block, qnw_block, wq_block]

theorem product_at (t : Fin cfg0.N) (r : Fin 768) (j : Fin 1536) : k0_pay51 (iblk m c 0 t) (iblk m c 1 t) (iblk m c 2 t) (iblk m c 3 t) (iblk m c 4 t) (iblk m c 5 t) (iblk m c 6 t) (iblk m c 7 t) (iblk m c 8 t) (ix2 r j) = keyValue (ps m c) (kvnws m c) (wkvs m c) (row t r) j := by
  refine (product_apply _ _ _ _ _ _ _ _ _ r j).trans ?_
  unfold keyValue
  simp only [ckv_block, kvnw_block, wkv_block]

theorem cos_at (t : Fin cfg0.N) (r : Fin 768) (d : Fin 128) : k0_pay47 (iblk m c 0 t) (iblk m c 1 t) (iblk m c 2 t) (iblk m c 3 t) (iblk m c 4 t) (iblk m c 5 t) (iblk m c 6 t) (iblk m c 7 t) (iblk m c 8 t) (ix2 r d) = wideCos (fun e => coss m c (ix2 (row t r) e)) d :=
  (cos_apply _ _ _ _ _ _ _ _ _ r d).trans (cos_block m c t r d)

theorem sin_at (t : Fin cfg0.N) (r : Fin 768) (d : Fin 128) : k0_pay48 (iblk m c 0 t) (iblk m c 1 t) (iblk m c 2 t) (iblk m c 3 t) (iblk m c 4 t) (iblk m c 5 t) (iblk m c 6 t) (iblk m c 7 t) (iblk m c 8 t) (ix2 r d) = wideSin (fun e => sins m c (ix2 (row t r) e)) d :=
  (sin_apply _ _ _ _ _ _ _ _ _ r d).trans (sin_block m c t r d)

theorem turned_at (t : Fin cfg0.N) (r : Fin 768) (d : Fin 128) : k0_pay52 (iblk m c 0 t) (iblk m c 1 t) (iblk m c 2 t) (iblk m c 3 t) (iblk m c 4 t) (iblk m c 5 t) (iblk m c 6 t) (iblk m c 7 t) (iblk m c 8 t) (ix2 r d)
    = rotated (fun e => ps m c (ix2 (row t r) ⟨3840 + e.val, by omega⟩)) (fun e => coss m c (ix2 (row t r) e)) (fun e => sins m c (ix2 (row t r) e)) d := by
  refine (turned_apply _ _ _ _ _ _ _ _ _ r d).trans ?_
  simp only [kr_block, cos_block, sin_block]
  exact turned_wide _ _ _ d

/-- Head `h`'s queries as a point leaves them. -/
theorem q_block (t : Fin cfg0.N) (h : Fin 6) (r : Fin 768) (d : Fin 256) :
    qBlock (k0_pay49 (iblk m c 0 t) (iblk m c 1 t) (iblk m c 2 t) (iblk m c 3 t) (iblk m c 4 t) (iblk m c 5 t) (iblk m c 6 t) (iblk m c 7 t) (iblk m c 8 t)) (k0_pay47 (iblk m c 0 t) (iblk m c 1 t) (iblk m c 2 t) (iblk m c 3 t) (iblk m c 4 t) (iblk m c 5 t) (iblk m c 6 t) (iblk m c 7 t) (iblk m c 8 t)) (k0_pay48 (iblk m c 0 t) (iblk m c 1 t) (iblk m c 2 t) (iblk m c 3 t) (iblk m c 4 t) (iblk m c 5 t) (iblk m c 6 t) (iblk m c 7 t) (iblk m c 8 t)) h r d
      = queries (ps m c) (coss m c) (sins m c) (qnws m c) (wqs m c) h (row t r) d := by
  unfold qBlock queries
  split
  · exact scaled_at m c t r _
  · simp only [scaled_at, cos_at, sin_at]
    exact turned_wide _ _ _ _

theorem k_block (t : Fin cfg0.N) (h : Fin 6) (r : Fin 768) (d : Fin 256) :
    kBlock (k0_pay51 (iblk m c 0 t) (iblk m c 1 t) (iblk m c 2 t) (iblk m c 3 t) (iblk m c 4 t) (iblk m c 5 t) (iblk m c 6 t) (iblk m c 7 t) (iblk m c 8 t)) (k0_pay52 (iblk m c 0 t) (iblk m c 1 t) (iblk m c 2 t) (iblk m c 3 t) (iblk m c 4 t) (iblk m c 5 t) (iblk m c 6 t) (iblk m c 7 t) (iblk m c 8 t)) h r d = keys (ps m c) (coss m c) (sins m c) (kvnws m c) (wkvs m c) h (row t r) d := by
  unfold kBlock keys
  split
  · exact product_at m c t r _
  · exact turned_at m c t r _

theorem v_block (t : Fin cfg0.N) (h : Fin 6) (r : Fin 768) (d : Fin 256) :
    vBlock (k0_pay51 (iblk m c 0 t) (iblk m c 1 t) (iblk m c 2 t) (iblk m c 3 t) (iblk m c 4 t) (iblk m c 5 t) (iblk m c 6 t) (iblk m c 7 t) (iblk m c 8 t)) h r d = values (ps m c) (kvnws m c) (wkvs m c) h (row t r) d := by
  unfold vBlock values
  split
  · exact product_at m c t r _
  · rfl

abbrev result9 : S6x8448x256.Idx → EReal := fun i => queries (ps m c) (coss m c) (sins m c) (qnws m c) (wqs m c) (i 0) (i 1) (i 2)

set_option maxRecDepth 65536 in
theorem flushed_eq9 (t : Fin cfg0.N) : (dats m 0 c).flushed 9 t = ((cfg0.win 9).blk t).view.read (Elt Ideal) (result9 m c) := by
  show (cfg0.win 9).cut (grid0.coords t) ((dats m 0 c).after 9 t) = _
  rw [after0_9]
  funext j
  have h0 : (j 0).val < 6 := (j 0).isLt
  have h1 : (j 1).val < 768 := (j 1).isLt
  have h2 : (j 2).val < 256 := (j 2).isLt
  have ht := lt_N t
  have hi := index_9 t
  have e : (fun a => j a : S6x768x256.Idx) = ix3 ⟨(j 0).val, h0⟩ ⟨(j 1).val, h1⟩ ⟨(j 2).val, h2⟩ := by
    funext a
    match a with
    | ⟨0, _⟩ => rfl
    | ⟨1, _⟩ => rfl
    | ⟨2, _⟩ => rfl
  rw [View.read_apply]
  refine (congrArg (out0_9 (iblk m c 0 t) (iblk m c 1 t) (iblk m c 2 t) (iblk m c 3 t) (iblk m c 4 t) (iblk m c 5 t) (iblk m c 6 t) (iblk m c 7 t) (iblk m c 8 t)) e).trans ?_
  refine (congrFun (out9_eq (iblk m c 0 t) (iblk m c 1 t) (iblk m c 2 t) (iblk m c 3 t) (iblk m c 4 t) (iblk m c 5 t) (iblk m c 6 t) (iblk m c 7 t) (iblk m c 8 t)) _).trans ((show _ = qBlock (k0_pay49 (iblk m c 0 t) (iblk m c 1 t) (iblk m c 2 t) (iblk m c 3 t) (iblk m c 4 t) (iblk m c 5 t) (iblk m c 6 t) (iblk m c 7 t) (iblk m c 8 t)) (k0_pay47 (iblk m c 0 t) (iblk m c 1 t) (iblk m c 2 t) (iblk m c 3 t) (iblk m c 4 t) (iblk m c 5 t) (iblk m c 6 t) (iblk m c 7 t) (iblk m c 8 t)) (k0_pay48 (iblk m c 0 t) (iblk m c 1 t) (iblk m c 2 t) (iblk m c 3 t) (iblk m c 4 t) (iblk m c 5 t) (iblk m c 6 t) (iblk m c 7 t) (iblk m c 8 t)) ⟨(j 0).val, h0⟩ ⟨(j 1).val, h1⟩ ⟨(j 2).val, h2⟩ from rfl).trans
    ((q_block m c t ⟨(j 0).val, h0⟩ ⟨(j 1).val, h1⟩ ⟨(j 2).val, h2⟩).trans (Eq.symm ?_)))
  have e0 : (((cfg0.win 9).blk t).view.emb j 0 : Fin 6) = ⟨(j 0).val, h0⟩ := Fin.ext (show win0_9.index t 0 * 6 + 1 * (j 0).val = (j 0).val by omega)
  have e1 : (((cfg0.win 9).blk t).view.emb j 1 : Fin 8448) = row t ⟨(j 1).val, h1⟩ :=
    Fin.ext (show win0_9.index t 1 * 768 + 1 * (j 1).val = 768 * t.val + (j 1).val by omega)
  have e2 : (((cfg0.win 9).blk t).view.emb j 2 : Fin 256) = ⟨(j 2).val, h2⟩ := Fin.ext (show win0_9.index t 2 * 256 + 1 * (j 2).val = (j 2).val by omega)
  exact congr (congr (congrArg (queries (ps m c) (coss m c) (sins m c) (qnws m c) (wqs m c)) e0) e1) e2

theorem cover9 (i : S6x8448x256.Idx) : ∃ t : Fin cfg0.N, (cfg0.win 9).flush t = true ∧ i ∈ ((cfg0.win 9).blk t).view.set := by
  have h0 : (i 0).val < 6 := (i 0).isLt
  have h1 : (i 1).val < 8448 := (i 1).isLt
  have h2 : (i 2).val < 256 := (i 2).isLt
  let t : Fin cfg0.N := ⟨(i 1).val / 768, lt_of_lt_of_eq (b := 11) (by omega) N_0.symm⟩
  have hi := index_9 t
  have e : t.val = (i 1).val / 768 := rfl
  refine ⟨t, flush0_9 t, ?_⟩
  show i ∈ ((View.whole main_v4_0).slice (win0_9.rect t)).set
  rw [View.set_slice_whole, Rect.mem_set_unit]
  intro a
  match a with
  | ⟨0, _⟩ =>
    show win0_9.index t 0 * 6 ≤ (i 0).val ∧ (i 0).val < win0_9.index t 0 * 6 + 6
    omega
  | ⟨1, _⟩ =>
    show win0_9.index t 1 * 768 ≤ (i 1).val ∧ (i 1).val < win0_9.index t 1 * 768 + 768
    omega
  | ⟨2, _⟩ =>
    show win0_9.index t 2 * 256 ≤ (i 2).val ∧ (i 2).val < win0_9.index t 2 * 256 + 256
    omega

theorem final9 : (dats m 0 c).arrAt 9 cfg0.N = result9 m c :=
  (dats m 0 c).arrAt_eq_of_cover 9 (result9 m c) (fun t _ => flushed_eq9 m c t) cover9

abbrev result10 : S6x8448x256.Idx → EReal := fun i => keys (ps m c) (coss m c) (sins m c) (kvnws m c) (wkvs m c) (i 0) (i 1) (i 2)

set_option maxRecDepth 65536 in
theorem flushed_eq10 (t : Fin cfg0.N) : (dats m 0 c).flushed 10 t = ((cfg0.win 10).blk t).view.read (Elt Ideal) (result10 m c) := by
  show (cfg0.win 10).cut (grid0.coords t) ((dats m 0 c).after 10 t) = _
  rw [after0_10]
  funext j
  have h0 : (j 0).val < 6 := (j 0).isLt
  have h1 : (j 1).val < 768 := (j 1).isLt
  have h2 : (j 2).val < 256 := (j 2).isLt
  have ht := lt_N t
  have hi := index_10 t
  have e : (fun a => j a : S6x768x256.Idx) = ix3 ⟨(j 0).val, h0⟩ ⟨(j 1).val, h1⟩ ⟨(j 2).val, h2⟩ := by
    funext a
    match a with
    | ⟨0, _⟩ => rfl
    | ⟨1, _⟩ => rfl
    | ⟨2, _⟩ => rfl
  rw [View.read_apply]
  refine (congrArg (out0_10 (iblk m c 0 t) (iblk m c 1 t) (iblk m c 2 t) (iblk m c 3 t) (iblk m c 4 t) (iblk m c 5 t) (iblk m c 6 t) (iblk m c 7 t) (iblk m c 8 t)) e).trans ?_
  refine (congrFun (out10_eq (iblk m c 0 t) (iblk m c 1 t) (iblk m c 2 t) (iblk m c 3 t) (iblk m c 4 t) (iblk m c 5 t) (iblk m c 6 t) (iblk m c 7 t) (iblk m c 8 t)) _).trans ((show _ = kBlock (k0_pay51 (iblk m c 0 t) (iblk m c 1 t) (iblk m c 2 t) (iblk m c 3 t) (iblk m c 4 t) (iblk m c 5 t) (iblk m c 6 t) (iblk m c 7 t) (iblk m c 8 t)) (k0_pay52 (iblk m c 0 t) (iblk m c 1 t) (iblk m c 2 t) (iblk m c 3 t) (iblk m c 4 t) (iblk m c 5 t) (iblk m c 6 t) (iblk m c 7 t) (iblk m c 8 t)) ⟨(j 0).val, h0⟩ ⟨(j 1).val, h1⟩ ⟨(j 2).val, h2⟩ from rfl).trans
    ((k_block m c t ⟨(j 0).val, h0⟩ ⟨(j 1).val, h1⟩ ⟨(j 2).val, h2⟩).trans (Eq.symm ?_)))
  have e0 : (((cfg0.win 10).blk t).view.emb j 0 : Fin 6) = ⟨(j 0).val, h0⟩ := Fin.ext (show win0_10.index t 0 * 6 + 1 * (j 0).val = (j 0).val by omega)
  have e1 : (((cfg0.win 10).blk t).view.emb j 1 : Fin 8448) = row t ⟨(j 1).val, h1⟩ :=
    Fin.ext (show win0_10.index t 1 * 768 + 1 * (j 1).val = 768 * t.val + (j 1).val by omega)
  have e2 : (((cfg0.win 10).blk t).view.emb j 2 : Fin 256) = ⟨(j 2).val, h2⟩ := Fin.ext (show win0_10.index t 2 * 256 + 1 * (j 2).val = (j 2).val by omega)
  exact congr (congr (congrArg (keys (ps m c) (coss m c) (sins m c) (kvnws m c) (wkvs m c)) e0) e1) e2

theorem cover10 (i : S6x8448x256.Idx) : ∃ t : Fin cfg0.N, (cfg0.win 10).flush t = true ∧ i ∈ ((cfg0.win 10).blk t).view.set := by
  have h0 : (i 0).val < 6 := (i 0).isLt
  have h1 : (i 1).val < 8448 := (i 1).isLt
  have h2 : (i 2).val < 256 := (i 2).isLt
  let t : Fin cfg0.N := ⟨(i 1).val / 768, lt_of_lt_of_eq (b := 11) (by omega) N_0.symm⟩
  have hi := index_10 t
  have e : t.val = (i 1).val / 768 := rfl
  refine ⟨t, flush0_10 t, ?_⟩
  show i ∈ ((View.whole main_v4_1).slice (win0_10.rect t)).set
  rw [View.set_slice_whole, Rect.mem_set_unit]
  intro a
  match a with
  | ⟨0, _⟩ =>
    show win0_10.index t 0 * 6 ≤ (i 0).val ∧ (i 0).val < win0_10.index t 0 * 6 + 6
    omega
  | ⟨1, _⟩ =>
    show win0_10.index t 1 * 768 ≤ (i 1).val ∧ (i 1).val < win0_10.index t 1 * 768 + 768
    omega
  | ⟨2, _⟩ =>
    show win0_10.index t 2 * 256 ≤ (i 2).val ∧ (i 2).val < win0_10.index t 2 * 256 + 256
    omega

theorem final10 : (dats m 0 c).arrAt 10 cfg0.N = result10 m c :=
  (dats m 0 c).arrAt_eq_of_cover 10 (result10 m c) (fun t _ => flushed_eq10 m c t) cover10

abbrev result11 : S6x8448x256.Idx → EReal := fun i => values (ps m c) (kvnws m c) (wkvs m c) (i 0) (i 1) (i 2)

set_option maxRecDepth 65536 in
theorem flushed_eq11 (t : Fin cfg0.N) : (dats m 0 c).flushed 11 t = ((cfg0.win 11).blk t).view.read (Elt Ideal) (result11 m c) := by
  show (cfg0.win 11).cut (grid0.coords t) ((dats m 0 c).after 11 t) = _
  rw [after0_11]
  funext j
  have h0 : (j 0).val < 6 := (j 0).isLt
  have h1 : (j 1).val < 768 := (j 1).isLt
  have h2 : (j 2).val < 256 := (j 2).isLt
  have ht := lt_N t
  have hi := index_11 t
  have e : (fun a => j a : S6x768x256.Idx) = ix3 ⟨(j 0).val, h0⟩ ⟨(j 1).val, h1⟩ ⟨(j 2).val, h2⟩ := by
    funext a
    match a with
    | ⟨0, _⟩ => rfl
    | ⟨1, _⟩ => rfl
    | ⟨2, _⟩ => rfl
  rw [View.read_apply]
  refine (congrArg (out0_11 (iblk m c 0 t) (iblk m c 1 t) (iblk m c 2 t) (iblk m c 3 t) (iblk m c 4 t) (iblk m c 5 t) (iblk m c 6 t) (iblk m c 7 t) (iblk m c 8 t)) e).trans ?_
  refine (congrFun (out11_eq (iblk m c 0 t) (iblk m c 1 t) (iblk m c 2 t) (iblk m c 3 t) (iblk m c 4 t) (iblk m c 5 t) (iblk m c 6 t) (iblk m c 7 t) (iblk m c 8 t)) _).trans ((show _ = vBlock (k0_pay51 (iblk m c 0 t) (iblk m c 1 t) (iblk m c 2 t) (iblk m c 3 t) (iblk m c 4 t) (iblk m c 5 t) (iblk m c 6 t) (iblk m c 7 t) (iblk m c 8 t)) ⟨(j 0).val, h0⟩ ⟨(j 1).val, h1⟩ ⟨(j 2).val, h2⟩ from rfl).trans
    ((v_block m c t ⟨(j 0).val, h0⟩ ⟨(j 1).val, h1⟩ ⟨(j 2).val, h2⟩).trans (Eq.symm ?_)))
  have e0 : (((cfg0.win 11).blk t).view.emb j 0 : Fin 6) = ⟨(j 0).val, h0⟩ := Fin.ext (show win0_11.index t 0 * 6 + 1 * (j 0).val = (j 0).val by omega)
  have e1 : (((cfg0.win 11).blk t).view.emb j 1 : Fin 8448) = row t ⟨(j 1).val, h1⟩ :=
    Fin.ext (show win0_11.index t 1 * 768 + 1 * (j 1).val = 768 * t.val + (j 1).val by omega)
  have e2 : (((cfg0.win 11).blk t).view.emb j 2 : Fin 256) = ⟨(j 2).val, h2⟩ := Fin.ext (show win0_11.index t 2 * 256 + 1 * (j 2).val = (j 2).val by omega)
  exact congr (congr (congrArg (values (ps m c) (kvnws m c) (wkvs m c)) e0) e1) e2

theorem cover11 (i : S6x8448x256.Idx) : ∃ t : Fin cfg0.N, (cfg0.win 11).flush t = true ∧ i ∈ ((cfg0.win 11).blk t).view.set := by
  have h0 : (i 0).val < 6 := (i 0).isLt
  have h1 : (i 1).val < 8448 := (i 1).isLt
  have h2 : (i 2).val < 256 := (i 2).isLt
  let t : Fin cfg0.N := ⟨(i 1).val / 768, lt_of_lt_of_eq (b := 11) (by omega) N_0.symm⟩
  have hi := index_11 t
  have e : t.val = (i 1).val / 768 := rfl
  refine ⟨t, flush0_11 t, ?_⟩
  show i ∈ ((View.whole main_v4_2).slice (win0_11.rect t)).set
  rw [View.set_slice_whole, Rect.mem_set_unit]
  intro a
  match a with
  | ⟨0, _⟩ =>
    show win0_11.index t 0 * 6 ≤ (i 0).val ∧ (i 0).val < win0_11.index t 0 * 6 + 6
    omega
  | ⟨1, _⟩ =>
    show win0_11.index t 1 * 768 ≤ (i 1).val ∧ (i 1).val < win0_11.index t 1 * 768 + 768
    omega
  | ⟨2, _⟩ =>
    show win0_11.index t 2 * 256 ≤ (i 2).val ∧ (i 2).val < win0_11.index t 2 * 256 + 256
    omega

theorem final11 : (dats m 0 c).arrAt 11 cfg0.N = result11 m c :=
  (dats m 0 c).arrAt_eq_of_cover 11 (result11 m c) (fun t _ => flushed_eq11 m c t) cover11

end Cert.Kernel5Ideal.Hand

end
-- ==== Proof.Reference5.lean ====
module

public import proofs.«01_k».proof.Proof.Latent
public import proofs.«01_k».proof.Proof.Gen.Reference5Ideal
public import Idealize.ShloMosaic.Lib.Pointwise

/-! The latent projections' reference at an index. -/

@[expose] public section

set_option maxRecDepth 16384

noncomputable section

namespace Cert.Reference5Ideal.Hand

open Idealize.ShloMosaic Idealize.ShloMosaic.TcCoe
open Cert.Reference5Ideal Cert.Reference5Ideal.Gen Cert.Projection Cert.Latent

/-- A sum along the last axis, from an initial value. -/
theorem reduce_add {a n : ℕ} {u : Shape} (x : FVec Ideal ⟨2, ![a, n]⟩ .f32) (init : FVec Ideal u .f32)
    (h : (⟨2, ![a, n]⟩ : Shape).ReducesTo [1] ⟨1, ![a]⟩) (hu : 0 < u.numel) (i : Fin a) :
    Host.reduceAdd x init h hu (ix1 i) = init (Shape.Idx.first hu) + ∑ k : Fin n, x (ix2 i k) := by
  simp only [pointwise, Ideal.hostReduceAdd_def]

/-- The queries' columns. -/
def qPart (p : Vec Ideal S8448x4608 .f32) : Vec Ideal S8448x512 .f32 := extractStridedSlice S8448x512 ![0, 4096] p slices_S8448x4608_S8448x512_0_4096

theorem qPart_apply (p : Vec Ideal S8448x4608 .f32) (i : Fin 8448) (e : Fin 512) : qPart p (ix2 i e) = p (ix2 i ⟨4096 + e.val, by omega⟩) := by
  pointwise [qPart]

def qSquares (y : Vec Ideal S8448x512 .f32) : Vec Ideal S8448 .f32 :=
  Host.reduceAdd (F := Ideal) (φ := .f32) (mulf (F := Ideal) (φ := .f32) y y) (constant S_ .f32 0x00000000#32) reducesTo_S8448x512_S8448_d1 h_S_

theorem qSquares_apply (y : Vec Ideal S8448x512 .f32) (i : Fin 8448) : qSquares y (ix1 i) = ∑ e : Fin 512, y (ix2 i e) * y (ix2 i e) := by
  refine (reduce_add _ _ _ _ i).trans ?_
  pointwise

/-- Rows normalized by given sums of squares, times the norm's weights. -/
def qRows (nw : Vec Ideal S1x512 .f32) (y : Vec Ideal S8448x512 .f32) (s : Vec Ideal S8448 .f32) : Vec Ideal S8448x512 .f32 :=
  mulf (F := Ideal) (φ := .f32) (mulf y (broadcastInDim S8448x512 ![0, 1] bcast_S8448x1_S8448x512_0_1 (Host.rsqrt (addf (Host.divf (broadcastInDim S8448x1 ![0] bcast_S8448_S8448x1_0 s) (broadcastInDim S8448x1 ![] bcast_S_S8448x1 (constant S_ .f32 0x44000000#32))) (broadcastInDim S8448x1 ![] bcast_S_S8448x1 (constant S_ .f32 0x358637BD#32)))))) (broadcastInDim S8448x512 ![0, 1] bcast_S1x512_S8448x512_0_1 (broadcastInDim S1x512 ![1] bcast_S512_S1x512_1 (shapeCast _ nw shapeCasts_S1x512_S512)))

theorem qRows_apply (nw : Vec Ideal S1x512 .f32) (y : Vec Ideal S8448x512 .f32) (s : Vec Ideal S8448 .f32) (i : Fin 8448) (d : Fin 512) :
    qRows nw y s (ix2 i d) = y (ix2 i d) * Ideal.rsqrt (Ideal.div (s (ix1 i)) (Ideal.ofBits .f32 0x44000000#32) + Ideal.ofBits .f32 0x358637BD#32) * nw (ix2 0 d) := by
  pointwise [qRows]

/-- The keys' and values' columns. -/
def kvPart (p : Vec Ideal S8448x4608 .f32) : Vec Ideal S8448x256 .f32 := extractStridedSlice S8448x256 ![0, 2304] p slices_S8448x4608_S8448x256_0_2304

theorem kvPart_apply (p : Vec Ideal S8448x4608 .f32) (i : Fin 8448) (e : Fin 256) : kvPart p (ix2 i e) = p (ix2 i ⟨2304 + e.val, by omega⟩) := by
  pointwise [kvPart]

def kvSquares (y : Vec Ideal S8448x256 .f32) : Vec Ideal S8448 .f32 :=
  Host.reduceAdd (F := Ideal) (φ := .f32) (mulf (F := Ideal) (φ := .f32) y y) (constant S_ .f32 0x00000000#32) reducesTo_S8448x256_S8448_d1 h_S_

theorem kvSquares_apply (y : Vec Ideal S8448x256 .f32) (i : Fin 8448) : kvSquares y (ix1 i) = ∑ e : Fin 256, y (ix2 i e) * y (ix2 i e) := by
  refine (reduce_add _ _ _ _ i).trans ?_
  pointwise

/-- Rows normalized by given sums of squares, times the norm's weights. -/
def kvRows (nw : Vec Ideal S1x256 .f32) (y : Vec Ideal S8448x256 .f32) (s : Vec Ideal S8448 .f32) : Vec Ideal S8448x256 .f32 :=
  mulf (F := Ideal) (φ := .f32) (mulf y (broadcastInDim S8448x256 ![0, 1] bcast_S8448x1_S8448x256_0_1 (Host.rsqrt (addf (Host.divf (broadcastInDim S8448x1 ![0] bcast_S8448_S8448x1_0 s) (broadcastInDim S8448x1 ![] bcast_S_S8448x1 (constant S_ .f32 0x43800000#32))) (broadcastInDim S8448x1 ![] bcast_S_S8448x1 (constant S_ .f32 0x358637BD#32)))))) (broadcastInDim S8448x256 ![0, 1] bcast_S1x256_S8448x256_0_1 (broadcastInDim S1x256 ![1] bcast_S256_S1x256_1 (shapeCast _ nw shapeCasts_S1x256_S256)))

theorem kvRows_apply (nw : Vec Ideal S1x256 .f32) (y : Vec Ideal S8448x256 .f32) (s : Vec Ideal S8448 .f32) (i : Fin 8448) (d : Fin 256) :
    kvRows nw y s (ix2 i d) = y (ix2 i d) * Ideal.rsqrt (Ideal.div (s (ix1 i)) (Ideal.ofBits .f32 0x43800000#32) + Ideal.ofBits .f32 0x358637BD#32) * nw (ix2 0 d) := by
  pointwise [kvRows]

def qProduct (w : Vec Ideal S512x1536 .bf16) (h : Vec Ideal S8448x512 .f32) : Vec Ideal S8448x1536 .f32 :=
  mulf (F := Ideal) (φ := .f32) (Host.dotGeneral dot_S8448x512_S512x1536_S8448x1536_1_0_0_1_n_n none (show FVec Ideal S8448x512 .f32 from h) (extf (F := Ideal) .f32 w bitsLt_bf16_f32)) (broadcastInDim S8448x1536 ![] bcast_S_S8448x1536 (constant S_ .f32 0x3D93CD3A#32))

theorem qProduct_apply (w : Vec Ideal S512x1536 .bf16) (h : Vec Ideal S8448x512 .f32) (i : Fin 8448) (j : Fin 1536) :
    qProduct w h (ix2 i j) = (∑ d : Fin 512, h (ix2 i d) * w (ix2 d j)) * Ideal.ofBits .f32 0x3D93CD3A#32 := by
  pointwise [qProduct]

def kvProduct (w : Vec Ideal S256x1536 .bf16) (h : Vec Ideal S8448x256 .f32) : Vec Ideal S8448x1536 .f32 :=
  Host.dotGeneral dot_S8448x256_S256x1536_S8448x1536_1_0_0_1_n_n none (show FVec Ideal S8448x256 .f32 from h) (extf (F := Ideal) .f32 w bitsLt_bf16_f32)

theorem kvProduct_apply (w : Vec Ideal S256x1536 .bf16) (h : Vec Ideal S8448x256 .f32) (i : Fin 8448) (j : Fin 1536) :
    kvProduct w h (ix2 i j) = ∑ d : Fin 256, h (ix2 i d) * w (ix2 d j) := by
  pointwise [kvProduct]

/-- The columns head by head. -/
def heads (x : Vec Ideal S8448x1536 .f32) : Vec Ideal S8448x6x256 .f32 := shapeCast _ x shapeCasts_S8448x1536_S8448x6x256

theorem heads_apply (x : Vec Ideal S8448x1536 .f32) (i : Fin 8448) (h : Fin 6) (d : Fin 256) :
    heads x (ix3 i h d) = x (ix2 i ⟨256 * h.val + d.val, by omega⟩) := by
  refine shapeCast_apply x _ _ _ ?_
  rw [Shape.rowMajor_val_two, Shape.rowMajor_val_three]
  show i.val * 1536 + (256 * h.val + d.val) = (i.val * 6 + h.val) * 256 + d.val
  omega

/-- A table of angles for one head, and for all. -/
def one (x : Vec Ideal S8448x32 .f32) : Vec Ideal S8448x1x32 .f32 := broadcastInDim S8448x1x32 ![0, 2] bcast_S8448x32_S8448x1x32_0_2 x
def all (x : Vec Ideal S8448x1x32 .f32) : Vec Ideal S8448x6x32 .f32 := broadcastInDim S8448x6x32 ![0, 1, 2] bcast_S8448x1x32_S8448x6x32_0_1_2 x

theorem one_apply (x : Vec Ideal S8448x32 .f32) (i : Fin 8448) (e : Fin 32) : one x (ix3 i 0 e) = x (ix2 i e) := by
  pointwise [one]

theorem all_apply (x : Vec Ideal S8448x1x32 .f32) (i : Fin 8448) (h : Fin 6) (e : Fin 32) : all x (ix3 i h e) = x (ix3 i 0 e) := by
  pointwise [all]

def zeros : Vec Ideal S8448x6x32 .f32 := broadcastInDim S8448x6x32 ![] bcast_S_S8448x6x32 (constant (F := Ideal) S_ .f32 0x00000000#32)

theorem zeros_apply (i : Fin 8448) (h : Fin 6) (e : Fin 32) : zeros (ix3 i h e) = 0 := by
  pointwise [zeros]

/-- The two halves of the heads' rotated columns. -/
def qFirst (x : Vec Ideal S8448x6x256 .f32) (c s : Vec Ideal S8448x6x32 .f32) : Vec Ideal S8448x6x32 .f32 :=
  subf (F := Ideal) (φ := .f32) (mulf (extractStridedSlice S8448x6x32 ![0, 0, 128] x slices_S8448x6x256_S8448x6x32_0_0_128) c) (mulf (extractStridedSlice S8448x6x32 ![0, 0, 192] x slices_S8448x6x256_S8448x6x32_0_0_192) s)

def qSecond (x : Vec Ideal S8448x6x256 .f32) (c s : Vec Ideal S8448x6x32 .f32) : Vec Ideal S8448x6x32 .f32 :=
  addf (F := Ideal) (φ := .f32) (mulf (extractStridedSlice S8448x6x32 ![0, 0, 128] x slices_S8448x6x256_S8448x6x32_0_0_128) s) (mulf (extractStridedSlice S8448x6x32 ![0, 0, 192] x slices_S8448x6x256_S8448x6x32_0_0_192) c)

theorem qFirst_apply (x : Vec Ideal S8448x6x256 .f32) (c s : Vec Ideal S8448x6x32 .f32) (i : Fin 8448) (h : Fin 6) (e : Fin 32) :
    qFirst x c s (ix3 i h e) = x (ix3 i h ⟨128 + e.val, by omega⟩) * c (ix3 i h e) - x (ix3 i h ⟨192 + e.val, by omega⟩) * s (ix3 i h e) := by
  pointwise [qFirst]

theorem qSecond_apply (x : Vec Ideal S8448x6x256 .f32) (c s : Vec Ideal S8448x6x32 .f32) (i : Fin 8448) (h : Fin 6) (e : Fin 32) :
    qSecond x c s (ix3 i h e) = x (ix3 i h ⟨128 + e.val, by omega⟩) * s (ix3 i h e) + x (ix3 i h ⟨192 + e.val, by omega⟩) * c (ix3 i h e) := by
  pointwise [qSecond]

/-- The columns that all heads' keys share. -/
def shared (p : Vec Ideal S8448x4608 .f32) : Vec Ideal S8448x1x128 .f32 :=
  broadcastInDim S8448x1x128 ![0, 2] bcast_S8448x128_S8448x1x128_0_2 (extractStridedSlice S8448x128 ![0, 3840] p slices_S8448x4608_S8448x128_0_3840)

theorem shared_apply (p : Vec Ideal S8448x4608 .f32) (i : Fin 8448) (e : Fin 128) : shared p (ix3 i 0 e) = p (ix2 i ⟨3840 + e.val, by omega⟩) := by
  pointwise [shared]

def kFirst (x : Vec Ideal S8448x1x128 .f32) (c s : Vec Ideal S8448x1x32 .f32) : Vec Ideal S8448x1x32 .f32 :=
  subf (F := Ideal) (φ := .f32) (mulf (extractStridedSlice S8448x1x32 ![0, 0, 0] x slices_S8448x1x128_S8448x1x32_0_0_0) c) (mulf (extractStridedSlice S8448x1x32 ![0, 0, 64] x slices_S8448x1x128_S8448x1x32_0_0_64) s)

def kSecond (x : Vec Ideal S8448x1x128 .f32) (c s : Vec Ideal S8448x1x32 .f32) : Vec Ideal S8448x1x32 .f32 :=
  addf (F := Ideal) (φ := .f32) (mulf (extractStridedSlice S8448x1x32 ![0, 0, 0] x slices_S8448x1x128_S8448x1x32_0_0_0) s) (mulf (extractStridedSlice S8448x1x32 ![0, 0, 64] x slices_S8448x1x128_S8448x1x32_0_0_64) c)

theorem kFirst_apply (x : Vec Ideal S8448x1x128 .f32) (c s : Vec Ideal S8448x1x32 .f32) (i : Fin 8448) (e : Fin 32) :
    kFirst x c s (ix3 i 0 e) = x (ix3 i 0 ⟨e.val, by omega⟩) * c (ix3 i 0 e) - x (ix3 i 0 ⟨64 + e.val, by omega⟩) * s (ix3 i 0 e) := by
  pointwise [kFirst]

theorem kSecond_apply (x : Vec Ideal S8448x1x128 .f32) (c s : Vec Ideal S8448x1x32 .f32) (i : Fin 8448) (e : Fin 32) :
    kSecond x c s (ix3 i 0 e) = x (ix3 i 0 ⟨e.val, by omega⟩) * s (ix3 i 0 e) + x (ix3 i 0 ⟨64 + e.val, by omega⟩) * c (ix3 i 0 e) := by
  pointwise [kSecond]

/-- A head's first 128 columns, the rotated halves, and zeros after each; heads first. -/
def laid (x : Vec Ideal S8448x6x256 .f32) (a b z : Vec Ideal S8448x6x32 .f32) : Vec Ideal S6x8448x256 .bf16 :=
  truncf (F := Ideal) .bf16 (transpose S6x8448x256 [1, 0, 2] ((concatenate S8448x6x256 2 [⟨S8448x6x128, extractStridedSlice S8448x6x128 ![0, 0, 0] x slices_S8448x6x256_S8448x6x128_0_0_0⟩, ⟨S8448x6x32, a⟩, ⟨S8448x6x32, z⟩, ⟨S8448x6x32, b⟩, ⟨S8448x6x32, z⟩] concatenates_S8448x6x128_S8448x6x32_S8448x6x32_S8448x6x32_S8448x6x32_S8448x6x256_d2 : FVec Ideal S8448x6x256 .f32)) transposes_S8448x6x256_S6x8448x256_1_0_2) bitsLt_bf16_f32

theorem laid_apply (x : Vec Ideal S8448x6x256 .f32) (a b z : Vec Ideal S8448x6x32 .f32) (h : Fin 6) (i : Fin 8448) (d : Fin 256) : laid x a b z (ix3 h i d)
    = if h0 : d.val < 128 then x (ix3 i h ⟨d.val, by omega⟩) else if h1 : d.val - 128 < 32 then a (ix3 i h ⟨d.val - 128, h1⟩)
      else if h2 : d.val - 128 - 32 < 32 then z (ix3 i h ⟨d.val - 128 - 32, h2⟩) else if h3 : d.val - 128 - 32 - 32 < 32 then b (ix3 i h ⟨d.val - 128 - 32 - 32, h3⟩)
      else z (ix3 i h ⟨d.val - 128 - 32 - 32 - 32, by omega⟩) := by
  pointwise [laid]

/-- A head's last 128 columns, and ones after them; heads first. -/
def valued (x : Vec Ideal S8448x6x256 .f32) : Vec Ideal S6x8448x256 .bf16 :=
  truncf (F := Ideal) .bf16 (transpose S6x8448x256 [1, 0, 2] (concatenate S8448x6x256 2 [⟨S8448x6x128, (extractStridedSlice S8448x6x128 ![0, 0, 128] x slices_S8448x6x256_S8448x6x128_0_0_128)⟩, ⟨S8448x6x128, (broadcastInDim S8448x6x128 ![] bcast_S_S8448x6x128 (constant (F := Ideal) S_ .f32 0x3F800000#32))⟩] concatenates_S8448x6x128_S8448x6x128_S8448x6x256_d2 : FVec Ideal S8448x6x256 .f32) transposes_S8448x6x256_S6x8448x256_1_0_2) bitsLt_bf16_f32

theorem valued_apply (x : Vec Ideal S8448x6x256 .f32) (h : Fin 6) (i : Fin 8448) (d : Fin 256) : valued x (ix3 h i d)
    = if h0 : d.val < 128 then x (ix3 i h ⟨128 + d.val, by omega⟩) else 1 := by
  pointwise [valued]

section
variable (p : Vec Ideal S8448x4608 .f32) (cos sin : Vec Ideal S8448x32 .f32) (qnw : Vec Ideal S1x512 .f32) (kvnw : Vec Ideal S1x256 .f32)
  (wq : Vec Ideal S512x1536 .bf16) (wkv : Vec Ideal S256x1536 .bf16)

def qAll : Vec Ideal S8448x6x256 .f32 := heads (qProduct wq (qRows qnw (qPart p) (qSquares (qPart p))))
def kvAll : Vec Ideal S8448x6x256 .f32 := heads (kvProduct wkv (kvRows kvnw (kvPart p) (kvSquares (kvPart p))))

theorem qAll_apply (i : Fin 8448) (h : Fin 6) (d : Fin 256) : qAll p qnw wq (ix3 i h d) = query p qnw wq i ⟨256 * h.val + d.val, by omega⟩ := by
  unfold qAll query normed
  rw [heads_apply, qProduct_apply]
  simp only [qRows_apply, qSquares_apply, qPart_apply]

theorem kvAll_apply (i : Fin 8448) (h : Fin 6) (d : Fin 256) : kvAll p kvnw wkv (ix3 i h d) = keyValue p kvnw wkv i ⟨256 * h.val + d.val, by omega⟩ := by
  unfold kvAll keyValue normed
  rw [heads_apply, kvProduct_apply]
  simp only [kvRows_apply, kvSquares_apply, kvPart_apply]

/-- The three results. -/
def value0 : Vec Ideal S6x8448x256 .bf16 :=
  laid (qAll p qnw wq) (qFirst (qAll p qnw wq) (all (one cos)) (all (one sin))) (qSecond (qAll p qnw wq) (all (one cos)) (all (one sin))) zeros

def value1 : Vec Ideal S6x8448x256 .bf16 :=
  laid (kvAll p kvnw wkv) (all (kFirst (shared p) (one cos) (one sin))) (all (kSecond (shared p) (one cos) (one sin))) zeros

def value2 : Vec Ideal S6x8448x256 .bf16 := valued (kvAll p kvnw wkv)

/-- Columns laid out by cases are rotated columns. -/
theorem laid_rotated (f : Fin 128 → EReal) (cs sn : Fin 32 → EReal) (d : Fin 256) (hd : ¬d.val < 128) (A Z B : Fin 32 → EReal)
    (hA : ∀ e : Fin 32, A e = f ⟨e.val, by omega⟩ * cs e - f ⟨64 + e.val, by omega⟩ * sn e) (hZ : ∀ e, Z e = 0)
    (hB : ∀ e : Fin 32, B e = f ⟨e.val, by omega⟩ * sn e + f ⟨64 + e.val, by omega⟩ * cs e) :
    (if h1 : d.val - 128 < 32 then A ⟨d.val - 128, h1⟩ else if h2 : d.val - 128 - 32 < 32 then Z ⟨d.val - 128 - 32, h2⟩
      else if h3 : d.val - 128 - 32 - 32 < 32 then B ⟨d.val - 128 - 32 - 32, h3⟩ else Z ⟨d.val - 128 - 32 - 32 - 32, by omega⟩)
      = rotated f cs sn ⟨d.val - 128, by omega⟩ := by
  unfold rotated
  split
  · rename_i h1
    rw [hA]
    exact congrArg (fun k => f ⟨d.val - 128, by omega⟩ * cs ⟨d.val - 128, h1⟩ - f k * sn ⟨d.val - 128, h1⟩) (Fin.ext (show 64 + (d.val - 128) = d.val - 128 + 64 by omega))
  · rename_i h1
    split
    · rename_i h2
      rw [hZ, dif_pos (show d.val - 128 < 64 by omega)]
    · rename_i h2
      rw [dif_neg (show ¬d.val - 128 < 64 by omega)]
      split
      · rename_i h3
        rw [hB, dif_pos (show d.val - 128 < 96 by omega)]
        have e0 : (⟨d.val - 128 - 32 - 32, h3⟩ : Fin 32) = ⟨d.val - 128 - 64, by omega⟩ := Fin.ext (by show d.val - 128 - 32 - 32 = d.val - 128 - 64; omega)
        rw [e0]
        exact congrArg (fun k => f ⟨d.val - 128 - 64, by omega⟩ * sn ⟨d.val - 128 - 64, by omega⟩ + f k * cs ⟨d.val - 128 - 64, by omega⟩)
          (Fin.ext (show 64 + (d.val - 128 - 64) = d.val - 128 by omega))
      · rename_i h3
        rw [hZ, dif_neg (show ¬d.val - 128 < 96 by omega)]

theorem value0_apply (h : Fin 6) (i : Fin 8448) (d : Fin 256) : value0 p cos sin qnw wq (ix3 h i d) = queries p cos sin qnw wq h i d := by
  unfold value0 queries
  rw [laid_apply]
  split
  · exact qAll_apply p qnw wq i h _
  · rename_i hd
    refine laid_rotated _ _ _ d hd (fun e => qFirst _ _ _ (ix3 i h e)) (fun e => zeros (ix3 i h e)) (fun e => qSecond _ _ _ (ix3 i h e)) ?_ (fun e => zeros_apply i h e) ?_
    · intro e
      simp only [qFirst_apply, qAll_apply, all_apply, one_apply]
      refine congrArg₂ (fun k l => query p qnw wq i k * cos (ix2 i e) - query p qnw wq i l * sin (ix2 i e)) (Fin.ext ?_) (Fin.ext ?_)
      · show 256 * h.val + (128 + e.val) = 256 * h.val + 128 + e.val
        omega
      · show 256 * h.val + (192 + e.val) = 256 * h.val + 128 + (64 + e.val)
        omega
    · intro e
      simp only [qSecond_apply, qAll_apply, all_apply, one_apply]
      refine congrArg₂ (fun k l => query p qnw wq i k * sin (ix2 i e) + query p qnw wq i l * cos (ix2 i e)) (Fin.ext ?_) (Fin.ext ?_)
      · show 256 * h.val + (128 + e.val) = 256 * h.val + 128 + e.val
        omega
      · show 256 * h.val + (192 + e.val) = 256 * h.val + 128 + (64 + e.val)
        omega

theorem value1_apply (h : Fin 6) (i : Fin 8448) (d : Fin 256) : value1 p cos sin kvnw wkv (ix3 h i d) = keys p cos sin kvnw wkv h i d := by
  unfold value1 keys
  rw [laid_apply]
  split
  · exact kvAll_apply p kvnw wkv i h _
  · rename_i hd
    refine laid_rotated _ _ _ d hd (fun e => all (kFirst _ _ _) (ix3 i h e)) (fun e => zeros (ix3 i h e)) (fun e => all (kSecond _ _ _) (ix3 i h e)) ?_ (fun e => zeros_apply i h e) ?_
    · intro e
      simp only [all_apply, kFirst_apply, shared_apply, one_apply]
    · intro e
      simp only [all_apply, kSecond_apply, shared_apply, one_apply]

theorem value2_apply (h : Fin 6) (i : Fin 8448) (d : Fin 256) : value2 p kvnw wkv (ix3 h i d) = values p kvnw wkv h i d := by
  unfold value2 values
  rw [valued_apply]
  split
  · refine (kvAll_apply p kvnw wkv i h _).trans (congrArg (keyValue p kvnw wkv i) (Fin.ext ?_))
    show 256 * h.val + (128 + d.val) = 256 * h.val + 128 + d.val
    omega
  · rfl

end

end Cert.Reference5Ideal.Hand

end
-- ==== Proof.lean ====
module

public import proofs.«01_k».proof.Defs
public import proofs.«01_k».proof.Proof.KernelFrame
public import proofs.«01_k».proof.Proof.Blocks
public import proofs.«01_k».proof.Proof.Reference
public import proofs.«01_k».proof.Proof.Finite
public import proofs.«01_k».proof.Proof.Gen.Pre_finite
public import proofs.«01_k».proof.Proof.Gen.ReferenceIdeal
public import proofs.«01_k».proof.Proof.Gen.ReferenceIdeal.Run
public import proofs.«01_k».proof.Proof.Blocks2
public import proofs.«01_k».proof.Proof.Reference2
public import proofs.«01_k».proof.Proof.Gen.Kernel2Ideal.Value
public import proofs.«01_k».proof.Proof.Gen.Kernel2.Frame
public import proofs.«01_k».proof.Proof.Gen.Reference2Ideal
public import proofs.«01_k».proof.Proof.Gen.Reference2Ideal.Run
public import proofs.«01_k».proof.Proof.Blocks3
public import proofs.«01_k».proof.Proof.Run3
public import proofs.«01_k».proof.Proof.Finite3
public import proofs.«01_k».proof.Proof.Gen.Pre_all_finite
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Blocks4
public import proofs.«01_k».proof.Proof.Reference4
public import proofs.«01_k».proof.Proof.Gen.Kernel4.Frame
public import proofs.«01_k».proof.Proof.Gen.Kernel4Ideal.Value
public import proofs.«01_k».proof.Proof.Gen.Reference4Ideal
public import proofs.«01_k».proof.Proof.Gen.Reference4Ideal.Run
public import proofs.«01_k».proof.Proof.Blocks5
public import proofs.«01_k».proof.Proof.Reference5
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import Idealize.ShloMosaic.Lib.Quiescent

/-! The claims, put together. -/

@[expose] public section

set_option maxRecDepth 16384

noncomputable section

namespace Cert.Proof

open Idealize.ShloMosaic Idealize.SL.Sem Cert.Softmax

/-- The kernel's array is the reference's. -/
theorem result_eq {q k : Heads 256} (v : Heads 128) (hq : ∀ i, Real' (q i)) (hk : ∀ i, Real' (k i)) :
    (Cert.ReferenceIdeal.Hand.value q k v : (⟨2, ![8192, 768]⟩ : Shape).Idx → EReal) = Cert.KernelIdeal.Hand.result q k v := by
  funext i
  have h0 : (i 0).val < 8192 := (i 0).isLt
  have h1 : (i 1).val < 768 := (i 1).isLt
  have e : i = ix2 ⟨(i 0).val, h0⟩ ⟨128 * ((i 1).val / 128) + (i 1).val % 128, by omega⟩ := by
    funext a
    match a with
    | ⟨0, _⟩ => rfl
    | ⟨1, _⟩ => exact Fin.ext (by show (i 1).val = 128 * ((i 1).val / 128) + (i 1).val % 128; omega)
  exact (congrArg _ e).trans ((Cert.ReferenceIdeal.Hand.value_apply v hq hk ⟨(i 1).val / 128, by omega⟩ ⟨(i 0).val, h0⟩ ⟨(i 1).val % 128, by omega⟩).trans
    (Cert.KernelIdeal.Hand.result_at q k v i ⟨(i 1).val / 128, by omega⟩ ⟨(i 0).val, by omega⟩ ⟨(i 1).val % 128, by omega⟩ rfl
      (by show (i 1).val = 128 * ((i 1).val / 128) + (i 1).val % 128; omega)).symm)

theorem quiescent_kernelIdeal (m) (g) : θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run _ _ _).mono (fun _ h => ⟨fun c => (h.1 c).2, h.2⟩) (Cert.KernelIdeal.Hand.run m g)

theorem quiescent_referenceIdeal : Cert.quiescent_ReferenceIdeal := fun m g _ =>
  (θ_run _ _ _).mono (fun r h => ⟨fun c => (h c).2, sem_eq_zero_of_no_sems (by decide) r.2⟩) (Cert.ReferenceIdeal.Value.run m g)

theorem algebraic : Cert.algebraic_KernelIdeal_ReferenceIdeal_pre_finite := fun m g m' g' hpre hag => by
  refine ⟨fun c => (Cert.KernelIdeal.Hand.dats m 0 c).arrAt 3 (Cert.KernelIdeal.cfgs 0).N,
    (θ_run _ _ _).mono (fun _ h => h.1) (Cert.KernelIdeal.Hand.run m g),
    (θ_run _ _ _).mono (fun r h c => ⟨?_, (h c).2⟩) (Cert.ReferenceIdeal.Value.run m' g')⟩
  have hf := Cert.Pre_finite.Hand.finite _ _ _ (hpre c)
  refine (h c).1.trans ?_
  rw [(hag c).1, (hag c).2.1, (hag c).2.2]
  exact (result_eq _ hf.1 hf.2).trans (Cert.KernelIdeal.Hand.final m c hf.1 hf.2).symm

/-- The projection kernel's array is its reference's. -/
theorem result2_eq (x : Cert.Projection.Mat 8448 2048) (mod : Cert.Projection.Mat 8 12288) (nw : Cert.Projection.Mat 1 2048)
    (w : Cert.Projection.Mat 2048 4608) : Cert.Reference2Ideal.Hand.value x mod nw w = Cert.Projection.result x mod nw w := by
  funext i
  have h0 : (i 0).val < 8448 := (i 0).isLt
  have h1 : (i 1).val < 4608 := (i 1).isLt
  have e : i = ix2 ⟨(i 0).val, h0⟩ ⟨(i 1).val, h1⟩ := by
    funext a
    match a with
    | ⟨0, _⟩ => rfl
    | ⟨1, _⟩ => rfl
  exact (congrArg _ e).trans (Cert.Reference2Ideal.Hand.value_apply x mod nw w ⟨(i 0).val, h0⟩ ⟨(i 1).val, h1⟩)

theorem quiescent_reference2Ideal : Cert.quiescent_Reference2Ideal := fun m g _ =>
  (θ_run _ _ _).mono (fun r h => ⟨fun c => (h c).2, sem_eq_zero_of_no_sems (by decide) r.2⟩) (Cert.Reference2Ideal.Value.run m g)

theorem algebraic2 : Cert.algebraic_Kernel2Ideal_Reference2Ideal := fun m g m' g' _ hag => by
  refine ⟨fun c => (Cert.Kernel2Ideal.Gen.dats m 0 c).arrAt 4 Cert.Kernel2Ideal.cfg0.N,
    Cert.Kernel2Ideal.Value.run_blocks m g,
    (θ_run _ _ _).mono (fun r h c => ⟨?_, (h c).2⟩) (Cert.Reference2Ideal.Value.run m' g')⟩
  refine (h c).1.trans ?_
  rw [(hag c).1, (hag c).2.1, (hag c).2.2.1, (hag c).2.2.2]
  exact (result2_eq _ _ _ _).trans (Cert.Kernel2Ideal.Hand.final m c).symm

/-- An array of rows and columns is what its entries are. -/
theorem array_eq {a b : ℕ} {x : Cert.Projection.Mat a b} {f : Fin a → Fin b → EReal} (h : ∀ i j, x (ix2 i j) = f i j) :
    x = fun i => f (i 0) (i 1) := by
  funext i
  have e : i = ix2 (n0 := a) (n1 := b) (i 0) (i 1) := by
    funext k
    match k with
    | ⟨0, _⟩ => rfl
    | ⟨1, _⟩ => rfl
  exact (congrArg x e).trans (h _ _)

theorem quiescent_reference3Ideal : Cert.quiescent_Reference3Ideal := fun m g _ =>
  (θ_run _ _ _).mono (fun r h => ⟨fun c => (h c).2.2.2, sem_eq_zero_of_no_sems (by decide) r.2⟩) (Cert.Reference3Ideal.Value.run m g)

theorem algebraic3 : Cert.algebraic_Kernel3Ideal_Reference3Ideal_pre_all_finite := fun m g m' g' hpre hag => by
  refine ⟨fun c => (Cert.Kernel3Ideal.Gen.dats m 0 c).arrAt 8 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N,
    Cert.Kernel3Ideal.Value.run_blocks m g,
    (θ_run _ _ _).mono (fun r h c => ⟨?_, ?_, ?_, (h c).2.2.2⟩) (Cert.Reference3Ideal.Value.run m' g')⟩
  · refine (h c).1.trans ?_
    rw [(hag c).1, (hag c).2.1, (hag c).2.2.1, (hag c).2.2.2.1, (hag c).2.2.2.2.1, (hag c).2.2.2.2.2.2.1]
    exact (array_eq (Cert.Reference3Ideal.Hand.value0_apply _ _ _ _ _ _)).trans (Cert.Kernel3Ideal.Hand.final8 m c).symm
  · refine (h c).2.1.trans ((Cert.Reference3Ideal.Hand.normed_run m' c).trans ?_)
    rw [(hag c).1, (hag c).2.1, (hag c).2.2.1, (hag c).2.2.2.1, (hag c).2.2.2.2.1, (hag c).2.2.2.2.2.1, (hag c).2.2.2.2.2.2.1]
    exact (array_eq (Cert.Reference3Ideal.Hand.value1_apply _ _ _ _ _ _ _)).trans (Cert.Kernel3Ideal.Hand.final9 m c).symm
  · have hf := Cert.Pre_all_finite.Hand.finite _ _ _ _ _ _ _ _ (hpre c)
    refine (h c).2.2.1.trans ((Cert.Reference3Ideal.Hand.affinity_run m' c).trans ?_)
    rw [(hag c).1, (hag c).2.1, (hag c).2.2.1, (hag c).2.2.2.1, (hag c).2.2.2.2.1, (hag c).2.2.2.2.2.1, (hag c).2.2.2.2.2.2.1, (hag c).2.2.2.2.2.2.2]
    exact (array_eq (Cert.Reference3Ideal.Hand.value2_apply _ _ _ _ _ _ _ _)).trans (Cert.Kernel3Ideal.Hand.final10 m c
      ⟨hf.1, hf.2.1, hf.2.2.1, hf.2.2.2.1, hf.2.2.2.2.1, hf.2.2.2.2.2.1, hf.2.2.2.2.2.2.1, hf.2.2.2.2.2.2.2⟩).symm

theorem quiescent_reference4Ideal : Cert.quiescent_Reference4Ideal := fun m g _ =>
  (θ_run _ _ _).mono (fun r h => ⟨fun c => (h c).2, sem_eq_zero_of_no_sems (by decide) r.2⟩) (Cert.Reference4Ideal.Value.run m g)

theorem algebraic4 : Cert.algebraic_Kernel4Ideal_Reference4Ideal := fun m g m' g' _ hag => by
  refine ⟨fun c => (Cert.Kernel4Ideal.Gen.dats m 0 c).arrAt 2 Cert.Kernel4Ideal.cfg0.N,
    Cert.Kernel4Ideal.Value.run_blocks m g,
    (θ_run _ _ _).mono (fun r h c => ⟨?_, (h c).2⟩) (Cert.Reference4Ideal.Value.run m' g')⟩
  refine (h c).1.trans ?_
  rw [(hag c).1, (hag c).2]
  exact (array_eq (Cert.Reference4Ideal.Hand.value_apply _ _)).trans (Cert.Kernel4Ideal.Hand.final m c).symm

theorem quiescent_reference5Ideal : Cert.quiescent_Reference5Ideal := fun m g _ =>
  (θ_run _ _ _).mono (fun r h => ⟨fun c => (h c).2.2.2, sem_eq_zero_of_no_sems (by decide) r.2⟩) (Cert.Reference5Ideal.Value.run m g)

/-- An array known at every triple of indices. -/
theorem array_eq3 {a b d : ℕ} {x : (⟨3, ![a, b, d]⟩ : Shape).Idx → EReal} {f : Fin a → Fin b → Fin d → EReal} (h : ∀ i j k, x (ix3 i j k) = f i j k) :
    x = fun i => f (i 0) (i 1) (i 2) := by
  funext i
  have e : i = ix3 (n0 := a) (n1 := b) (n2 := d) (i 0) (i 1) (i 2) := by
    funext k
    match k with
    | ⟨0, _⟩ => rfl
    | ⟨1, _⟩ => rfl
    | ⟨2, _⟩ => rfl
  exact (congrArg x e).trans (h _ _ _)

theorem queries_run (m : (ℓ : Loc Cert.Reference5Ideal.nD Cert.Reference5Ideal.τ Cert.Reference5Ideal.sig) → Buf (Elt Ideal) ℓ) (c : Dev Cert.Reference5Ideal.nD) :
    Cert.Reference5Ideal.Value.res_out0 m c = Cert.Reference5Ideal.Hand.value0
      (m ((c.tc : Thread Cert.Reference5Ideal.nD Cert.Reference5Ideal.τ).loc Cert.Reference5Ideal.main_arg0))
      (m ((c.tc : Thread Cert.Reference5Ideal.nD Cert.Reference5Ideal.τ).loc Cert.Reference5Ideal.main_arg1))
      (m ((c.tc : Thread Cert.Reference5Ideal.nD Cert.Reference5Ideal.τ).loc Cert.Reference5Ideal.main_arg2))
      (m ((c.tc : Thread Cert.Reference5Ideal.nD Cert.Reference5Ideal.τ).loc Cert.Reference5Ideal.main_arg3))
      (m ((c.tc : Thread Cert.Reference5Ideal.nD Cert.Reference5Ideal.τ).loc Cert.Reference5Ideal.main_arg5)) := rfl

theorem algebraic5 : Cert.algebraic_Kernel5Ideal_Reference5Ideal := fun m g m' g' _ hag => by
  refine ⟨fun c => (Cert.Kernel5Ideal.Gen.dats m 0 c).arrAt 9 Cert.Kernel5Ideal.cfg0.N,
    fun c => (Cert.Kernel5Ideal.Gen.dats m 0 c).arrAt 10 Cert.Kernel5Ideal.cfg0.N,
    fun c => (Cert.Kernel5Ideal.Gen.dats m 0 c).arrAt 11 Cert.Kernel5Ideal.cfg0.N,
    Cert.Kernel5Ideal.Value.run_blocks m g,
    (θ_run _ _ _).mono (fun r h c => ⟨?_, ?_, ?_, (h c).2.2.2⟩) (Cert.Reference5Ideal.Value.run m' g')⟩
  · refine (h c).1.trans ((queries_run m' c).trans ?_)
    rw [(hag c).1, (hag c).2.1, (hag c).2.2.1, (hag c).2.2.2.1, (hag c).2.2.2.2.2.1]
    exact (array_eq3 (Cert.Reference5Ideal.Hand.value0_apply _ _ _ _ _)).trans (Cert.Kernel5Ideal.Hand.final9 m c).symm
  · refine (h c).2.1.trans ?_
    rw [(hag c).1, (hag c).2.1, (hag c).2.2.1, (hag c).2.2.2.2.1, (hag c).2.2.2.2.2.2]
    exact (array_eq3 (Cert.Reference5Ideal.Hand.value1_apply _ _ _ _ _)).trans (Cert.Kernel5Ideal.Hand.final10 m c).symm
  · refine (h c).2.2.1.trans ?_
    rw [(hag c).1, (hag c).2.2.2.2.1, (hag c).2.2.2.2.2.2]
    exact (array_eq3 (Cert.Reference5Ideal.Hand.value2_apply _ _ _)).trans (Cert.Kernel5Ideal.Hand.final11 m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.Gen.facts, Cert.Pre_all_finite.Gen.facts,
    fun m g _ => Cert.Kernel.Hand.run m g, fun m g _ => quiescent_kernelIdeal m g, fun m g _ => quiescent_kernelIdeal m g,
    quiescent_referenceIdeal, fun m g _ => quiescent_referenceIdeal m g trivial,
    fun m g _ => Cert.Kernel2.Gen.frame m g, fun m g _ => Cert.Kernel2Ideal.Gen.frame m g, quiescent_reference2Ideal,
    fun m g _ => Cert.Kernel3.Gen.frame m g, fun m g _ => Cert.Kernel3Ideal.Gen.frame m g, fun m g _ => Cert.Kernel3Ideal.Gen.frame m g,
    quiescent_reference3Ideal, fun m g _ => quiescent_reference3Ideal m g trivial,
    fun m g _ => Cert.Kernel4.Gen.frame m g, fun m g _ => Cert.Kernel4Ideal.Gen.frame m g, quiescent_reference4Ideal,
    fun m g _ => Cert.Kernel5.Gen.frame m g, fun m g _ => Cert.Kernel5Ideal.Gen.frame m g, quiescent_reference5Ideal,
    trivial, algebraic, trivial, algebraic2,
    IdealRules.named_const.statement Cert.Kernel3Ideal.κ "mask" .f32 0xF149F2CA#32 ⊥ rfl, algebraic3,
    trivial, algebraic4, trivial, algebraic5⟩

end Cert.Proof

end
